-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v44) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S4096x256 : Shape := ⟨2, ![4096, 256]⟩
abbrev S4096x512 : Shape := ⟨2, ![4096, 512]⟩
abbrev S12 : Shape := ⟨1, ![12]⟩
abbrev S4096x768 : Shape := ⟨2, ![4096, 768]⟩
abbrev S_ : Shape := ⟨0, ![]⟩

class Facts : Prop where
  slices_S4096x1024_S4096x768_0_0 : S4096x1024.Slices ![0, 0] S4096x768
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  slices_S4096x512_S4096x256_0_256 : S4096x512.Slices ![0, 256] S4096x256
  bcast_S_S12 : S_.BroadcastsInDim S12 (![] : Fin 0 → Fin S12.rank)
  reducesTo_S12_S_d0 : S12.ReducesTo [0] S_

variable [Facts]

def fn_part1 {F : FTy → Type} [FloatOps F] (main_arg3 : FVec F S12 .f32) (main_arg4 : FVec F S4096x1024 .f32) (main_v17 : IVec S_ 1) : IVec S_ 1 :=
  let main_v18 : FVec F S12 .f32 := Host.absf main_arg3
  let main_cst_4 : FVec F S_ .f32 := constant S_ .f32 0x7F800000#32
  let main_v19 : FVec F S12 .f32 := broadcastInDim S12 ![] bcast_S_S12 main_cst_4
  let main_v20 : IVec S12 1 := cmpf .olt main_v18 main_v19
  let main_c_5 : IVec S_ 1 := constantI S_ 1 1#1
  let main_v21 : IVec S_ 1 := (fun x v => Host.reduce IntOp.andi x v reducesTo_S12_S_d0 h_S_) main_v20 main_c_5
  let main_v22 : IVec S_ 1 := andi main_v17 main_v21
  let main_v23 : FVec F S4096x768 .f32 := (extractStridedSlice S4096x768 ![0, 0] · slices_S4096x1024_S4096x768_0_0) main_arg4
  let main_v24 : FVec F S4096x768 .f32 := Host.absf main_v23
  let main_cst_6 : FVec F S_ .f32 := constant S_ .f32 0x7F800000#32
  let main_v25 : FVec F S4096x768 .f32 := broadcastInDim S4096x768 ![] bcast_S_S4096x768 main_cst_6
  let main_v26 : IVec S4096x768 1 := cmpf .olt main_v24 main_v25
  let main_c_7 : IVec S_ 1 := constantI S_ 1 1#1
  let main_v27 : IVec S_ 1 := (fun x v => Host.reduce IntOp.andi x v reducesTo_S4096x768_S_d0_1 h_S_) main_v26 main_c_7
  let main_v28 : IVec S_ 1 := andi main_v22 main_v27
  main_v28

def fn {F : FTy → Type} [FloatOps F] (main_arg0 : FVec F S4096x1024 .bf16) (main_arg1 : FVec F S4096x256 .bf16) (main_arg2 : FVec F S4096x512 .f32) (main_arg3 : FVec F S12 .f32) (main_arg4 : FVec F S4096x1024 .f32) (main_arg5 : FVec F S4096x1024 .f32) : IVec S_ 1 :=
  let main_v0 : FVec F S4096x768 .bf16 := (extractStridedSlice S4096x768 ![0, 0] · slices_S4096x1024_S4096x768_0_0) main_arg0
  let main_v1 : FVec F S4096x768 .f32 := (extf .f32 · bitsLt_bf16_f32) main_v0
  let main_v2 : FVec F S4096x768 .f32 := Host.absf main_v1
  let main_cst : FVec F S_ .f32 := constant S_ .f32 0x7F800000#32
  let main_v3 : FVec F S4096x768 .f32 := broadcastInDim S4096x768 ![] bcast_S_S4096x768 main_cst
  let main_v4 : IVec S4096x768 1 := cmpf .olt main_v2 main_v3
  let main_c : IVec S_ 1 := constantI S_ 1 1#1
  let main_v5 : IVec S_ 1 := (fun x v => Host.reduce IntOp.andi x v reducesTo_S4096x768_S_d0_1 h_S_) main_v4 main_c
  let main_v6 : FVec F S4096x256 .f32 := (extf .f32 · bitsLt_bf16_f32) main_arg1
  let main_v7 : FVec F S4096x256 .f32 := Host.absf main_v6
  let main_cst_0 : FVec F S_ .f32 := constant S_ .f32 0x7F800000#32
  let main_v8 : FVec F S4096x256 .f32 := broadcastInDim S4096x256 ![] bcast_S_S4096x256 main_cst_0
  let main_v9 : IVec S4096x256 1 := cmpf .olt main_v7 main_v8
  let main_c_1 : IVec S_ 1 := constantI S_ 1 1#1
  let main_v10 : IVec S_ 1 := (fun x v => Host.reduce IntOp.andi x v reducesTo_S4096x256_S_d0_1 h_S_) main_v9 main_c_1
  let main_v11 : IVec S_ 1 := andi main_v5 main_v10
  let main_v12 : FVec F S4096x256 .f32 := (extractStridedSlice S4096x256 ![0, 256] · slices_S4096x512_S4096x256_0_256) main_arg2
  let main_v13 : FVec F S4096x256 .f32 := Host.absf main_v12
  let main_cst_2 : FVec F S_ .f32 := constant S_ .f32 0x7F800000#32
  let main_v14 : FVec F S4096x256 .f32 := broadcastInDim S4096x256 ![] bcast_S_S4096x256 main_cst_2
  let main_v15 : IVec S4096x256 1 := cmpf .olt main_v13 main_v14
  let main_c_3 : IVec S_ 1 := constantI S_ 1 1#1
  let main_v16 : IVec S_ 1 := (fun x v => Host.reduce IntOp.andi x v reducesTo_S4096x256_S_d0_1 h_S_) main_v15 main_c_3
  let main_v17 : IVec S_ 1 := andi main_v11 main_v16
  fn_part1 (F := F) main_arg3 main_arg4 main_v17
-- ==== Kernel.lean ====
abbrev S4096x1024 : Shape := ⟨2, ![4096, 1024]⟩
abbrev S4096x256 : Shape := ⟨2, ![4096, 256]⟩
abbrev S4096x512 : Shape := ⟨2, ![4096, 512]⟩
abbrev S12 : Shape := ⟨1, ![12]⟩
abbrev S1x128 : Shape := ⟨2, ![1, 128]⟩
abbrev S128x768 : Shape := ⟨2, ![128, 768]⟩
abbrev S128x256 : Shape := ⟨2, ![128, 256]⟩
abbrev S384x256 : Shape := ⟨2, ![384, 256]⟩
abbrev S256x256 : Shape := ⟨2, ![256, 256]⟩
abbrev S384x1 : Shape := ⟨2, ![384, 1]⟩
abbrev S1 : Shape := ⟨1, ![1]⟩
abbrev S128x64 : Shape := ⟨2, ![128, 64]⟩
abbrev S384x64 : Shape := ⟨2, ![384, 64]⟩
abbrev S256x64 : Shape := ⟨2, ![256, 64]⟩
abbrev S384 : Shape := ⟨1, ![384]⟩
abbrev S64x256 : Shape := ⟨2, ![64, 256]⟩
abbrev S128x1 : Shape := ⟨2, ![128, 1]⟩
abbrev S1x128x1 : Shape := ⟨3, ![1, 128, 1]⟩
abbrev S1x1x1 : Shape := ⟨3, ![1, 1, 1]⟩

abbrev nBuf : Space → Nat
  | .hbm => 10
  | .vmem => 21
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x512, .f32⟩
  | .hbm, ⟨3, _⟩ => ⟨S12, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x256, .f32⟩
  | .hbm, ⟨8, _⟩ => ⟨S4096x256, .f32⟩
  | .hbm, ⟨9, _⟩ => ⟨S1x128, .f32⟩
  | .local _ .vmem, ⟨0, _⟩ => ⟨S128x768, .bf16⟩
  | .local _ .vmem, ⟨1, _⟩ => ⟨S128x768, .bf16⟩
  | .local _ .vmem, ⟨2, _⟩ => ⟨S128x768, .f32⟩
  | .local _ .vmem, ⟨3, _⟩ => ⟨S128x768, .f32⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x768, .f32⟩
  | .local _ .vmem, ⟨13, _⟩ => ⟨S128x768, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S1x128, .f32⟩
  | .local _ .vmem, ⟨19, _⟩ => ⟨S128x256, .f32⟩
  | .local _ .vmem, ⟨20, _⟩ => ⟨S128x256, .f32⟩
  | .local _ .smem, ⟨0, _⟩ => ⟨S12, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S4096x512 : Shape := ⟨2, ![4096, 512]⟩
abbrev S12 : Shape := ⟨1, ![12]⟩
abbrev S4096x768 : Shape := ⟨2, ![4096, 768]⟩
abbrev S1x4096x12x64 : Shape := ⟨4, ![1, 4096, 12, 64]⟩
abbrev S1x4096x4x64 : Shape := ⟨4, ![1, 4096, 4, 64]⟩
abbrev S1x32x128x4x3x64 : Shape := ⟨6, ![1, 32, 128, 4, 3, 64]⟩
abbrev S1x32x128x4x64 : Shape := ⟨5, ![1, 32, 128, 4, 64]⟩
abbrev S_ : Shape := ⟨0, ![]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x3 : Shape := ⟨6, ![1, 32, 4, 256, 128, 3]⟩
abbrev S1x32x4x3x128x256 : Shape := ⟨6, ![1, 32, 4, 3, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S4x3 : Shape := ⟨2, ![4, 3]⟩
abbrev S1x1x4x3x1x1 : Shape := ⟨6, ![1, 1, 4, 3, 1, 1]⟩
abbrev S1x32x1x1x128x256 : Shape := ⟨6, ![1, 32, 1, 1, 128, 256]⟩
abbrev S1x32x4x3x128 : Shape := ⟨5, ![1, 32, 4, 3, 128]⟩
abbrev S1x32x4x3x128x1 : Shape := ⟨6, ![1, 32, 4, 3, 128, 1]⟩
abbrev S1x32x4x64x3x128 : Shape := ⟨6, ![1, 32, 4, 64, 3, 128]⟩
abbrev S1x4096x768 : Shape := ⟨3, ![1, 4096, 768]⟩
abbrev S1x32x4x64x256 : Shape := ⟨5, ![1, 32, 4, 64, 256]⟩
abbrev S1x4x3x1 : Shape := ⟨4, ![1, 4, 3, 1]⟩
abbrev S32x4x3x128 : Shape := ⟨4, ![32, 4, 3, 128]⟩
abbrev S1x32x4x128x3x64 : Shape := ⟨6, ![1, 32, 4, 128, 3, 64]⟩
abbrev S1x32x4x256x64 : Shape := ⟨5, ![1, 32, 4, 256, 64]⟩

abbrev nBuf : Space → Nat
  | .hbm => 231
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x512, .f32⟩
  | 3 => ⟨S12, .f32⟩
  | 4 => ⟨S4096x1024, .f32⟩
  | 5 => ⟨S4096x1024, .f32⟩
  | 6 => ⟨S12, .f32⟩
  | 7 => ⟨S4096x1024, .f32⟩
  | 8 => ⟨S4096x768, .f32⟩
  | 9 => ⟨S1x4096x12x64, .f32⟩
  | 10 => ⟨S4096x256, .f32⟩
  | 11 => ⟨S1x4096x4x64, .f32⟩
  | 12 => ⟨S4096x256, .f32⟩
  | 13 => ⟨S4096x256, .bf16⟩
  | 14 => ⟨S4096x256, .f32⟩
  | 15 => ⟨S1x4096x4x64, .f32⟩
  | 16 => ⟨S1x32x128x4x3x64, .f32⟩
  | 17 => ⟨S1x32x128x4x64, .f32⟩
  | 18 => ⟨S_, .f32⟩
  | 19 => ⟨S1x1x128x4x64, .f32⟩
  | 20 => ⟨S1x31x128x4x64, .f32⟩
  | 21 => ⟨S1x32x128x4x64, .f32⟩
  | 22 => ⟨S_, .f32⟩
  | 23 => ⟨S1x1x128x4x64, .f32⟩
  | 24 => ⟨S1x32x256x4x64, .f32⟩
  | 25 => ⟨S1x32x128x4x64, .f32⟩
  | 26 => ⟨S_, .f32⟩
  | 27 => ⟨S1x1x128x4x64, .f32⟩
  | 28 => ⟨S1x31x128x4x64, .f32⟩
  | 29 => ⟨S1x32x128x4x64, .f32⟩
  | 30 => ⟨S_, .f32⟩
  | 31 => ⟨S1x1x128x4x64, .f32⟩
  | 32 => ⟨S1x32x256x4x64, .f32⟩
  | 33 => ⟨S1x32x4x256x128x3, .f32⟩
  | 34 => ⟨S1x32x4x3x128x256, .f32⟩
  | 35 => ⟨S_, .f32⟩
  | 36 => ⟨S1x32x4x3x128x256, .f32⟩
  | 37 => ⟨S1x32x4x3x128x256, .f32⟩
  | 38 => ⟨S32, .i32⟩
  | 39 => ⟨S32x1, .i32⟩
  | 40 => ⟨S_, .i32⟩
  | 41 => ⟨S32x1, .i32⟩
  | 42 => ⟨S32x1, .i32⟩
  | 43 => ⟨S128, .i32⟩
  | 44 => ⟨S1x128, .i32⟩
  | 45 => ⟨S32x128, .i32⟩
  | 46 => ⟨S32x128, .i32⟩
  | 47 => ⟨S32x128, .i32⟩
  | 48 => ⟨S_, .i32⟩
  | 49 => ⟨S32x1, .i32⟩
  | 50 => ⟨S32x1, .i32⟩
  | 51 => ⟨S256, .i32⟩
  | 52 => ⟨S1x256, .i32⟩
  | 53 => ⟨S32x256, .i32⟩
  | 54 => ⟨S32x256, .i32⟩
  | 55 => ⟨S32x256, .i32⟩
  | 56 => ⟨S32x128x1, .i32⟩
  | 57 => ⟨S32x1x256, .i32⟩
  | 58 => ⟨S32x128x256, .i32⟩
  | 59 => ⟨S32x128x256, .i32⟩
  | 60 => ⟨S32x128x256, .i32⟩
  | 61 => ⟨S_, .i32⟩
  | 62 => ⟨S32x128x256, .i32⟩
  | 63 => ⟨S32x128x256, .i1⟩
  | 64 => ⟨S_, .i32⟩
  | 65 => ⟨S32x128x256, .i32⟩
  | 66 => ⟨S32x128x256, .i1⟩
  | 67 => ⟨S32x128x256, .i1⟩
  | 68 => ⟨S32x1x256, .i32⟩
  | 69 => ⟨S_, .i32⟩
  | 70 => ⟨S32x1x256, .i32⟩
  | 71 => ⟨S32x1x256, .i1⟩
  | 72 => ⟨S32x128x256, .i1⟩
  | 73 => ⟨S32x128x256, .i1⟩
  | 74 => ⟨S4x3, .f32⟩
  | 75 => ⟨S1x1x4x3x1x1, .f32⟩
  | 76 => ⟨S32x128x256, .f32⟩
  | 77 => ⟨S1x32x1x1x128x256, .f32⟩
  | 78 => ⟨S1x32x4x3x128x256, .f32⟩
  | 79 => ⟨S1x32x4x3x128x256, .f32⟩
  | 80 => ⟨S1x32x4x3x128x256, .f32⟩
  | 81 => ⟨S1x32x4x3x128x256, .f32⟩
  | 82 => ⟨S1x32x1x1x128x256, .i1⟩
  | 83 => ⟨S_, .f32⟩
  | 84 => ⟨S_, .f32⟩
  | 85 => ⟨S1x32x4x3x128x256, .i1⟩
  | 86 => ⟨S1x32x4x3x128x256, .f32⟩
  | 87 => ⟨S1x32x4x3x128x256, .f32⟩
  | 88 => ⟨S_, .f32⟩
  | 89 => ⟨S1x32x4x3x128x256, .f32⟩
  | 90 => ⟨S4x3, .f32⟩
  | 91 => ⟨S1x1x4x3x1x1, .f32⟩
  | 92 => ⟨S_, .f32⟩
  | 93 => ⟨S1x32x4x3x128, .f32⟩
  | 94 => ⟨S1x32x4x3x128x1, .f32⟩
  | 95 => ⟨S1x32x4x3x128x256, .f32⟩
  | 96 => ⟨S1x32x4x3x128x256, .i1⟩
  | 97 => ⟨S1x32x4x3x128x256, .f32⟩
  | 98 => ⟨S_, .f32⟩
  | 99 => ⟨S1x32x4x3x128, .f32⟩
  | 100 => ⟨S1x32x4x3x128x1, .f32⟩
  | 101 => ⟨S1x32x4x3x128x1, .f32⟩
  | 102 => ⟨S1x32x4x3x128x1, .f32⟩
  | 103 => ⟨S1x32x4x3x128x1, .f32⟩
  | 104 => ⟨S1x32x4x3x128x1, .i1⟩
  | 105 => ⟨S1x32x4x3x128x1, .f32⟩
  | 106 => ⟨S1x32x4x3x128x1, .i1⟩
  | 107 => ⟨S_, .f32⟩
  | 108 => ⟨S1x32x4x3x128x1, .f32⟩
  | 109 => ⟨S_, .f32⟩
  | 110 => ⟨S1x32x4x3x128x1, .f32⟩
  | 111 => ⟨S_, .f32⟩
  | 112 => ⟨S1x32x4x3x128x1, .f32⟩
  | 113 => ⟨S1x32x4x3x128x1, .f32⟩
  | 114 => ⟨S1x32x4x3x128x1, .f32⟩
  | 115 => ⟨S1x32x4x3x128x1, .f32⟩
  | 116 => ⟨S1x32x4x3x128x1, .i1⟩
  | 117 => ⟨S1x32x4x3x128x1, .f32⟩
  | 118 => ⟨S1x32x4x3x128x1, .i1⟩
  | 119 => ⟨S_, .f32⟩
  | 120 => ⟨S1x32x4x3x128x1, .f32⟩
  | 121 => ⟨S_, .f32⟩
  | 122 => ⟨S1x32x4x3x128x1, .f32⟩
  | 123 => ⟨S_, .f32⟩
  | 124 => ⟨S1x32x4x3x128x1, .f32⟩
  | 125 => ⟨S1x32x4x3x128x1, .f32⟩
  | 126 => ⟨S1x32x4x3x128x1, .f32⟩
  | 127 => ⟨S1x32x4x3x128x256, .f32⟩
  | _ => ⟨S4096x1024, .bf16⟩

abbrev hbmTy0_1 (i : Nat) : BufTy := match i % 128 with
  | 0 => ⟨S1x32x4x3x128x256, .f32⟩
  | 1 => ⟨S1x32x4x3x128x256, .f32⟩
  | 2 => ⟨S_, .f32⟩
  | 3 => ⟨S1x32x4x3x128, .f32⟩
  | 4 => ⟨S1x32x4x3x128x1, .f32⟩
  | 5 => ⟨S1x32x4x3x128x1, .f32⟩
  | 6 => ⟨S1x32x4x3x128x1, .f32⟩
  | 7 => ⟨S1x32x4x3x128x1, .f32⟩
  | 8 => ⟨S1x32x4x3x128x1, .f32⟩
  | 9 => ⟨S1x32x4x3x128x256, .f32⟩
  | 10 => ⟨S1x32x4x3x128x256, .f32⟩
  | 11 => ⟨S1x32x4x3x128x1, .f32⟩
  | 12 => ⟨S_, .f32⟩
  | 13 => ⟨S1x32x4x3x128x1, .f32⟩
  | 14 => ⟨S1x32x4x3x128x1, .f32⟩
  | 15 => ⟨S1x32x4x64x3x128, .f32⟩
  | 16 => ⟨S1x32x128x4x3x64, .f32⟩
  | 17 => ⟨S1x4096x768, .f32⟩
  | 18 => ⟨S4096x768, .f32⟩
  | 19 => ⟨S1x4096x768, .f32⟩
  | 20 => ⟨S1x32x128x4x3x64, .f32⟩
  | 21 => ⟨S1x32x4x64x3x128, .f32⟩
  | 22 => ⟨S1x32x4x3x128x256, .f32⟩
  | 23 => ⟨S1x32x4x64x256, .f32⟩
  | 24 => ⟨S1x32x256x4x64, .f32⟩
  | 25 => ⟨S1x32x4x3x128x256, .f32⟩
  | 26 => ⟨S1x32x4x3x128x256, .f32⟩
  | 27 => ⟨S1x32x4x3x128x256, .f32⟩
  | 28 => ⟨S_, .f32⟩
  | 29 => ⟨S1x32x4x3x128, .f32⟩
  | 30 => ⟨S1x32x4x3x128x1, .f32⟩
  | 31 => ⟨S1x32x4x3x128x1, .f32⟩
  | 32 => ⟨S1x32x4x3x128x256, .f32⟩
  | 33 => ⟨S1x32x4x3x128x256, .f32⟩
  | 34 => ⟨S1x32x4x3x128x1, .f32⟩
  | 35 => ⟨S_, .f32⟩
  | 36 => ⟨S1x4x3x1, .f32⟩
  | 37 => ⟨S1x1x4x3x1x1, .f32⟩
  | 38 => ⟨S1x32x4x3x128x1, .f32⟩
  | 39 => ⟨S_, .f32⟩
  | 40 => ⟨S32x4x3x128, .f32⟩
  | 41 => ⟨S1x32x4x3x128, .f32⟩
  | 42 => ⟨S1x32x4x3x128x256, .f32⟩
  | 43 => ⟨S1x32x4x3x128x256, .f32⟩
  | 44 => ⟨S1x32x4x3x128x256, .f32⟩
  | 45 => ⟨S1x32x4x3x128x256, .f32⟩
  | 46 => ⟨S_, .f32⟩
  | 47 => ⟨S1x32x4x3x128, .f32⟩
  | 48 => ⟨S1x32x4x3x128x1, .f32⟩
  | 49 => ⟨S1x32x4x3x128x1, .f32⟩
  | 50 => ⟨S1x32x4x3x128x1, .f32⟩
  | 51 => ⟨S_, .f32⟩
  | 52 => ⟨S1x4x3x1, .f32⟩
  | 53 => ⟨S1x1x4x3x1x1, .f32⟩
  | 54 => ⟨S1x1x4x3x1x1, .f32⟩
  | 55 => ⟨S1x32x4x3x128x1, .f32⟩
  | 56 => ⟨S_, .f32⟩
  | 57 => ⟨S32x4x3x128, .f32⟩
  | 58 => ⟨S1x32x4x3x128, .f32⟩
  | 59 => ⟨S1x32x4x3x128, .f32⟩
  | 60 => ⟨S1x32x4x3x128x256, .f32⟩
  | 61 => ⟨S1x32x4x3x128x256, .f32⟩
  | 62 => ⟨S1x32x4x3x128x256, .f32⟩
  | 63 => ⟨S_, .f32⟩
  | 64 => ⟨S4x3, .f32⟩
  | 65 => ⟨S12, .f32⟩
  | 66 => ⟨S_, .f32⟩
  | 67 => ⟨S1x32x4x3x128x256, .f32⟩
  | 68 => ⟨S1x32x4x3x128x256, .f32⟩
  | 69 => ⟨S_, .f32⟩
  | 70 => ⟨S1x32x4x3x128x256, .f32⟩
  | 71 => ⟨S1x32x4x3x128x256, .f32⟩
  | 72 => ⟨S1x32x4x256x128x3, .f32⟩
  | 73 => ⟨S1x32x4x128x3x64, .f32⟩
  | 74 => ⟨S1x32x128x4x3x64, .f32⟩
  | 75 => ⟨S1x32x4x256x64, .f32⟩
  | 76 => ⟨S1x32x256x4x64, .f32⟩
  | 77 => ⟨S1x32x128x4x64, .f32⟩
  | 78 => ⟨S1x32x128x4x64, .f32⟩
  | 79 => ⟨S1x1x128x4x64, .f32⟩
  | 80 => ⟨S1x31x128x4x64, .f32⟩
  | 81 => ⟨S_, .f32⟩
  | 82 => ⟨S1x32x128x4x64, .f32⟩
  | 83 => ⟨S1x32x128x4x64, .f32⟩
  | 84 => ⟨S1x4096x4x64, .f32⟩
  | 85 => ⟨S1x32x128x4x64, .f32⟩
  | 86 => ⟨S1x32x128x4x64, .f32⟩
  | 87 => ⟨S1x1x128x4x64, .f32⟩
  | 88 => ⟨S1x31x128x4x64, .f32⟩
  | 89 => ⟨S_, .f32⟩
  | 90 => ⟨S1x32x128x4x64, .f32⟩
  | 91 => ⟨S1x32x128x4x64, .f32⟩
  | 92 => ⟨S1x4096x4x64, .f32⟩
  | 93 => ⟨S1x4096x12x64, .f32⟩
  | 94 => ⟨S4096x768, .f32⟩
  | 95 => ⟨S4096x256, .f32⟩
  | 96 => ⟨S4096x1024, .f32⟩
  | 97 => ⟨S4096x256, .f32⟩
  | 98 => ⟨S4096x256, .f32⟩
  | 99 => ⟨S_, .i32⟩
  | 100 => ⟨S_, .f32⟩
  | 101 => ⟨S128, .f32⟩
  | 102 => ⟨S1x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_call0_v0 : Ref sig .tc := ⟨.hbm, 84, rfl⟩
abbrev main_v66_1 : Ref sig .tc := ⟨.hbm, 85, rfl⟩
abbrev main_call0_v2 : Ref sig .tc := ⟨.hbm, 86, rfl⟩
abbrev main_v66_0 : Ref sig .tc := ⟨.hbm, 87, rfl⟩
abbrev main_call0_cst : Ref sig .tc := ⟨.hbm, 88, rfl⟩
abbrev main_v66_2 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_cst_16 : Ref sig .tc := ⟨.hbm, 121, rfl⟩
abbrev main_v92 : Ref sig .tc := ⟨.hbm, 122, rfl⟩
abbrev main_cst_17 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_20 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_21 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_22 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_23 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_24 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_25 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_26 : Ref sig .tc := ⟨.hbm, 191, rfl⟩
abbrev main_v152 : Ref sig .tc := ⟨.hbm, 192, rfl⟩
abbrev main_v153 : Ref sig .tc := ⟨.hbm, 193, rfl⟩
abbrev main_call1_cst : Ref sig .tc := ⟨.hbm, 194, rfl⟩
abbrev main_call1_v0 : Ref sig .tc := ⟨.hbm, 195, rfl⟩
abbrev main_v154 : Ref sig .tc := ⟨.hbm, 196, rfl⟩
abbrev main_cst_27 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_28 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_29 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_30 : Ref sig .tc := ⟨.hbm, 227, rfl⟩
abbrev main_call2_v0 : Ref sig .tc := ⟨.hbm, 228, rfl⟩
abbrev main_v182 : Ref sig .tc := ⟨.hbm, 229, rfl⟩
abbrev main_v183 : Ref sig .tc := ⟨.hbm, 230, rfl⟩

abbrev nD : Nat := 1
abbrev τ : Topo := Topo.v7x

variable {F : FTy → Type} [FloatOps F]
-- ==== Kernel2.lean ====
abbrev S4096x4096 : Shape := ⟨2, ![4096, 4096]⟩
abbrev S8x1x512x1024 : Shape := ⟨4, ![8, 1, 512, 1024]⟩
abbrev S4096x1024 : Shape := ⟨2, ![4096, 1024]⟩
abbrev S_ : Shape := ⟨0, ![]⟩
abbrev S1024x1024 : Shape := ⟨2, ![1024, 1024]⟩
abbrev S2x1x512x1024 : Shape := ⟨4, ![2, 1, 512, 1024]⟩
abbrev S2x512x1024 : Shape := ⟨3, ![2, 512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S8x1x512x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x512x1024, .bf16⟩
  | .local _ .vmem, ⟨3, _⟩ => ⟨S2x1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x4096 : Shape := ⟨2, ![4096, 4096]⟩
abbrev S8x1x512x1024 : Shape := ⟨4, ![8, 1, 512, 1024]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x1x512x1024, .bf16⟩
  | .hbm, ⟨2, _⟩ => ⟨S4096x1024, .bf16⟩
  | .hbm, ⟨3, _⟩ => ⟨S8x1x512x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S8x1x512x1024 : Shape := ⟨4, ![8, 1, 512, 1024]⟩
abbrev S_ : Shape := ⟨0, ![]⟩
abbrev S4096x512 : Shape := ⟨2, ![4096, 512]⟩
abbrev S1x1x512x1024 : Shape := ⟨4, ![1, 1, 512, 1024]⟩
abbrev S512x1024 : Shape := ⟨2, ![512, 1024]⟩
abbrev S1x512x1024 : Shape := ⟨3, ![1, 512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S8x1x512x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S8x1x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .bf16⟩
  | .local _ .vmem, ⟨4, _⟩ => ⟨S1x1x512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x4096 : Shape := ⟨2, ![4096, 4096]⟩
abbrev S4096x1024 : Shape := ⟨2, ![4096, 1024]⟩
abbrev S8x1x512x1024 : Shape := ⟨4, ![8, 1, 512, 1024]⟩
abbrev S_ : Shape := ⟨0, ![]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S8x1x512x1024, .bf16⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | .hbm, ⟨14, _⟩ => ⟨S8x1x512x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1x1024x4096 : Shape := ⟨3, ![1, 1024, 4096]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1x1024x4096, .bf16⟩
  | .hbm, ⟨3, _⟩ => ⟨S1x1024x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x4096 : Shape := ⟨2, ![4096, 4096]⟩
abbrev S1x1024x4096 : Shape := ⟨3, ![1, 1024, 4096]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1x1024x4096, .bf16⟩
  | .hbm, ⟨3, _⟩ => ⟨S4096x1024, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1x1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S8x1x128x1024 : Shape := ⟨4, ![8, 1, 128, 1024]⟩
abbrev S1024x1024 : Shape := ⟨2, ![1024, 1024]⟩
abbrev S8x128x1024 : Shape := ⟨3, ![8, 128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1x128x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S8x1x128x1024 : Shape := ⟨4, ![8, 1, 128, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x128x1024, .bf16⟩
  | .hbm, ⟨2, _⟩ => ⟨S8x1x128x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S8x1x128x1024 : Shape := ⟨4, ![8, 1, 128, 1024]⟩
abbrev S4096x512 : Shape := ⟨2, ![4096, 512]⟩
abbrev S4x1x128x1024 : Shape := ⟨4, ![4, 1, 128, 1024]⟩
abbrev S512x1024 : Shape := ⟨2, ![512, 1024]⟩
abbrev S4x128x1024 : Shape := ⟨3, ![4, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1x128x1024, .bf16⟩
  | .hbm, ⟨3, _⟩ => ⟨S8x1x128x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4x1x128x1024, .bf16⟩
  | .local _ .vmem, ⟨4, _⟩ => ⟨S4x1x128x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S8x1x128x1024 : Shape := ⟨4, ![8, 1, 128, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1x128x1024, .bf16⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S8x1x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x4096 : Shape := ⟨2, ![4096, 4096]⟩
abbrev S8x1x512x1024 : Shape := ⟨4, ![8, 1, 512, 1024]⟩
abbrev S4096x1024 : Shape := ⟨2, ![4096, 1024]⟩
abbrev S_ : Shape := ⟨0, ![]⟩
abbrev S512x4096 : Shape := ⟨2, ![512, 4096]⟩
abbrev S512x1024 : Shape := ⟨2, ![512, 1024]⟩
abbrev S8x512x1024 : Shape := ⟨3, ![8, 512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S8x1x512x1024, .bf16⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S8x1x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x4096 : Shape := ⟨2, ![4096, 4096]⟩
abbrev S8x1x512x1024 : Shape := ⟨4, ![8, 1, 512, 1024]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x1x512x1024, .bf16⟩
  | .hbm, ⟨2, _⟩ => ⟨S4096x1024, .f32⟩
  | .hbm, ⟨3, _⟩ => ⟨S8x1x512x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S8x1x128x1024 : Shape := ⟨4, ![8, 1, 128, 1024]⟩
abbrev S1024x1024 : Shape := ⟨2, ![1024, 1024]⟩
abbrev S8x128x1024 : Shape := ⟨3, ![8, 128, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1x128x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x1024 : Shape := ⟨2, ![4096, 1024]⟩
abbrev S8x1x128x1024 : Shape := ⟨4, ![8, 1, 128, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x128x1024, .bf16⟩
  | .hbm, ⟨2, _⟩ => ⟨S4096x1024, .f32⟩
  | .hbm, ⟨3, _⟩ => ⟨S4096x1024, .f32⟩
  | .hbm, ⟨4, _⟩ => ⟨S8x1x128x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S8x1x128x1024 : Shape := ⟨4, ![8, 1, 128, 1024]⟩
abbrev S1x1024 : Shape := ⟨2, ![1, 1024]⟩
abbrev S1024x1024 : Shape := ⟨2, ![1024, 1024]⟩
abbrev S1024x1 : Shape := ⟨2, ![1024, 1]⟩
abbrev S8x128x1024 : Shape := ⟨3, ![8, 128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x128x1024, .bf16⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1x128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4096x1024 : Shape := ⟨2, ![4096, 1024]⟩
abbrev S1024 : Shape := ⟨1, ![1024]⟩
abbrev S8x1x128x1024 : Shape := ⟨4, ![8, 1, 128, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1x128x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S8x1x128x1024, .f32⟩
  | .hbm, ⟨21, _⟩ => ⟨S1024x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel10.lean ====
abbrev S4096x4096 : Shape := ⟨2, ![4096, 4096]⟩
abbrev S1x1024x4096 : Shape := ⟨3, ![1, 1024, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32_11 : BitVec 32 := 0#32
  let v21 : BitVec 1 := Scalar.cmpi .sgt arg0 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x4096 : Shape := ⟨2, ![4096, 4096]⟩
abbrev S1x1024x4096 : Shape := ⟨3, ![1, 1024, 4096]⟩
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024x4096, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Ext.lean ====
/- Arrays with the same entries are the same. -/
module

public import Idealize.ShloMosaic.Lib.Pointwise

@[expose] public section

namespace Cert.Proof

open Idealize.ShloMosaic

/-- Two matrices with the same entries are the same. -/
theorem matrix_ext {r c : ℕ} {α : Type} {x y : (⟨2, ![r, c]⟩ : Shape).Idx → α} (h : ∀ i j, x (ix2 i j) = y (ix2 i j)) : x = y :=
  funext fun i => (eq_ix2 i) ▸ h (i 0) (i 1)

/-- Two arrays of three axes with the same entries are the same. -/
theorem cube_ext {a b c : ℕ} {α : Type} {x y : (⟨3, ![a, b, c]⟩ : Shape).Idx → α} (h : ∀ i j k, x (ix3 i j k) = y (ix3 i j k)) : x = y :=
  funext fun i => (eq_ix3 i) ▸ h (i 0) (i 1) (i 2)

/-- Two arrays of four axes with the same entries are the same. -/
theorem stack_ext {a b c d : ℕ} {α : Type} {x y : (⟨4, ![a, b, c, d]⟩ : Shape).Idx → α} (h : ∀ i j k l, x (ix4 i j k l) = y (ix4 i j k l)) : x = y :=
  funext fun i => (eq_ix4 i) ▸ h (i 0) (i 1) (i 2) (i 3)

end Cert.Proof
-- ==== Proof.DownDx.lean ====
/- The gradient with respect to the MLP's hidden pre-activation: the kernel's array and the reference's, entry by entry. -/
module

public import proofs.«01_k».proof.Defs
public import proofs.«01_k».proof.Proof.Ext
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.MlpDown

open Idealize.ShloMosaic

/-- The number two, from its word. -/
theorem two : (2 : EReal) = Ideal.ofBits .f32 0x40000000#32 := by
  simp [Ideal.ofBits, Ideal.ieee]
  rw [← EReal.coe_mul, show (8388608 : ℝ) * (2 ^ 22)⁻¹ = 2 by norm_num]
  rfl

theorem two_mul' (x : EReal) : 2 * x = x + x := by
  rw [← one_add_one_eq_two, EReal.right_distrib_of_nonneg zero_le_one zero_le_one, one_mul]

/-- The root of a square. -/
theorem root {x : EReal} (h : 0 ≤ x) : Ideal.sqrt (x * x) = x := by
  induction x with
  | bot => exact absurd h (by simp)
  | top => rw [EReal.top_mul_top]; rfl
  | coe r =>
    have hr : 0 ≤ r := EReal.coe_nonneg.mp h
    rw [← EReal.coe_mul]
    show (if r * r < 0 then ⊥ else ((Real.sqrt (r * r) : ℝ) : EReal)) = r
    rw [if_neg (not_lt.mpr (mul_nonneg hr hr)), Real.sqrt_mul_self hr]

/-- The gradient of the squared relu: nothing where the pre-activation `u` is not positive, twice `u` times what comes back elsewhere. -/
theorem squared_relu (u s : EReal) : s * (2 * Ideal.sqrt (max u 0 * max u 0)) = if 0 < u then max u 0 * s + s * max u 0 else 0 := by
  by_cases h : 0 < u
  · rw [if_pos h, max_eq_left h.le, root h.le, two_mul', EReal.left_distrib_of_nonneg h.le h.le, mul_comm s u]
  · rw [if_neg h, max_eq_right (not_lt.mp h), root le_rfl, mul_zero, mul_zero]

end Cert.MlpDown

namespace Cert.Kernel2Ideal.Gen

open Idealize.ShloMosaic Idealize.ShloMosaic.TcCoe Idealize.ShloMosaic.Tactic Idealize.SL.Sem Idealize.ShloMosaic.StableHlo
open Idealize.ShloMosaic.Pipeline (Dat)

/-- One tile's entry: the product over the model's 1024 channels, times twice the root of the saved activation. -/
theorem tile_at (v0 : FVec Ideal S2x1x512x1024 .bf16) (v3 v5 : FVec Ideal S1024x1024 .bf16) (i j : Fin 1024) :
    (show EReal from k0_pay1 (F := Ideal) v0 v3 v5 (ix2 i j))
      = (∑ k : Fin 1024, (show EReal from v3 (ix2 i k)) * (show EReal from v0 (ix4 ⟨j.val / 512, by omega⟩ 0 ⟨j.val % 512, by omega⟩ k)))
        * (2 * Ideal.sqrt (show EReal from v5 (ix2 i j))) := by
  rw [show (2 : EReal) = Ideal.ofBits .f32 0x40000000#32 from Cert.MlpDown.two]
  unfold k0_pay1
  pointwise

variable (m : (ℓ : Loc nD τ sig) → Buf (Elt Ideal) ℓ) (c : Dev nD)

/-- The windows' block numbers at a grid point: the pre-activation's block of columns outermost, the tokens' inside. -/
theorem idx : ∀ t : Fin cfg0.N, win0_0.index t = ![t.val % 4, 0] ∧ win0_1.index t = ![t.val / 4, 0, 0, 0]
    ∧ win0_2.index t = ![t.val % 4, t.val / 4] ∧ win0_3.index t = ![t.val % 4, t.val / 4] :=
  (by decide +kernel : ∀ t : Fin grid0.N, win0_0.index t = ![t.val % 4, 0] ∧ win0_1.index t = ![t.val / 4, 0, 0, 0]
    ∧ win0_2.index t = ![t.val % 4, t.val / 4] ∧ win0_3.index t = ![t.val % 4, t.val / 4])

/-- The saved activation, as the host lines leave it: the positive part squared. -/
theorem saved_at (i j : Fin 4096) : (show EReal from V m c main_v2 (ix2 i j))
    = max (show EReal from m ((c : Thread nD τ).loc main_arg0) (ix2 i j)) 0 * max (show EReal from m ((c : Thread nD τ).loc main_arg0) (ix2 i j)) 0 := by
  rw [← Ideal.ofBits_zero_f32]
  have e : V m c main_v2 = (truncf .bf16 (mulf (maximumf (m ((c : Thread nD τ).loc main_arg0)) (broadcastInDim S4096x4096 ![] bcast_S_S4096x4096 (constant S_ .f32 0x00000000#32)))
      (maximumf (m ((c : Thread nD τ).loc main_arg0)) (broadcastInDim S4096x4096 ![] bcast_S_S4096x4096 (constant S_ .f32 0x00000000#32)))) bitsLt_bf16_f32 : FVec Ideal S4096x4096 .bf16) := by
    show after (List.flatten [hostOps0, hostOps0_1]) (fun b => m (c, b)) _ = _
    simp only [List.flatten_cons, List.flatten_nil, List.append_nil, List.cons_append, List.nil_append, TRef.binary, TRef.nullary, TRef.unary, TRef.toBuf, TRef.ofBuf, cast_eq]
    after_results <;> rfl
  rw [e]
  pointwise

variable (t : Fin cfg0.N) (a b : Fin 1024)

theorem point_lt : t.val < 16 := lt_of_lt_of_eq t.isLt N_0

/-- The tile of what comes back. -/
theorem dy_tile : (show EReal from iblk m c 0 t (ix2 a b)) = m ((c : Thread nD τ).loc main_arg2) (ix2 ⟨t.val % 4 * 1024 + a.val, by omega⟩ b) := by
  blk_ext [iblk, V, idx t]

/-- The two blocks of the weights. -/
theorem w_tile (p : Fin 2) (q : Fin 512) : (show EReal from iblk m c 1 t (ix4 p 0 q b))
    = m ((c : Thread nD τ).loc main_arg1) (ix4 ⟨t.val / 4 * 2 + p.val, by have := point_lt t; omega⟩ 0 q b) := by
  blk_ext [iblk, V, idx t]

/-- The tile of the saved activation. -/
theorem saved_tile : (show EReal from iblk m c 2 t (ix2 a b))
    = V m c main_v2 (ix2 ⟨t.val % 4 * 1024 + a.val, by omega⟩ ⟨t.val / 4 * 1024 + b.val, by have := point_lt t; omega⟩) := by
  unfold iblk
  generalize V m c (Pipeline.arrRef spec0 2) = X
  blk_ext [idx t]

/-- The kernel's array, an entry. -/
abbrev entry (X : FVec Ideal S4096x1024 .bf16) (W : FVec Ideal S8x1x512x1024 .bf16) (A : FVec Ideal S4096x4096 .bf16) (i j : Fin 4096) : EReal :=
  (∑ k : Fin 1024, (show EReal from X (ix2 i k)) * (show EReal from W (ix4 ⟨j.val / 512, by omega⟩ 0 ⟨j.val % 512, by omega⟩ k)))
    * (2 * Ideal.sqrt (show EReal from A (ix2 i j)))

/-- What a grid point computes: the array's entry at the tile's place. -/
theorem entry_at (i j : Fin 4096) (hi : i.val = t.val % 4 * 1024 + a.val) (hj : j.val = t.val / 4 * 1024 + b.val) :
    (show EReal from k0_pay1 (F := Ideal) (iblk m c 1 t) (iblk m c 0 t) (iblk m c 2 t) (ix2 a b))
      = entry (m ((c : Thread nD τ).loc main_arg2)) (m ((c : Thread nD τ).loc main_arg1)) (V m c main_v2) i j := by
  refine (tile_at _ _ _ _ _).trans (congrArg₂ (fun x y : EReal => x * (2 * Ideal.sqrt y))
    (Finset.sum_congr rfl fun k _ => congrArg₂ (fun x y : EReal => x * y) ((dy_tile m c t a k).trans ?_) ((w_tile m c t k _ _).trans ?_))
    ((saved_tile m c t a b).trans ?_))
  · exact congrArg (fun x => m ((c : Thread nD τ).loc main_arg2) (ix2 x k)) (Fin.ext hi.symm)
  · exact congrArg₂ (fun x y => m ((c : Thread nD τ).loc main_arg1) (ix4 x 0 y k)) (Fin.ext (by dsimp only; omega)) (Fin.ext (by dsimp only; omega))
  · exact congrArg₂ (fun x y => V m c main_v2 (ix2 x y)) (Fin.ext hi.symm) (Fin.ext hj.symm)

/-- The kernel's array after the run. -/
theorem array_at (i j : Fin 4096) : (show EReal from (dats m 0 c).arrAt 3 cfg0.N (ix2 i j))
    = entry (m ((c : Thread nD τ).loc main_arg2)) (m ((c : Thread nD τ).loc main_arg1)) (V m c main_v2) i j := by
  have h := (dats m 0 c).arrAt_eq_of_covers 3
    (fun x : S4096x4096.Idx => entry (m ((c : Thread nD τ).loc main_arg2)) (m ((c : Thread nD τ).loc main_arg1)) (V m c main_v2) (x 0) (x 1))
    (by decide +kernel) fun t hf y => ?_
  · exact congrFun h (ix2 i j)
  · generalize hA : V m c main_v2 = A
    have e0 : win0_3.index t 0 = t.val % 4 := congrFun (idx t).2.2.2 0
    have e1 : win0_3.index t 1 = t.val / 4 := congrFun (idx t).2.2.2 1
    blk_simp
    rw [after0_3]
    frame_out
    rw [eq_ix2 (n0 := 1024) (n1 := 1024) y]
    subst hA
    refine entry_at m c t (y 0) (y 1) _ _ ?_ ?_
    · show win0_3.index t 0 * 1024 + 1 * (y 0).val = _
      rw [e0, one_mul]
    · show win0_3.index t 1 * 1024 + 1 * (y 1).val = _
      rw [e1, one_mul]

end Cert.Kernel2Ideal.Gen

namespace Cert.Reference2Ideal.Value

open Cert.Reference2Ideal Cert.Reference2Ideal.Gen Idealize.ShloMosaic Idealize.ShloMosaic.TcCoe Idealize.SL.Sem

/-- The gradient through the weights, an entry. -/
theorem back_at (w : FVec Ideal S8x1x512x1024 .bf16) (dy : FVec Ideal S4096x1024 .bf16) (i j : Fin 4096) :
    (show EReal from Host.dotGeneral dot_S4096x1024_S4096x1024_S4096x4096_1_1_0_0_n_n none (extf .f32 dy bitsLt_bf16_f32)
        (shapeCast S4096x1024 (extf .f32 w bitsLt_bf16_f32) shapeCasts_S8x1x512x1024_S4096x1024) (ix2 i j))
      = ∑ k : Fin 1024, (show EReal from dy (ix2 i k)) * (show EReal from w (ix4 ⟨j.val / 512, by omega⟩ 0 ⟨j.val % 512, by omega⟩ k)) := by
  pointwise

/-- The reference's array, from the product `s` through the weights. -/
theorem result_at (u s : FVec Ideal S4096x4096 .f32) (i j : Fin 4096) :
    (show EReal from truncf .bf16 (select (cmpf .ogt u (broadcastInDim S4096x4096 ![] bcast_S_S4096x4096 (constant S_ .f32 0x00000000#32)))
        (addf (mulf (maximumf u (broadcastInDim S4096x4096 ![] bcast_S_S4096x4096 (constant S_ .f32 0x00000000#32))) s)
          (mulf s (maximumf u (broadcastInDim S4096x4096 ![] bcast_S_S4096x4096 (constant S_ .f32 0x00000000#32)))))
        (broadcastInDim S4096x4096 ![] bcast_S_S4096x4096 (constant S_ .f32 0x00000000#32))) bitsLt_bf16_f32 (ix2 i j))
      = if 0 < (show EReal from u (ix2 i j)) then max (show EReal from u (ix2 i j)) 0 * (show EReal from s (ix2 i j))
          + (show EReal from s (ix2 i j)) * max (show EReal from u (ix2 i j)) 0 else 0 := by
  pointwise

end Cert.Reference2Ideal.Value

namespace Cert.Proof

open Idealize.ShloMosaic Idealize.ShloMosaic.TcCoe Idealize.SL.Sem

/-- The kernel and the reference end with the same gradient of the hidden pre-activation. -/
theorem down_dx : Cert.algebraic_Kernel2Ideal_Reference2Ideal (hKernel2Ideal := Cert.Kernel2Ideal.Gen.facts)
    (hReference2Ideal := Cert.Reference2Ideal.Gen.facts) := by
  intro m g m' g' _ e
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2⟩ := e c
  rw [e0, e1, e2]
  refine matrix_ext (r := 4096) (c := 4096) fun i j => ?_
  refine (Cert.Reference2Ideal.Value.result_at _ _ i j).trans (Eq.trans ?_ (Cert.Kernel2Ideal.Gen.array_at m c i j).symm)
  rw [Cert.Reference2Ideal.Value.back_at]
  exact (Cert.MlpDown.squared_relu _ _).symm.trans (congrArg (fun y : EReal => _ * (2 * Ideal.sqrt y)) (Cert.Kernel2Ideal.Gen.saved_at m c i j).symm)

end Cert.Proof

end
-- ==== Proof.DownGrad.lean ====
/- The gradient with respect to the MLP's second weights: the kernel's array and the reference's, entry by entry. -/
module

public import proofs.«01_k».proof.Defs
public import proofs.«01_k».proof.Proof.Ext
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Gen

open Idealize.ShloMosaic Idealize.ShloMosaic.TcCoe Idealize.ShloMosaic.Tactic Idealize.SL.Sem Idealize.ShloMosaic.StableHlo
open Idealize.ShloMosaic.Pipeline (Dat)

/-- One tile's entry: the product over the 4096 tokens. -/
theorem tile_at (v0 : FVec Ideal S4096x1024 .bf16) (v1 : FVec Ideal S4096x512 .bf16) (a : Fin 512) (b : Fin 1024) :
    (show EReal from k0_pay1 (F := Ideal) v0 v1 (ix4 0 0 a b)) = ∑ k : Fin 4096, (show EReal from v1 (ix2 k a)) * (show EReal from v0 (ix2 k b)) := by
  unfold k0_pay1
  pointwise

variable (m : (ℓ : Loc nD τ sig) → Buf (Elt Ideal) ℓ) (c : Dev nD)

/-- The windows' block numbers at a grid point: one block of hidden columns a point. -/
theorem idx : ∀ t : Fin cfg0.N, win0_0.index t = ![0, t.val] ∧ win0_1.index t = ![0, 0] ∧ win0_2.index t = ![t.val, 0, 0, 0] :=
  (by decide +kernel : ∀ t : Fin grid0.N, win0_0.index t = ![0, t.val] ∧ win0_1.index t = ![0, 0] ∧ win0_2.index t = ![t.val, 0, 0, 0])

/-- The saved activation, as the host lines leave it: the positive part squared. -/
theorem saved_at (i j : Fin 4096) : (show EReal from V m c main_v2 (ix2 i j))
    = max (show EReal from m ((c : Thread nD τ).loc main_arg0) (ix2 i j)) 0 * max (show EReal from m ((c : Thread nD τ).loc main_arg0) (ix2 i j)) 0 := by
  rw [← Ideal.ofBits_zero_f32]
  have e : V m c main_v2 = (truncf .bf16 (mulf (maximumf (m ((c : Thread nD τ).loc main_arg0)) (broadcastInDim S4096x4096 ![] bcast_S_S4096x4096 (constant S_ .f32 0x00000000#32)))
      (maximumf (m ((c : Thread nD τ).loc main_arg0)) (broadcastInDim S4096x4096 ![] bcast_S_S4096x4096 (constant S_ .f32 0x00000000#32)))) bitsLt_bf16_f32 : FVec Ideal S4096x4096 .bf16) := by
    show after (List.flatten [hostOps0, hostOps0_1]) (fun b => m (c, b)) _ = _
    simp only [List.flatten_cons, List.flatten_nil, List.append_nil, List.cons_append, List.nil_append, TRef.binary, TRef.nullary, TRef.unary, TRef.toBuf, TRef.ofBuf, cast_eq]
    after_results <;> rfl
  rw [e]
  pointwise

variable (t : Fin cfg0.N)

theorem point_lt : t.val < 8 := lt_of_lt_of_eq t.isLt N_0

/-- The block of the saved activation's columns. -/
theorem saved_tile (k : Fin 4096) (a : Fin 512) : (show EReal from iblk m c 0 t (ix2 k a))
    = V m c main_v2 (ix2 k ⟨t.val * 512 + a.val, by have := point_lt t; omega⟩) := by
  unfold iblk
  generalize V m c (Pipeline.arrRef spec0 0) = X
  blk_ext [idx t]

/-- What comes back, whole at every point. -/
theorem dy_tile (k : Fin 4096) (b : Fin 1024) : (show EReal from iblk m c 1 t (ix2 k b)) = m ((c : Thread nD τ).loc main_arg1) (ix2 k b) := by
  blk_ext [iblk, V, idx t]

/-- The kernel's array, an entry. -/
abbrev entry (A : FVec Ideal S4096x4096 .bf16) (Y : FVec Ideal S4096x1024 .bf16) (j : Fin 4096) (l : Fin 1024) : EReal :=
  ∑ k : Fin 4096, (show EReal from A (ix2 k j)) * (show EReal from Y (ix2 k l))

/-- What a grid point computes: the array's entry at the tile's place. -/
theorem entry_at (a : Fin 512) (b : Fin 1024) (j : Fin 4096) (l : Fin 1024) (hj : j.val = t.val * 512 + a.val) (hl : l.val = b.val) :
    (show EReal from k0_pay1 (F := Ideal) (iblk m c 1 t) (iblk m c 0 t) (ix4 0 0 a b)) = entry (V m c main_v2) (m ((c : Thread nD τ).loc main_arg1)) j l :=
  (tile_at _ _ _ _).trans (Finset.sum_congr rfl fun k _ => congrArg₂ (fun x y : EReal => x * y)
    ((saved_tile m c t k a).trans (congrArg (fun x => V m c main_v2 (ix2 k x)) (Fin.ext hj.symm)))
    ((dy_tile m c t k b).trans (congrArg (fun x => m ((c : Thread nD τ).loc main_arg1) (ix2 k x)) (Fin.ext hl.symm))))

/-- The kernel's array after the run. -/
theorem array_at (p : Fin 8) (q : Fin 512) (l : Fin 1024) : (show EReal from (dats m 0 c).arrAt 2 cfg0.N (ix4 p 0 q l))
    = entry (V m c main_v2) (m ((c : Thread nD τ).loc main_arg1)) ⟨p.val * 512 + q.val, by omega⟩ l := by
  have h := (dats m 0 c).arrAt_eq_of_covers 2
    (fun x : S8x1x512x1024.Idx => entry (V m c main_v2) (m ((c : Thread nD τ).loc main_arg1))
      ⟨(x 0).val * 512 + (x 2).val, by have h0 : (x 0).val < 8 := (x 0).isLt; have h2 : (x 2).val < 512 := (x 2).isLt; omega⟩ (x 3))
    (by decide +kernel) fun t hf y => ?_
  · exact congrFun h (ix4 p 0 q l)
  · generalize hA : V m c main_v2 = A
    have e0 : win0_2.index t 0 = t.val := congrFun (idx t).2.2 0
    have e2 : win0_2.index t 2 = 0 := congrFun (idx t).2.2 2
    have e3 : win0_2.index t 3 = 0 := congrFun (idx t).2.2 3
    blk_simp
    rw [after0_2]
    unfold outsAt0
    frame_out
    subst hA
    rw [eq_ix4 (n0 := 1) (n1 := 1) (n2 := 512) (n3 := 1024) y]
    obtain ⟨y0, y1⟩ : y 0 = (0 : Fin 1) ∧ y 1 = (0 : Fin 1) := ⟨Subsingleton.elim (α := Fin 1) _ _, Subsingleton.elim (α := Fin 1) _ _⟩
    rw [y0, y1]
    refine entry_at m c t (y 2) (y 3) _ _ ?_ ?_
    · show win0_2.index t 0 * 512 + (win0_2.index t 2 * 512 + (y 2).val) = _
      rw [e0, e2, zero_mul, zero_add]
    · show win0_2.index t 3 * 1024 + 1 * (y 3).val = _
      rw [e3, zero_mul, zero_add, one_mul]

end Cert.Kernel3Ideal.Gen

namespace Cert.Reference3Ideal.Value

open Cert.Reference3Ideal Cert.Reference3Ideal.Gen Idealize.ShloMosaic Idealize.ShloMosaic.TcCoe Idealize.SL.Sem

/-- The reference's array, an entry. -/
theorem result_at (u : FVec Ideal S4096x4096 .f32) (dy : FVec Ideal S4096x1024 .bf16) (p : Fin 8) (q : Fin 512) (l : Fin 1024) :
    (show EReal from shapeCast S8x1x512x1024 (truncf .bf16 (transpose S4096x1024 [1, 0] (Host.dotGeneral dot_S4096x1024_S4096x4096_S1024x4096_0_0_1_1_n_n none
        (extf .f32 dy bitsLt_bf16_f32) (mulf (maximumf u (broadcastInDim S4096x4096 ![] bcast_S_S4096x4096 (constant S_ .f32 0x00000000#32)))
          (maximumf u (broadcastInDim S4096x4096 ![] bcast_S_S4096x4096 (constant S_ .f32 0x00000000#32)))))
        transposes_S1024x4096_S4096x1024_1_0) bitsLt_bf16_f32) shapeCasts_S4096x1024_S8x1x512x1024 (ix4 p 0 q l))
      = ∑ k : Fin 4096, (show EReal from dy (ix2 k l)) * (max (show EReal from u (ix2 k ⟨p.val * 512 + q.val, by omega⟩)) 0
          * max (show EReal from u (ix2 k ⟨p.val * 512 + q.val, by omega⟩)) 0) := by
  rw [← Ideal.ofBits_zero_f32]
  pointwise

end Cert.Reference3Ideal.Value

namespace Cert.Proof

open Idealize.ShloMosaic Idealize.ShloMosaic.TcCoe Idealize.SL.Sem

/-- The kernel and the reference end with the same gradient of the second weights. -/
theorem down_grad : Cert.algebraic_Kernel3Ideal_Reference3Ideal (hKernel3Ideal := Cert.Kernel3Ideal.Gen.facts)
    (hReference3Ideal := Cert.Reference3Ideal.Gen.facts) := by
  intro m g m' g' _ e
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨e0, e1, _⟩ := e c
  rw [e0, e1]
  refine stack_ext (a := 8) (b := 1) (c := 512) (d := 1024) fun p o q l => ?_
  obtain rfl : o = 0 := Subsingleton.elim _ _
  refine (Cert.Reference3Ideal.Value.result_at _ _ p q l).trans (Eq.trans ?_ (Cert.Kernel3Ideal.Gen.array_at m c p q l).symm)
  exact Finset.sum_congr rfl fun k _ => (mul_comm _ _).trans (congrArg (fun y : EReal => y * _) (Cert.Kernel3Ideal.Gen.saved_at m c k _).symm)

end Cert.Proof

end
-- ==== Proof.UpGrad.lean ====
/- The gradient with respect to the MLP's first weights: the kernel's array and the reference's, entry by entry. -/
module

public import proofs.«01_k».proof.Defs
public import proofs.«01_k».proof.Proof.Ext
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Gen

open Idealize.ShloMosaic Idealize.ShloMosaic.TcCoe Idealize.ShloMosaic.Tactic Idealize.SL.Sem
open Idealize.ShloMosaic.Pipeline (Dat)

/-- One tile's entry: the product over the 4096 tokens. -/
theorem tile_at (v0 : FVec Ideal S4096x1024 .bf16) (v1 : FVec Ideal S4096x512 .bf16) (a : Fin 512) (b : Fin 1024) :
    (show EReal from k0_pay1 (F := Ideal) v0 v1 (ix3 0 a b)) = ∑ k : Fin 4096, (show EReal from v1 (ix2 k a)) * (show EReal from v0 (ix2 k b)) := by
  unfold k0_pay1
  pointwise

variable (m : (ℓ : Loc nD τ sig) → Buf (Elt Ideal) ℓ) (c : Dev nD) (t : Fin cfg0.N)

/-- The windows' block numbers at a grid point: the hidden columns' block outermost, the channels' inside. -/
theorem idx : ∀ t : Fin cfg0.N, win0_0.index t = ![0, t.val % 2] ∧ win0_1.index t = ![0, t.val / 2] ∧ win0_2.index t = ![0, t.val % 2, t.val / 2] :=
  (by decide +kernel : ∀ t : Fin grid0.N, win0_0.index t = ![0, t.val % 2] ∧ win0_1.index t = ![0, t.val / 2] ∧ win0_2.index t = ![0, t.val % 2, t.val / 2])

theorem point_lt : t.val < 8 := lt_of_lt_of_eq t.isLt N_0

/-- The block of the normed input's channels. -/
theorem x_tile (k : Fin 4096) (a : Fin 512) : (show EReal from iblk m c 0 t (ix2 k a))
    = m ((c : Thread nD τ).loc main_arg0) (ix2 k ⟨t.val % 2 * 512 + a.val, by omega⟩) := by
  blk_ext [iblk, V, idx t]

/-- The block of what comes back. -/
theorem du_tile (k : Fin 4096) (b : Fin 1024) : (show EReal from iblk m c 1 t (ix2 k b))
    = m ((c : Thread nD τ).loc main_arg1) (ix2 k ⟨t.val / 2 * 1024 + b.val, by have := point_lt t; omega⟩) := by
  blk_ext [iblk, V, idx t]

/-- The kernel's array, an entry. -/
abbrev entry (X : FVec Ideal S4096x1024 .bf16) (U : FVec Ideal S4096x4096 .bf16) (i : Fin 1024) (j : Fin 4096) : EReal :=
  ∑ k : Fin 4096, (show EReal from X (ix2 k i)) * (show EReal from U (ix2 k j))

/-- What a grid point computes: the array's entry at the tile's place. -/
theorem entry_at (a : Fin 512) (b : Fin 1024) (i : Fin 1024) (j : Fin 4096) (hi : i.val = t.val % 2 * 512 + a.val) (hj : j.val = t.val / 2 * 1024 + b.val) :
    (show EReal from k0_pay1 (F := Ideal) (iblk m c 1 t) (iblk m c 0 t) (ix3 0 a b))
      = entry (m ((c : Thread nD τ).loc main_arg0)) (m ((c : Thread nD τ).loc main_arg1)) i j :=
  (tile_at _ _ _ _).trans (Finset.sum_congr rfl fun k _ => congrArg₂ (fun x y : EReal => x * y)
    ((x_tile m c t k a).trans (congrArg (fun x => m ((c : Thread nD τ).loc main_arg0) (ix2 k x)) (Fin.ext hi.symm)))
    ((du_tile m c t k b).trans (congrArg (fun x => m ((c : Thread nD τ).loc main_arg1) (ix2 k x)) (Fin.ext hj.symm))))

/-- The kernel's array after the run. -/
theorem array_at (i : Fin 1024) (j : Fin 4096) : (show EReal from (dats m 0 c).arrAt 2 cfg0.N (ix3 0 i j))
    = entry (m ((c : Thread nD τ).loc main_arg0)) (m ((c : Thread nD τ).loc main_arg1)) i j := by
  have h := (dats m 0 c).arrAt_eq_of_covers 2
    (fun x : S1x1024x4096.Idx => entry (m ((c : Thread nD τ).loc main_arg0)) (m ((c : Thread nD τ).loc main_arg1)) (x 1) (x 2))
    (by decide +kernel) fun t hf y => ?_
  · exact congrFun h (ix3 0 i j)
  · have e1 : win0_2.index t 1 = t.val % 2 := congrFun (idx t).2.2 1
    have e2 : win0_2.index t 2 = t.val / 2 := congrFun (idx t).2.2 2
    blk_simp
    rw [after0_2]
    unfold outsAt0
    frame_out
    rw [eq_ix3 (n0 := 1) (n1 := 512) (n2 := 1024) y]
    obtain y0 : y 0 = (0 : Fin 1) := Subsingleton.elim (α := Fin 1) _ _
    rw [y0]
    refine entry_at m c t (y 1) (y 2) _ _ ?_ ?_
    · show win0_2.index t 1 * 512 + 1 * (y 1).val = _
      rw [e1, one_mul]
    · show win0_2.index t 2 * 1024 + 1 * (y 2).val = _
      rw [e2, one_mul]

end Cert.Kernel4Ideal.Gen

namespace Cert.Reference4Ideal.Value

open Cert.Reference4Ideal Cert.Reference4Ideal.Gen Idealize.ShloMosaic Idealize.ShloMosaic.TcCoe Idealize.SL.Sem

/-- The reference's array, an entry. -/
theorem result_at (x : FVec Ideal S4096x1024 .bf16) (du : FVec Ideal S4096x4096 .bf16) (i : Fin 1024) (j : Fin 4096) :
    (show EReal from shapeCast S1x1024x4096 (truncf .bf16 (transpose S1024x4096 [1, 0] (Host.dotGeneral dot_S4096x4096_S4096x1024_S4096x1024_0_0_1_1_n_n none
        (extf .f32 du bitsLt_bf16_f32) (extf .f32 x bitsLt_bf16_f32)) transposes_S4096x1024_S1024x4096_1_0) bitsLt_bf16_f32)
        shapeCasts_S1024x4096_S1x1024x4096 (ix3 0 i j))
      = ∑ k : Fin 4096, (show EReal from du (ix2 k j)) * (show EReal from x (ix2 k i)) := by
  pointwise

end Cert.Reference4Ideal.Value

namespace Cert.Proof

open Idealize.ShloMosaic Idealize.ShloMosaic.TcCoe Idealize.SL.Sem

/-- The kernel and the reference end with the same gradient of the first weights. -/
theorem up_grad : Cert.algebraic_Kernel4Ideal_Reference4Ideal (hKernel4Ideal := Cert.Kernel4Ideal.Gen.facts)
    (hReference4Ideal := Cert.Reference4Ideal.Gen.facts) := by
  intro m g m' g' _ e
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨e0, e1, _⟩ := e c
  rw [e0, e1]
  refine cube_ext (a := 1) (b := 1024) (c := 4096) fun o i j => ?_
  obtain rfl : o = 0 := Subsingleton.elim _ _
  refine (Cert.Reference4Ideal.Value.result_at _ _ i j).trans (Eq.trans ?_ (Cert.Kernel4Ideal.Gen.array_at m c i j).symm)
  exact Finset.sum_congr rfl fun k _ => mul_comm _ _

end Cert.Proof

end
-- ==== Proof.OutDx.lean ====
/- The gradient with respect to the input of the output projection: the kernel's array and the reference's, entry by entry. -/
module

public import proofs.«01_k».proof.Defs
public import proofs.«01_k».proof.Proof.Ext
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Kernel5Ideal.Gen

open Idealize.ShloMosaic Idealize.ShloMosaic.TcCoe Idealize.ShloMosaic.Tactic Idealize.SL.Sem
open Idealize.ShloMosaic.Pipeline (Dat)

/-- One tile's entry: a row of what comes back against a row of the weights. -/
theorem tile_at (v0 : FVec Ideal S8x1x128x1024 .bf16) (v3 : FVec Ideal S1024x1024 .bf16) (a b : Fin 1024) :
    (show EReal from k0_pay1 (F := Ideal) v0 v3 (ix2 a b))
      = ∑ k : Fin 1024, (show EReal from v3 (ix2 a k)) * (show EReal from v0 (ix4 ⟨b.val / 128, by omega⟩ 0 ⟨b.val % 128, by omega⟩ k)) := by
  unfold k0_pay1
  pointwise

variable (m : (ℓ : Loc nD τ sig) → Buf (Elt Ideal) ℓ) (c : Dev nD) (t : Fin cfg0.N)

/-- The windows' block numbers at a grid point: one block of tokens a point, the weights whole. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

theorem point_lt : t.val < 4 := lt_of_lt_of_eq t.isLt N_0

/-- The block of what comes back. -/
theorem dy_tile (a k : Fin 1024) : (show EReal from iblk m c 0 t (ix2 a k))
    = m ((c : Thread nD τ).loc main_arg0) (ix2 ⟨t.val * 1024 + a.val, by have := point_lt t; omega⟩ k) := by
  blk_ext [iblk, V, idx t]

/-- The weights, whole at every point. -/
theorem w_tile (p : Fin 8) (q : Fin 128) (k : Fin 1024) : (show EReal from iblk m c 1 t (ix4 p 0 q k))
    = m ((c : Thread nD τ).loc main_arg1) (ix4 p 0 q k) := by
  blk_ext [iblk, V, idx t]

/-- The kernel's array, an entry. -/
abbrev entry (Y : FVec Ideal S4096x1024 .bf16) (W : FVec Ideal S8x1x128x1024 .bf16) (i : Fin 4096) (j : Fin 1024) : EReal :=
  ∑ k : Fin 1024, (show EReal from Y (ix2 i k)) * (show EReal from W (ix4 ⟨j.val / 128, by omega⟩ 0 ⟨j.val % 128, by omega⟩ k))

/-- What a grid point computes: the array's entry at the tile's place. -/
theorem entry_at (a b : Fin 1024) (i : Fin 4096) (j : Fin 1024) (hi : i.val = t.val * 1024 + a.val) (hj : j = b) :
    (show EReal from k0_pay1 (F := Ideal) (iblk m c 1 t) (iblk m c 0 t) (ix2 a b))
      = entry (m ((c : Thread nD τ).loc main_arg0)) (m ((c : Thread nD τ).loc main_arg1)) i j := by
  subst hj
  exact (tile_at _ _ _ _).trans (Finset.sum_congr rfl fun k _ => congrArg₂ (fun x y : EReal => x * y)
    ((dy_tile m c t a k).trans (congrArg (fun x => m ((c : Thread nD τ).loc main_arg0) (ix2 x k)) (Fin.ext hi.symm))) (w_tile m c t _ _ k))

/-- The kernel's array after the run. -/
theorem array_at (i : Fin 4096) (j : Fin 1024) : (show EReal from (dats m 0 c).arrAt 2 cfg0.N (ix2 i j))
    = entry (m ((c : Thread nD τ).loc main_arg0)) (m ((c : Thread nD τ).loc main_arg1)) i j := by
  have h := (dats m 0 c).arrAt_eq_of_covers 2
    (fun x : S4096x1024.Idx => entry (m ((c : Thread nD τ).loc main_arg0)) (m ((c : Thread nD τ).loc main_arg1)) (x 0) (x 1))
    (by decide +kernel) fun t hf y => ?_
  · exact congrFun h (ix2 i j)
  · have e0 : win0_2.index t 0 = t.val := congrFun (idx t).2.2 0
    have e1 : win0_2.index t 1 = 0 := congrFun (idx t).2.2 1
    blk_simp
    rw [after0_2]
    frame_out
    rw [eq_ix2 (n0 := 1024) (n1 := 1024) y]
    refine entry_at m c t (y 0) (y 1) _ _ ?_ (Fin.ext ?_)
    · show win0_2.index t 0 * 1024 + 1 * (y 0).val = _
      rw [e0, one_mul]
    · show win0_2.index t 1 * 1024 + 1 * (y 1).val = _
      rw [e1, zero_mul, zero_add, one_mul]

end Cert.Kernel5Ideal.Gen

namespace Cert.Reference5Ideal.Value

open Cert.Reference5Ideal Cert.Reference5Ideal.Gen Idealize.ShloMosaic Idealize.ShloMosaic.TcCoe Idealize.SL.Sem

/-- The reference's array, an entry. -/
theorem result_at (y : FVec Ideal S4096x1024 .bf16) (w : FVec Ideal S8x1x128x1024 .bf16) (i : Fin 4096) (j : Fin 1024) :
    (show EReal from Host.dotGeneral dot_S4096x1024_S1024x1024_S4096x1024_1_1_0_0_n_n none (extf .f32 y bitsLt_bf16_f32)
        (shapeCast S1024x1024 (extf .f32 w bitsLt_bf16_f32) shapeCasts_S8x1x128x1024_S1024x1024) (ix2 i j))
      = ∑ k : Fin 1024, (show EReal from y (ix2 i k)) * (show EReal from w (ix4 ⟨j.val / 128, by omega⟩ 0 ⟨j.val % 128, by omega⟩ k)) := by
  pointwise

end Cert.Reference5Ideal.Value

namespace Cert.Proof

open Idealize.ShloMosaic Idealize.ShloMosaic.TcCoe Idealize.SL.Sem

/-- The kernel and the reference end with the same gradient of the output projection's input. -/
theorem out_dx : Cert.algebraic_Kernel5Ideal_Reference5Ideal (hKernel5Ideal := Cert.Kernel5Ideal.Gen.facts)
    (hReference5Ideal := Cert.Reference5Ideal.Gen.facts) := by
  intro m g m' g' _ e
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨e0, e1⟩ := e c
  rw [e0, e1]
  exact matrix_ext (r := 4096) (c := 1024) fun i j =>
    (Cert.Reference5Ideal.Value.result_at _ _ i j).trans (Cert.Kernel5Ideal.Gen.array_at m c i j).symm

end Cert.Proof

end
-- ==== Proof.OutGrad.lean ====
/- The gradient with respect to the output projection's weights: the kernel's array and the reference's, entry by entry. -/
module

public import proofs.«01_k».proof.Defs
public import proofs.«01_k».proof.Proof.Ext
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Kernel6Ideal.Gen

open Idealize.ShloMosaic Idealize.ShloMosaic.TcCoe Idealize.ShloMosaic.Tactic Idealize.SL.Sem
open Idealize.ShloMosaic.Pipeline (Dat)

/-- One tile's entry: the product over the 4096 tokens, at row `q` of the tile's shard `p`. -/
theorem tile_at (v0 : FVec Ideal S4096x1024 .bf16) (v1 : FVec Ideal S4096x512 .bf16) (p : Fin 4) (q : Fin 128) (b : Fin 1024) :
    (show EReal from k0_pay1 (F := Ideal) v0 v1 (ix4 p 0 q b))
      = ∑ k : Fin 4096, (show EReal from v1 (ix2 k ⟨p.val * 128 + q.val, by omega⟩)) * (show EReal from v0 (ix2 k b)) := by
  unfold k0_pay1
  pointwise

variable (m : (ℓ : Loc nD τ sig) → Buf (Elt Ideal) ℓ) (c : Dev nD) (t : Fin cfg0.N)

/-- The windows' block numbers at a grid point: four shards of the weights' rows a point. -/
theorem idx : ∀ t : Fin cfg0.N, win0_0.index t = ![0, t.val] ∧ win0_1.index t = ![0, 0] ∧ win0_2.index t = ![t.val, 0, 0, 0] :=
  (by decide +kernel : ∀ t : Fin grid0.N, win0_0.index t = ![0, t.val] ∧ win0_1.index t = ![0, 0] ∧ win0_2.index t = ![t.val, 0, 0, 0])

theorem point_lt : t.val < 2 := lt_of_lt_of_eq t.isLt N_0

/-- The block of the projection's input channels. -/
theorem x_tile (k : Fin 4096) (a : Fin 512) : (show EReal from iblk m c 0 t (ix2 k a))
    = m ((c : Thread nD τ).loc main_arg0) (ix2 k ⟨t.val * 512 + a.val, by have := point_lt t; omega⟩) := by
  blk_ext [iblk, V, idx t]

/-- What comes back, whole at every point. -/
theorem dy_tile (k : Fin 4096) (b : Fin 1024) : (show EReal from iblk m c 1 t (ix2 k b)) = m ((c : Thread nD τ).loc main_arg1) (ix2 k b) := by
  blk_ext [iblk, V, idx t]

/-- The kernel's array, an entry. -/
abbrev entry (X Y : FVec Ideal S4096x1024 .bf16) (p : Fin 8) (q : Fin 128) (l : Fin 1024) : EReal :=
  ∑ k : Fin 4096, (show EReal from X (ix2 k ⟨p.val * 128 + q.val, by omega⟩)) * (show EReal from Y (ix2 k l))

/-- What a grid point computes: the array's entry at the tile's place. -/
theorem entry_at (a : Fin 4) (q : Fin 128) (b : Fin 1024) (p : Fin 8) (q' : Fin 128) (l : Fin 1024) (hp : p.val = t.val * 4 + a.val)
    (hq : q' = q) (hl : l = b) :
    (show EReal from k0_pay1 (F := Ideal) (iblk m c 1 t) (iblk m c 0 t) (ix4 a 0 q b))
      = entry (m ((c : Thread nD τ).loc main_arg0)) (m ((c : Thread nD τ).loc main_arg1)) p q' l := by
  subst hq hl
  exact (tile_at _ _ _ _ _).trans (Finset.sum_congr rfl fun k _ => congrArg₂ (fun x y : EReal => x * y)
    ((x_tile m c t k _).trans (congrArg (fun x => m ((c : Thread nD τ).loc main_arg0) (ix2 k x)) (Fin.ext (by dsimp only; omega)))) (dy_tile m c t k _))

/-- The kernel's array after the run. -/
theorem array_at (p : Fin 8) (q : Fin 128) (l : Fin 1024) : (show EReal from (dats m 0 c).arrAt 2 cfg0.N (ix4 p 0 q l))
    = entry (m ((c : Thread nD τ).loc main_arg0)) (m ((c : Thread nD τ).loc main_arg1)) p q l := by
  have h := (dats m 0 c).arrAt_eq_of_covers 2
    (fun x : S8x1x128x1024.Idx => entry (m ((c : Thread nD τ).loc main_arg0)) (m ((c : Thread nD τ).loc main_arg1)) (x 0) (x 2) (x 3))
    (by decide +kernel) fun t hf y => ?_
  · exact congrFun h (ix4 p 0 q l)
  · have e0 : win0_2.index t 0 = t.val := congrFun (idx t).2.2 0
    have e2 : win0_2.index t 2 = 0 := congrFun (idx t).2.2 2
    have e3 : win0_2.index t 3 = 0 := congrFun (idx t).2.2 3
    blk_simp
    rw [after0_2]
    unfold outsAt0
    frame_out
    rw [eq_ix4 (n0 := 4) (n1 := 1) (n2 := 128) (n3 := 1024) y]
    obtain y1 : y 1 = (0 : Fin 1) := Subsingleton.elim (α := Fin 1) _ _
    rw [y1]
    refine entry_at m c t (y 0) (y 2) (y 3) _ _ _ ?_ (Fin.ext ?_) (Fin.ext ?_)
    · show win0_2.index t 0 * 4 + 1 * (y 0).val = _
      rw [e0, one_mul]
    · show win0_2.index t 2 * 128 + 1 * (y 2).val = _
      rw [e2, zero_mul, zero_add, one_mul]
    · show win0_2.index t 3 * 1024 + 1 * (y 3).val = _
      rw [e3, zero_mul, zero_add, one_mul]

end Cert.Kernel6Ideal.Gen

namespace Cert.Reference6Ideal.Value

open Cert.Reference6Ideal Cert.Reference6Ideal.Gen Idealize.ShloMosaic Idealize.ShloMosaic.TcCoe Idealize.SL.Sem

/-- The reference's array, an entry. -/
theorem result_at (x y : FVec Ideal S4096x1024 .bf16) (p : Fin 8) (q : Fin 128) (l : Fin 1024) :
    (show EReal from shapeCast S8x1x128x1024 (truncf .bf16 (transpose S1024x1024 [1, 0] (Host.dotGeneral dot_S4096x1024_S4096x1024_S1024x1024_0_0_1_1_n_n none
        (extf .f32 y bitsLt_bf16_f32) (extf .f32 x bitsLt_bf16_f32)) transposes_S1024x1024_S1024x1024_1_0) bitsLt_bf16_f32)
        shapeCasts_S1024x1024_S8x1x128x1024 (ix4 p 0 q l))
      = ∑ k : Fin 4096, (show EReal from y (ix2 k l)) * (show EReal from x (ix2 k ⟨p.val * 128 + q.val, by omega⟩)) := by
  pointwise

end Cert.Reference6Ideal.Value

namespace Cert.Proof

open Idealize.ShloMosaic Idealize.ShloMosaic.TcCoe Idealize.SL.Sem

/-- The kernel and the reference end with the same gradient of the output projection's weights. -/
theorem out_grad : Cert.algebraic_Kernel6Ideal_Reference6Ideal (hKernel6Ideal := Cert.Kernel6Ideal.Gen.facts)
    (hReference6Ideal := Cert.Reference6Ideal.Gen.facts) := by
  intro m g m' g' _ e
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  obtain ⟨e0, e1, _⟩ := e c
  rw [e0, e1]
  refine stack_ext (a := 8) (b := 1) (c := 128) (d := 1024) fun p o q l => ?_
  obtain rfl : o = 0 := Subsingleton.elim _ _
  refine (Cert.Reference6Ideal.Value.result_at _ _ p q l).trans (Eq.trans ?_ (Cert.Kernel6Ideal.Gen.array_at m c p q l).symm)
  exact Finset.sum_congr rfl fun k _ => mul_comm _ _

end Cert.Proof

end
-- ==== Proof.Down.lean ====
/- The MLP's second product with its residual: the kernel's array and the reference's, entry by entry. -/
module

public import proofs.«01_k».proof.Defs
public import proofs.«01_k».proof.Proof.Ext
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Kernel7Ideal.Gen

open Idealize.ShloMosaic Idealize.ShloMosaic.TcCoe Idealize.ShloMosaic.Tactic Idealize.SL.Sem Idealize.ShloMosaic.StableHlo
open Idealize.ShloMosaic.Pipeline (Dat)

/-- One tile's entry: the residual, and a row of the activation against a column of the weights, over all 4096 hidden units. -/
theorem tile_at (v0 : FVec Ideal S8x1x512x1024 .bf16) (v3 : FVec Ideal S512x4096 .bf16) (v6 : FVec Ideal S512x1024 .f32) (a : Fin 512) (b : Fin 1024) :
    (show EReal from k0_pay1 (F := Ideal) v0 v3 v6 (ix2 a b)) = (show EReal from v6 (ix2 a b))
      + ∑ k : Fin 4096, (show EReal from v3 (ix2 a k)) * (show EReal from v0 (ix4 ⟨k.val / 512, by omega⟩ 0 ⟨k.val % 512, by omega⟩ b)) := by
  unfold k0_pay1
  pointwise

variable (m : (ℓ : Loc nD τ sig) → Buf (Elt Ideal) ℓ) (c : Dev nD)

/-- The windows' block numbers at a grid point: one block of tokens a point, the weights whole. -/
theorem idx : ∀ t : Fin cfg0.N, win0_0.index t = ![t.val, 0] ∧ win0_1.index t = ![0, 0, 0, 0] ∧ win0_2.index t = ![t.val, 0]
    ∧ win0_3.index t = ![t.val, 0] :=
  (by decide +kernel : ∀ t : Fin grid0.N, win0_0.index t = ![t.val, 0] ∧ win0_1.index t = ![0, 0, 0, 0] ∧ win0_2.index t = ![t.val, 0]
    ∧ win0_3.index t = ![t.val, 0])

/-- The activation, as the host lines leave it: the positive part squared. -/
theorem hidden_at (i j : Fin 4096) : (show EReal from V m c main_v2 (ix2 i j))
    = max (show EReal from m ((c : Thread nD τ).loc main_arg0) (ix2 i j)) 0 * max (show EReal from m ((c : Thread nD τ).loc main_arg0) (ix2 i j)) 0 := by
  rw [← Ideal.ofBits_zero_f32]
  have e : V m c main_v2 = (truncf .bf16 (mulf (maximumf (m ((c : Thread nD τ).loc main_arg0)) (broadcastInDim S4096x4096 ![] bcast_S_S4096x4096 (constant S_ .f32 0x00000000#32)))
      (maximumf (m ((c : Thread nD τ).loc main_arg0)) (broadcastInDim S4096x4096 ![] bcast_S_S4096x4096 (constant S_ .f32 0x00000000#32)))) bitsLt_bf16_f32 : FVec Ideal S4096x4096 .bf16) := by
    show after (List.flatten [hostOps0, hostOps0_1]) (fun b => m (c, b)) _ = _
    simp only [List.flatten_cons, List.flatten_nil, List.append_nil, List.cons_append, List.nil_append, TRef.binary, TRef.nullary, TRef.unary, TRef.toBuf, TRef.ofBuf, cast_eq]
    after_results <;> rfl
  rw [e]
  pointwise

variable (t : Fin cfg0.N)

theorem point_lt : t.val < 8 := lt_of_lt_of_eq t.isLt N_0

/-- The block of the activation. -/
theorem hidden_tile (a : Fin 512) (k : Fin 4096) : (show EReal from iblk m c 0 t (ix2 a k))
    = V m c main_v2 (ix2 ⟨t.val * 512 + a.val, by have := point_lt t; omega⟩ k) := by
  unfold iblk
  generalize V m c (Pipeline.arrRef spec0 0) = X
  blk_ext [idx t]

/-- The weights, whole at every point. -/
theorem w_tile (p : Fin 8) (q : Fin 512) (b : Fin 1024) : (show EReal from iblk m c 1 t (ix4 p 0 q b))
    = m ((c : Thread nD τ).loc main_arg1) (ix4 p 0 q b) := by
  blk_ext [iblk, V, idx t]

/-- The block of the residual. -/
theorem h_tile (a : Fin 512) (b : Fin 1024) : (show EReal from iblk m c 2 t (ix2 a b))
    = m ((c : Thread nD τ).loc main_arg2) (ix2 ⟨t.val * 512 + a.val, by have := point_lt t; omega⟩ b) := by
  blk_ext [iblk, V, idx t]

/-- The kernel's array, an entry. -/
abbrev entry (A : FVec Ideal S4096x4096 .bf16) (W : FVec Ideal S8x1x512x1024 .bf16) (H : FVec Ideal S4096x1024 .f32) (i : Fin 4096) (j : Fin 1024) : EReal :=
  (show EReal from H (ix2 i j)) + ∑ k : Fin 4096, (show EReal from A (ix2 i k)) * (show EReal from W (ix4 ⟨k.val / 512, by omega⟩ 0 ⟨k.val % 512, by omega⟩ j))

/-- What a grid point computes: the array's entry at the tile's place. -/
theorem entry_at (a : Fin 512) (b : Fin 1024) (i : Fin 4096) (j : Fin 1024) (hi : i.val = t.val * 512 + a.val) (hj : j = b) :
    (show EReal from k0_pay1 (F := Ideal) (iblk m c 1 t) (iblk m c 0 t) (iblk m c 2 t) (ix2 a b))
      = entry (V m c main_v2) (m ((c : Thread nD τ).loc main_arg1)) (m ((c : Thread nD τ).loc main_arg2)) i j := by
  subst hj
  exact (tile_at _ _ _ _ _).trans (congrArg₂ (fun x y : EReal => x + y)
    ((h_tile m c t a _).trans (congrArg (fun x => m ((c : Thread nD τ).loc main_arg2) (ix2 x _)) (Fin.ext hi.symm)))
    (Finset.sum_congr rfl fun k _ => congrArg₂ (fun x y : EReal => x * y)
      ((hidden_tile m c t a k).trans (congrArg (fun x => V m c main_v2 (ix2 x k)) (Fin.ext hi.symm))) (w_tile m c t _ _ _)))

/-- The kernel's array after the run. -/
theorem array_at (i : Fin 4096) (j : Fin 1024) : (show EReal from (dats m 0 c).arrAt 3 cfg0.N (ix2 i j))
    = entry (V m c main_v2) (m ((c : Thread nD τ).loc main_arg1)) (m ((c : Thread nD τ).loc main_arg2)) i j := by
  have h := (dats m 0 c).arrAt_eq_of_covers 3
    (fun x : S4096x1024.Idx => entry (V m c main_v2) (m ((c : Thread nD τ).loc main_arg1)) (m ((c : Thread nD τ).loc main_arg2)) (x 0) (x 1))
    (by decide +kernel) fun t hf y => ?_
  · exact congrFun h (ix2 i j)
  · generalize hA : V m c main_v2 = A
    have e0 : win0_3.index t 0 = t.val := congrFun (idx t).2.2.2 0
    have e1 : win0_3.index t 1 = 0 := congrFun (idx t).2.2.2 1
    blk_simp
    rw [after0_3]
    frame_out
    rw [eq_ix2 (n0 := 512) (n1 := 1024) y]
    subst hA
    refine entry_at m c t (y 0) (y 1) _ _ ?_ (Fin.ext ?_)
    · show win0_3.index t 0 * 512 + 1 * (y 0).val = _
      rw [e0, one_mul]
    · show win0_3.index t 1 * 1024 + 1 * (y 1).val = _
      rw [e1, zero_mul, zero_add, one_mul]

end Cert.Kernel7Ideal.Gen

namespace Cert.Reference7Ideal.Value

open Cert.Reference7Ideal Cert.Reference7Ideal.Gen Idealize.ShloMosaic Idealize.ShloMosaic.TcCoe Idealize.SL.Sem

/-- The reference's array, an entry. -/
theorem result_at (u : FVec Ideal S4096x4096 .f32) (w : FVec Ideal S8x1x512x1024 .bf16) (h : FVec Ideal S4096x1024 .f32) (i : Fin 4096) (j : Fin 1024) :
    (show EReal from addf h (Host.dotGeneral dot_S4096x4096_S4096x1024_S4096x1024_1_0_0_1_n_n none
        (mulf (maximumf u (broadcastInDim S4096x4096 ![] bcast_S_S4096x4096 (constant S_ .f32 0x00000000#32)))
          (maximumf u (broadcastInDim S4096x4096 ![] bcast_S_S4096x4096 (constant S_ .f32 0x00000000#32))))
        (shapeCast S4096x1024 (extf .f32 w bitsLt_bf16_f32) shapeCasts_S8x1x512x1024_S4096x1024)) (ix2 i j))
      = (show EReal from h (ix2 i j)) + ∑ k : Fin 4096, max (show EReal from u (ix2 i k)) 0 * max (show EReal from u (ix2 i k)) 0
          * (show EReal from w (ix4 ⟨k.val / 512, by omega⟩ 0 ⟨k.val % 512, by omega⟩ j)) := by
  rw [← Ideal.ofBits_zero_f32]
  pointwise

end Cert.Reference7Ideal.Value

namespace Cert.Proof

open Idealize.ShloMosaic Idealize.ShloMosaic.TcCoe Idealize.SL.Sem

/-- The kernel and the reference end with the same result of the MLP. -/
theorem down : Cert.algebraic_Kernel7Ideal_Reference7Ideal (hKernel7Ideal := Cert.Kernel7Ideal.Gen.facts)
    (hReference7Ideal := Cert.Reference7Ideal.Gen.facts) := by
  intro m g m' g' _ e
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run (F := Ideal) m' g')
  obtain ⟨e0, e1, e2⟩ := e c
  rw [e0, e1, e2]
  refine matrix_ext (r := 4096) (c := 1024) fun i j => ?_
  refine (Cert.Reference7Ideal.Value.result_at _ _ _ i j).trans (Eq.trans ?_ (Cert.Kernel7Ideal.Gen.array_at m c i j).symm)
  exact congrArg (fun y : EReal => _ + y) (Finset.sum_congr rfl fun k _ => congrArg (fun y : EReal => y * _) (Cert.Kernel7Ideal.Gen.hidden_at m c i k).symm)

end Cert.Proof

end
-- ==== Proof.OutProj.lean ====
/- The output projection with its residual: the kernel's array and the reference's, entry by entry. -/
module

public import proofs.«01_k».proof.Defs
public import proofs.«01_k».proof.Proof.Ext
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Kernel8Ideal.Gen

open Idealize.ShloMosaic Idealize.ShloMosaic.TcCoe Idealize.ShloMosaic.Tactic Idealize.SL.Sem
open Idealize.ShloMosaic.Pipeline (Dat)

/-- One tile's entry: the residual, and a row of the input against a column of the weights. -/
theorem tile_at (v0 : FVec Ideal S8x1x128x1024 .bf16) (v3 : FVec Ideal S1024x1024 .bf16) (v5 : FVec Ideal S1024x1024 .f32) (a b : Fin 1024) :
    (show EReal from k0_pay1 (F := Ideal) v0 v3 v5 (ix2 a b)) = (show EReal from v5 (ix2 a b))
      + ∑ k : Fin 1024, (show EReal from v3 (ix2 a k)) * (show EReal from v0 (ix4 ⟨k.val / 128, by omega⟩ 0 ⟨k.val % 128, by omega⟩ b)) := by
  unfold k0_pay1
  pointwise

variable (m : (ℓ : Loc nD τ sig) → Buf (Elt Ideal) ℓ) (c : Dev nD) (t : Fin cfg0.N)

/-- The windows' block numbers at a grid point: one block of tokens a point, the weights whole. -/
theorem idx : ∀ t : Fin cfg0.N, win0_0.index t = ![t.val, 0] ∧ win0_1.index t = ![0, 0, 0, 0] ∧ win0_2.index t = ![t.val, 0]
    ∧ win0_3.index t = ![t.val, 0] :=
  (by decide +kernel : ∀ t : Fin grid0.N, win0_0.index t = ![t.val, 0] ∧ win0_1.index t = ![0, 0, 0, 0] ∧ win0_2.index t = ![t.val, 0]
    ∧ win0_3.index t = ![t.val, 0])

theorem point_lt : t.val < 4 := lt_of_lt_of_eq t.isLt N_0

/-- The block of the projection's input. -/
theorem x_tile (a k : Fin 1024) : (show EReal from iblk m c 0 t (ix2 a k))
    = m ((c : Thread nD τ).loc main_arg0) (ix2 ⟨t.val * 1024 + a.val, by have := point_lt t; omega⟩ k) := by
  blk_ext [iblk, V, idx t]

/-- The weights, whole at every point. -/
theorem w_tile (p : Fin 8) (q : Fin 128) (b : Fin 1024) : (show EReal from iblk m c 1 t (ix4 p 0 q b))
    = m ((c : Thread nD τ).loc main_arg1) (ix4 p 0 q b) := by
  blk_ext [iblk, V, idx t]

/-- The block of the residual. -/
theorem h_tile (a b : Fin 1024) : (show EReal from iblk m c 2 t (ix2 a b))
    = m ((c : Thread nD τ).loc main_arg2) (ix2 ⟨t.val * 1024 + a.val, by have := point_lt t; omega⟩ b) := by
  blk_ext [iblk, V, idx t]

/-- The kernel's array, an entry. -/
abbrev entry (X : FVec Ideal S4096x1024 .bf16) (W : FVec Ideal S8x1x128x1024 .bf16) (H : FVec Ideal S4096x1024 .f32) (i : Fin 4096) (j : Fin 1024) : EReal :=
  (show EReal from H (ix2 i j)) + ∑ k : Fin 1024, (show EReal from X (ix2 i k)) * (show EReal from W (ix4 ⟨k.val / 128, by omega⟩ 0 ⟨k.val % 128, by omega⟩ j))

/-- What a grid point computes: the array's entry at the tile's place. -/
theorem entry_at (a b : Fin 1024) (i : Fin 4096) (j : Fin 1024) (hi : i.val = t.val * 1024 + a.val) (hj : j = b) :
    (show EReal from k0_pay1 (F := Ideal) (iblk m c 1 t) (iblk m c 0 t) (iblk m c 2 t) (ix2 a b))
      = entry (m ((c : Thread nD τ).loc main_arg0)) (m ((c : Thread nD τ).loc main_arg1)) (m ((c : Thread nD τ).loc main_arg2)) i j := by
  subst hj
  exact (tile_at _ _ _ _ _).trans (congrArg₂ (fun x y : EReal => x + y)
    ((h_tile m c t a _).trans (congrArg (fun x => m ((c : Thread nD τ).loc main_arg2) (ix2 x _)) (Fin.ext hi.symm)))
    (Finset.sum_congr rfl fun k _ => congrArg₂ (fun x y : EReal => x * y)
      ((x_tile m c t a k).trans (congrArg (fun x => m ((c : Thread nD τ).loc main_arg0) (ix2 x k)) (Fin.ext hi.symm))) (w_tile m c t _ _ _)))

/-- The kernel's array after the run. -/
theorem array_at (i : Fin 4096) (j : Fin 1024) : (show EReal from (dats m 0 c).arrAt 3 cfg0.N (ix2 i j))
    = entry (m ((c : Thread nD τ).loc main_arg0)) (m ((c : Thread nD τ).loc main_arg1)) (m ((c : Thread nD τ).loc main_arg2)) i j := by
  have h := (dats m 0 c).arrAt_eq_of_covers 3
    (fun x : S4096x1024.Idx => entry (m ((c : Thread nD τ).loc main_arg0)) (m ((c : Thread nD τ).loc main_arg1)) (m ((c : Thread nD τ).loc main_arg2)) (x 0) (x 1))
    (by decide +kernel) fun t hf y => ?_
  · exact congrFun h (ix2 i j)
  · have e0 : win0_3.index t 0 = t.val := congrFun (idx t).2.2.2 0
    have e1 : win0_3.index t 1 = 0 := congrFun (idx t).2.2.2 1
    blk_simp
    rw [after0_3]
    frame_out
    rw [eq_ix2 (n0 := 1024) (n1 := 1024) y]
    refine entry_at m c t (y 0) (y 1) _ _ ?_ (Fin.ext ?_)
    · show win0_3.index t 0 * 1024 + 1 * (y 0).val = _
      rw [e0, one_mul]
    · show win0_3.index t 1 * 1024 + 1 * (y 1).val = _
      rw [e1, zero_mul, zero_add, one_mul]

end Cert.Kernel8Ideal.Gen

namespace Cert.Reference8Ideal.Value

open Cert.Reference8Ideal Cert.Reference8Ideal.Gen Idealize.ShloMosaic Idealize.ShloMosaic.TcCoe Idealize.SL.Sem

/-- The reference's array, an entry. -/
theorem result_at (x : FVec Ideal S4096x1024 .bf16) (w : FVec Ideal S8x1x128x1024 .bf16) (h : FVec Ideal S4096x1024 .f32) (i : Fin 4096) (j : Fin 1024) :
    (show EReal from addf h (Host.dotGeneral dot_S4096x1024_S1024x1024_S4096x1024_1_0_0_1_n_n none (extf .f32 x bitsLt_bf16_f32)
        (shapeCast S1024x1024 (extf .f32 w bitsLt_bf16_f32) shapeCasts_S8x1x128x1024_S1024x1024)) (ix2 i j))
      = (show EReal from h (ix2 i j)) + ∑ k : Fin 1024, (show EReal from x (ix2 i k)) * (show EReal from w (ix4 ⟨k.val / 128, by omega⟩ 0 ⟨k.val % 128, by omega⟩ j)) := by
  pointwise

end Cert.Reference8Ideal.Value

namespace Cert.Proof

open Idealize.ShloMosaic Idealize.ShloMosaic.TcCoe Idealize.SL.Sem

/-- The kernel and the reference end with the same output projection. -/
theorem out_proj : Cert.algebraic_Kernel8Ideal_Reference8Ideal (hKernel8Ideal := Cert.Kernel8Ideal.Gen.facts)
    (hReference8Ideal := Cert.Reference8Ideal.Gen.facts) := by
  intro m g m' g' _ e
  refine ⟨fun c => (Cert.Kernel8Ideal.Gen.dats m 0 c).arrAt 3 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run (F := Ideal) m' g')
  obtain ⟨e0, e1, e2⟩ := e c
  rw [e0, e1, e2]
  exact matrix_ext (r := 4096) (c := 1024) fun i j =>
    (Cert.Reference8Ideal.Value.result_at _ _ _ i j).trans (Cert.Kernel8Ideal.Gen.array_at m c i j).symm

end Cert.Proof

end
-- ==== Proof.Rms.lean ====
/- A row's root-mean-square scale, as the kernels and the references compute it. -/
module

public import Idealize.ShloMosaic.Lib.Pointwise

@[expose] public section

noncomputable section

namespace Cert.Rms

open Idealize.ShloMosaic

/-- One over the root of the row's mean square, which is kept off zero by a small constant. -/
def scale (row : Fin 1024 → EReal) : EReal :=
  Ideal.rsqrt (Ideal.div (∑ k, row k * row k) (Ideal.ofBits .f32 0x44800000#32) + Ideal.ofBits .f32 0x358637BD#32)

/-- The row normed and scaled by the gains `g`, an entry. -/
def normed (row g : Fin 1024 → EReal) (k : Fin 1024) : EReal := row k * scale row * g k

end Cert.Rms

end
-- ==== Proof.InProj.lean ====
/- The norm and the input projection: the kernel's two arrays and the reference's, entry by entry. -/
module

public import proofs.«01_k».proof.Defs
public import proofs.«01_k».proof.Proof.Ext
public import proofs.«01_k».proof.Proof.Rms
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384

noncomputable section

namespace Cert.Kernel9Ideal.Gen

open Idealize.ShloMosaic Idealize.ShloMosaic.TcCoe Idealize.ShloMosaic.Tactic Idealize.SL.Sem Idealize.ShloMosaic.StableHlo
open Idealize.ShloMosaic.Pipeline (Dat)

/-- One tile's normed entry. -/
theorem norm_at (x : FVec Ideal S1024x1024 .f32) (g : FVec Ideal S1x1024 .f32) (a k : Fin 1024) :
    (show EReal from k0_pay1 (F := Ideal) x g (ix2 a k))
      = Cert.Rms.normed (fun l => (show EReal from x (ix2 a l))) (fun l => (show EReal from g (ix2 0 l))) k := by
  unfold k0_pay1 Cert.Rms.normed Cert.Rms.scale
  pointwise

/-- One tile's product: a normed row against a column of the weights. -/
theorem tile_at (x : FVec Ideal S1024x1024 .bf16) (w : FVec Ideal S8x1x128x1024 .bf16) (a b : Fin 1024) :
    (show EReal from k0_pay2 (F := Ideal) x w (ix2 a b))
      = ∑ k : Fin 1024, (show EReal from x (ix2 a k)) * (show EReal from w (ix4 ⟨k.val / 128, by omega⟩ 0 ⟨k.val % 128, by omega⟩ b)) := by
  unfold k0_pay2
  pointwise

variable (m : (ℓ : Loc nD τ sig) → Buf (Elt Ideal) ℓ) (c : Dev nD)

/-- The gains, as the host line leaves them: one row. -/
theorem gain_at (k : Fin 1024) : (show EReal from V m c main_v0 (ix2 0 k)) = m ((c : Thread nD τ).loc main_arg1) (ix1 k) := by
  have e : V m c main_v0 = (shapeCast S1x1024 (m ((c : Thread nD τ).loc main_arg1) : FVec Ideal S1024 .f32) shapeCasts_S1024_S1x1024 : FVec Ideal S1x1024 .f32) := by
    show after (List.flatten [hostOps0]) (fun b => m (c, b)) _ = _
    simp only [List.flatten_cons, List.flatten_nil, List.append_nil]
    after_results <;> rfl
  rw [e]
  pointwise

variable (t : Fin cfg0.N)

/-- The windows' block numbers at a grid point: one block of tokens a point, gains and weights whole. -/
theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0, 0, 0]
    ∧ win0_3.index t = ![t.val, 0] ∧ win0_4.index t = ![t.val, 0])

theorem point_lt : t.val < 4 := lt_of_lt_of_eq t.isLt N_0

/-- The block of tokens. -/
theorem x_tile (a k : Fin 1024) : (show EReal from iblk m c 0 t (ix2 a k))
    = m ((c : Thread nD τ).loc main_arg0) (ix2 ⟨t.val * 1024 + a.val, by have := point_lt t; omega⟩ k) := by
  blk_ext [iblk, V, idx t]

/-- The gains, whole at every point. -/
theorem gain_tile (k : Fin 1024) : (show EReal from iblk m c 1 t (ix2 0 k)) = m ((c : Thread nD τ).loc main_arg1) (ix1 k) := by
  refine Eq.trans ?_ (gain_at m c k)
  unfold iblk
  generalize V m c (Pipeline.arrRef spec0 1) = X
  blk_ext [idx t]

/-- The weights, whole at every point. -/
theorem w_tile (p : Fin 8) (q : Fin 128) (b : Fin 1024) : (show EReal from iblk m c 2 t (ix4 p 0 q b))
    = m ((c : Thread nD τ).loc main_arg2) (ix4 p 0 q b) := by
  blk_ext [iblk, V, idx t]

/-- The normed array, an entry. -/
abbrev entryN (X : FVec Ideal S4096x1024 .f32) (G : FVec Ideal S1024 .f32) (i : Fin 4096) (k : Fin 1024) : EReal :=
  Cert.Rms.normed (fun l => (show EReal from X (ix2 i l))) (fun l => (show EReal from G (ix1 l))) k

/-- The projected array, an entry. -/
abbrev entry (X : FVec Ideal S4096x1024 .f32) (G : FVec Ideal S1024 .f32) (W : FVec Ideal S8x1x128x1024 .bf16) (i : Fin 4096) (j : Fin 1024) : EReal :=
  ∑ k : Fin 1024, entryN X G i k * (show EReal from W (ix4 ⟨k.val / 128, by omega⟩ 0 ⟨k.val % 128, by omega⟩ j))

/-- What a grid point leaves in the normed array's block. -/
theorem entryN_at (a k : Fin 1024) (i : Fin 4096) (k' : Fin 1024) (hi : i.val = t.val * 1024 + a.val) (hk : k' = k) :
    (show EReal from k0_pay1 (F := Ideal) (iblk m c 0 t) (iblk m c 1 t) (ix2 a k))
      = entryN (m ((c : Thread nD τ).loc main_arg0)) (m ((c : Thread nD τ).loc main_arg1)) i k' := by
  subst hk
  exact (norm_at _ _ _ _).trans (congrArg₂ (fun x g => Cert.Rms.normed x g _)
    (funext fun l => (x_tile m c t a l).trans (congrArg (fun x => m ((c : Thread nD τ).loc main_arg0) (ix2 x l)) (Fin.ext hi.symm)))
    (funext fun l => gain_tile m c t l))

/-- What a grid point leaves in the projected array's block. -/
theorem entry_at (a b : Fin 1024) (i : Fin 4096) (j : Fin 1024) (hi : i.val = t.val * 1024 + a.val) (hj : j = b) :
    (show EReal from k0_pay2 (F := Ideal) (k0_pay1 (F := Ideal) (iblk m c 0 t) (iblk m c 1 t)) (iblk m c 2 t) (ix2 a b))
      = entry (m ((c : Thread nD τ).loc main_arg0)) (m ((c : Thread nD τ).loc main_arg1)) (m ((c : Thread nD τ).loc main_arg2)) i j := by
  subst hj
  exact (tile_at _ _ _ _).trans (Finset.sum_congr rfl fun k _ => congrArg₂ (fun x y : EReal => x * y)
    (entryN_at m c t a k i k hi rfl) (w_tile m c t _ _ _))

/-- The normed array after the run. -/
theorem arrayN_at (i : Fin 4096) (k : Fin 1024) : (show EReal from (dats m 0 c).arrAt 3 cfg0.N (ix2 i k))
    = entryN (m ((c : Thread nD τ).loc main_arg0)) (m ((c : Thread nD τ).loc main_arg1)) i k := by
  have h := (dats m 0 c).arrAt_eq_of_covers 3
    (fun x : S4096x1024.Idx => entryN (m ((c : Thread nD τ).loc main_arg0)) (m ((c : Thread nD τ).loc main_arg1)) (x 0) (x 1))
    (by decide +kernel) fun t hf y => ?_
  · exact congrFun h (ix2 i k)
  · have e0 : win0_3.index t 0 = t.val := congrFun (idx t).2.2.2.1 0
    have e1 : win0_3.index t 1 = 0 := congrFun (idx t).2.2.2.1 1
    blk_simp
    rw [after0_3]
    unfold outsAt0
    frame_out
    rw [eq_ix2 (n0 := 1024) (n1 := 1024) y]
    refine entryN_at m c t (y 0) (y 1) _ _ ?_ (Fin.ext ?_)
    · show win0_3.index t 0 * 1024 + 1 * (y 0).val = _
      rw [e0, one_mul]
    · show win0_3.index t 1 * 1024 + 1 * (y 1).val = _
      rw [e1, zero_mul, zero_add, one_mul]

/-- The projected array after the run. -/
theorem array_at (i : Fin 4096) (j : Fin 1024) : (show EReal from (dats m 0 c).arrAt 4 cfg0.N (ix2 i j))
    = entry (m ((c : Thread nD τ).loc main_arg0)) (m ((c : Thread nD τ).loc main_arg1)) (m ((c : Thread nD τ).loc main_arg2)) i j := by
  have h := (dats m 0 c).arrAt_eq_of_covers 4
    (fun x : S4096x1024.Idx => entry (m ((c : Thread nD τ).loc main_arg0)) (m ((c : Thread nD τ).loc main_arg1)) (m ((c : Thread nD τ).loc main_arg2)) (x 0) (x 1))
    (by decide +kernel) fun t hf y => ?_
  · exact congrFun h (ix2 i j)
  · have e0 : win0_4.index t 0 = t.val := congrFun (idx t).2.2.2.2 0
    have e1 : win0_4.index t 1 = 0 := congrFun (idx t).2.2.2.2 1
    blk_simp
    rw [after0_4]
    unfold outsAt0
    frame_out
    rw [eq_ix2 (n0 := 1024) (n1 := 1024) y]
    refine entry_at m c t (y 0) (y 1) _ _ ?_ (Fin.ext ?_)
    · show win0_4.index t 0 * 1024 + 1 * (y 0).val = _
      rw [e0, one_mul]
    · show win0_4.index t 1 * 1024 + 1 * (y 1).val = _
      rw [e1, zero_mul, zero_add, one_mul]

end Cert.Kernel9Ideal.Gen

namespace Cert.Reference9Ideal.Value

open Cert.Reference9Ideal Cert.Reference9Ideal.Gen Idealize.ShloMosaic Idealize.ShloMosaic.TcCoe Idealize.SL.Sem

/-- The reference's normed tokens, before the rounding. -/
abbrev norm (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
      (Host.reduceAdd (mulf x x) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- The reference's normed array, an entry. -/
theorem norm_at (x : FVec Ideal S4096x1024 .f32) (g : FVec Ideal S1024 .f32) (i : Fin 4096) (k : Fin 1024) :
    (show EReal from norm x g (ix2 i k)) = Cert.Rms.normed (fun l => (show EReal from x (ix2 i l))) (fun l => (show EReal from g (ix1 l))) k := by
  unfold Cert.Rms.normed Cert.Rms.scale norm
  pointwise

/-- The reference's product, from the normed array `n`. -/
theorem result_at (n : FVec Ideal S4096x1024 .f32) (w : FVec Ideal S8x1x128x1024 .bf16) (i : Fin 4096) (j : Fin 1024) :
    (show EReal from Host.dotGeneral dot_S4096x1024_S1024x1024_S4096x1024_1_0_0_1_n_n none n
        (shapeCast S1024x1024 (extf .f32 w bitsLt_bf16_f32) shapeCasts_S8x1x128x1024_S1024x1024) (ix2 i j))
      = ∑ k : Fin 1024, (show EReal from n (ix2 i k)) * (show EReal from w (ix4 ⟨k.val / 128, by omega⟩ 0 ⟨k.val % 128, by omega⟩ j)) := by
  pointwise

end Cert.Reference9Ideal.Value

namespace Cert.Proof

open Idealize.ShloMosaic Idealize.ShloMosaic.TcCoe Idealize.SL.Sem

/-- The kernel and the reference end with the same normed tokens and the same projection. -/
theorem in_proj : Cert.algebraic_Kernel9Ideal_Reference9Ideal (hKernel9Ideal := Cert.Kernel9Ideal.Gen.facts)
    (hReference9Ideal := Cert.Reference9Ideal.Gen.facts) := by
  intro m g m' g' _ e
  refine ⟨fun c => (Cert.Kernel9Ideal.Gen.dats m 0 c).arrAt 3 Cert.Kernel9Ideal.cfg0.N, fun c => (Cert.Kernel9Ideal.Gen.dats m 0 c).arrAt 4 Cert.Kernel9Ideal.cfg0.N,
    Cert.Kernel9Ideal.Value.run_blocks m g, ?_⟩
  refine (θ_run Cert.Reference9Ideal.defs _ _).mono (fun r h c => ⟨(h c).1.trans ?_, (h c).2.1.trans ?_, (h c).2.2⟩) (Cert.Reference9Ideal.Value.run (F := Ideal) m' g')
  · obtain ⟨e0, e1, e2⟩ := e c
    rw [e0, e1]
    exact matrix_ext (r := 4096) (c := 1024) fun i k =>
      (Cert.Reference9Ideal.Value.norm_at _ _ i k).trans (Cert.Kernel9Ideal.Gen.arrayN_at m c i k).symm
  · obtain ⟨e0, e1, e2⟩ := e c
    rw [e0, e1, e2]
    refine matrix_ext (r := 4096) (c := 1024) fun i j => ?_
    refine (Cert.Reference9Ideal.Value.result_at _ _ i j).trans (Eq.trans ?_ (Cert.Kernel9Ideal.Gen.array_at m c i j).symm)
    exact Finset.sum_congr rfl fun k _ => congrArg (fun y : EReal => y * _) (Cert.Reference9Ideal.Value.norm_at _ _ i k)

end Cert.Proof

end
-- ==== Proof.RmsGrad.lean ====
/- The gradient of a normed row, as the kernel computes it and as the derivative spells it: they are the same extended real, whatever
   the entries. -/
module

public import proofs.«01_k».proof.Proof.Rms

@[expose] public section

noncomputable section

namespace Cert.Rms

open Idealize.ShloMosaic

/-- The row's mean square, kept off zero. -/
def mean (row : Fin 1024 → EReal) : EReal :=
  Ideal.div (∑ k, row k * row k) (Ideal.ofBits .f32 0x44800000#32) + Ideal.ofBits .f32 0x358637BD#32

theorem scale_eq (row : Fin 1024 → EReal) : scale row = Ideal.rsqrt (mean row) := rfl

/-- The kernel's form, from what comes back to the normed row, `e`: its part along the row taken off, then scaled. -/
def dxKernel (row e : Fin 1024 → EReal) (k : Fin 1024) : EReal :=
  scale row * (e k - row k * scale row * Ideal.div (∑ l, e l * (row l * scale row)) (Ideal.ofBits .f32 0x44800000#32))

/-- What the derivative sends back through the scale to the row's squares: half of it. -/
def half (row e : Fin 1024 → EReal) : EReal :=
  Ideal.div ((∑ l, row l * e l) * (Ideal.ofBits .f32 0xBF000000#32 * Ideal.div (scale row) (mean row))) (Ideal.ofBits .f32 0x44800000#32)

/-- The derivative's form. -/
def dxReference (row e : Fin 1024 → EReal) (k : Fin 1024) : EReal :=
  e k * scale row + row k * half row e + half row e * row k

/-- The number of channels, from its word. -/
theorem word_channels : Ideal.ofBits .f32 0x44800000#32 = ((1024 : ℝ) : EReal) := by
  simp [Ideal.ofBits, Ideal.ieee]
  rw [← EReal.coe_mul, show (8388608 : ℝ) * (2 ^ 13)⁻¹ = 1024 by norm_num]

/-- Minus one half, from its word. -/
theorem word_half : Ideal.ofBits .f32 0xBF000000#32 = ((-(1 / 2) : ℝ) : EReal) := by
  simp [Ideal.ofBits, Ideal.ieee]
  rw [← EReal.coe_mul]
  norm_num

/-- The small constant is a positive real number. -/
theorem word_small : ∃ p : ℝ, 0 < p ∧ Ideal.ofBits .f32 0x358637BD#32 = (p : EReal) := by
  refine ⟨8796093 * (2 ^ 43)⁻¹, by norm_num, ?_⟩
  simp [Ideal.ofBits, Ideal.ieee]

theorem div_coe (x : EReal) {r : ℝ} (h : r ≠ 0) : Ideal.div x (r : EReal) = x * ((r⁻¹ : ℝ) : EReal) := by
  unfold Ideal.div
  rw [if_neg (by exact_mod_cast h), EReal.coe_inv]

theorem div_top (x : EReal) : Ideal.div x ⊤ = 0 := by
  unfold Ideal.div
  rw [if_neg (by simp), EReal.inv_top, mul_zero]

theorem sq_nonneg (x : EReal) : 0 ≤ x * x := by
  induction x with
  | bot => simp
  | top => simp
  | coe r => exact_mod_cast mul_self_nonneg r

/-- The mean square is positive. -/
theorem mean_pos (row : Fin 1024 → EReal) : 0 < mean row := by
  obtain ⟨p, hp, e⟩ := word_small
  unfold mean
  rw [word_channels, div_coe _ (by norm_num), e]
  refine lt_of_lt_of_le (EReal.coe_pos.2 hp) ?_
  refine le_add_of_nonneg_left (mul_nonneg (Finset.sum_nonneg fun k _ => sq_nonneg _) ?_)
  exact_mod_cast (by norm_num : (0 : ℝ) ≤ 1024⁻¹)

/-- A nonnegative real factor is taken out of a sum of any extended reals. -/
theorem sum_mul_coe {ι : Type} (s : Finset ι) (f : ι → EReal) {r : ℝ} (h : 0 ≤ r) : ∑ l ∈ s, f l * (r : EReal) = (∑ l ∈ s, f l) * (r : EReal) := by
  classical
  induction s using Finset.induction_on with
  | empty => simp
  | insert a s ha ih =>
    rw [Finset.sum_insert ha, Finset.sum_insert ha, ih]
    exact (EReal.right_distrib_of_nonneg_of_ne_top (EReal.coe_nonneg.2 h) (EReal.coe_ne_top r) _ _).symm

/-- Twice the negative half is the negative whole. -/
theorem neg_halves (x : EReal) {r : ℝ} (h : 0 ≤ r) : x * ((-(r / 2) : ℝ) : EReal) + x * ((-(r / 2) : ℝ) : EReal) = -(x * (r : EReal)) := by
  have h2 : (0 : EReal) ≤ ((r / 2 : ℝ) : EReal) := EReal.coe_nonneg.2 (by linarith)
  have e : x * (r : EReal) = x * ((r / 2 : ℝ) : EReal) + x * ((r / 2 : ℝ) : EReal) := by
    rw [← EReal.left_distrib_of_nonneg h2 h2, ← EReal.coe_add, add_halves]
  rw [EReal.coe_neg, mul_neg, e, EReal.neg_add, sub_eq_add_neg]
  · by_cases hb : x * ((r / 2 : ℝ) : EReal) = ⊥
    · right; rw [hb]; simp
    · left; exact hb
  · by_cases hb : x * ((r / 2 : ℝ) : EReal) = ⊤
    · right; rw [hb]; simp
    · left; exact hb

/-- The two forms agree. -/
theorem dx_eq (row e : Fin 1024 → EReal) (k : Fin 1024) : dxReference row e k = dxKernel row e k := by
  unfold dxReference dxKernel half
  rw [scale_eq, word_channels, word_half]
  have hpos := mean_pos row
  generalize mean row = v at hpos ⊢
  induction v with
  | bot => simp at hpos
  | top =>
    rw [div_top, show Ideal.rsqrt ⊤ = 0 from rfl, mul_zero, mul_zero, mul_zero, zero_mul, div_coe _ (by norm_num), zero_mul, mul_zero, zero_mul,
      add_zero, add_zero]
  | coe c =>
    have hc : 0 < c := EReal.coe_pos.1 hpos
    have hr : Ideal.rsqrt (c : EReal) = (((Real.sqrt c)⁻¹ : ℝ) : EReal) := by
      show (if c < 0 then (⊥ : EReal) else if c = 0 then ⊤ else (((Real.sqrt c)⁻¹ : ℝ) : EReal)) = _
      rw [if_neg (not_lt.2 hc.le), if_neg hc.ne']
    have hρ : (Real.sqrt c)⁻¹ * (Real.sqrt c)⁻¹ = c⁻¹ := by rw [← mul_inv, Real.mul_self_sqrt hc.le]
    have hρ0 : 0 ≤ (Real.sqrt c)⁻¹ := inv_nonneg.2 (Real.sqrt_nonneg c)
    rw [hr]
    generalize (Real.sqrt c)⁻¹ = ρ at hρ hρ0 ⊢
    rw [div_coe _ hc.ne', div_coe _ (by norm_num), div_coe _ (by norm_num)]
    have hs : ∑ l, e l * (row l * (ρ : EReal)) = (∑ l, row l * e l) * (ρ : EReal) := by
      rw [← sum_mul_coe _ _ hρ0]
      exact Finset.sum_congr rfl fun l _ => by rw [← mul_assoc, mul_comm (e l)]
    rw [hs]
    generalize ∑ l, row l * e l = S
    have hT : S * (((-(1 / 2) : ℝ) : EReal) * ((ρ : EReal) * ((c⁻¹ : ℝ) : EReal))) * (((1024 : ℝ)⁻¹ : ℝ) : EReal)
        = S * ((-(ρ * c⁻¹ * 1024⁻¹ / 2) : ℝ) : EReal) := by
      rw [mul_assoc]
      norm_cast
      congr 2
      ring
    have hM : row k * (ρ : EReal) * (S * (ρ : EReal) * (((1024 : ℝ)⁻¹ : ℝ) : EReal)) = row k * S * ((c⁻¹ * 1024⁻¹ : ℝ) : EReal) := by
      rw [← hρ, EReal.coe_mul, EReal.coe_mul]
      ac_rfl
    have hρ3 : 0 ≤ ρ * c⁻¹ * 1024⁻¹ := mul_nonneg (mul_nonneg hρ0 (inv_nonneg.2 hc.le)) (by norm_num)
    rw [hT, hM, mul_comm (S * _) (row k), ← mul_assoc, add_assoc, neg_halves _ hρ3, sub_eq_add_neg,
      EReal.left_distrib_of_nonneg_of_ne_top (EReal.coe_nonneg.2 hρ0) (EReal.coe_ne_top ρ), mul_neg, mul_comm (e k)]
    congr 2
    rw [mul_comm (ρ : EReal), mul_assoc (row k * S), ← EReal.coe_mul]
    congr 2
    ring

end Cert.Rms

end
-- ==== Proof.UpDx.lean ====
/- The gradient through the MLP's first product and its norm: the kernel's three arrays and the reference's, entry by entry. -/
module

public import proofs.«01_k».proof.Defs
public import proofs.«01_k».proof.Proof.Ext
public import proofs.«01_k».proof.Proof.RmsGrad
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit

@[expose] public section

set_option maxRecDepth 16384

noncomputable section

namespace Cert.Kernel10Ideal.Gen

open Idealize.ShloMosaic Idealize.ShloMosaic.TcCoe Idealize.ShloMosaic.Tactic Idealize.SL.Sem Idealize.ShloMosaic.StableHlo
open Idealize.ShloMosaic.Pipeline (Dat)

/-- What comes back to the normed row, an entry: a row of `d` against a row of the weights. -/
theorem back_at (d : FVec Ideal S512x4096 .bf16) (w : FVec Ideal S1x1024x4096 .bf16) (a : Fin 512) (b : Fin 1024) :
    (show EReal from k0_pay3 (F := Ideal) d w (ix2 a b)) = ∑ k : Fin 4096, (show EReal from d (ix2 a k)) * (show EReal from w (ix3 0 b k)) := by
  unfold k0_pay3
  pointwise

/-- The same with the gains. -/
theorem gained_at (d : FVec Ideal S512x4096 .bf16) (w : FVec Ideal S1x1024x4096 .bf16) (g : FVec Ideal S1x1024 .f32) (a : Fin 512) (b : Fin 1024) :
    (show EReal from k0_pay8 (F := Ideal) d w g (ix2 a b)) = (show EReal from k0_pay3 (F := Ideal) d w (ix2 a b)) * (show EReal from g (ix2 0 b)) := by
  unfold k0_pay8
  generalize k0_pay3 (F := Ideal) d w = D
  pointwise

/-- A row's scale. -/
theorem scale_at (x : FVec Ideal S512x1024 .f32) (a : Fin 512) :
    (show EReal from k0_pay4 (F := Ideal) x (ix2 a 0)) = Cert.Rms.scale fun l => (show EReal from x (ix2 a l)) := by
  unfold k0_pay4 Cert.Rms.scale
  pointwise

/-- A scaled row's entry. -/
theorem scaled_at (x : FVec Ideal S512x1024 .f32) (a : Fin 512) (b : Fin 1024) :
    (show EReal from k0_pay5 (F := Ideal) x (ix2 a b)) = (show EReal from x (ix2 a b)) * Cert.Rms.scale fun l => (show EReal from x (ix2 a l)) := by
  rw [← scale_at]
  unfold k0_pay5
  generalize k0_pay4 (F := Ideal) x = r
  pointwise

/-- The row's part along itself, an entry of the column that holds it. -/
theorem along_at (d : FVec Ideal S512x4096 .bf16) (w : FVec Ideal S1x1024x4096 .bf16) (x : FVec Ideal S512x1024 .f32) (g : FVec Ideal S1x1024 .f32)
    (a : Fin 512) (b : Fin 1024) : (show EReal from k0_pay9 (F := Ideal) d w x g (ix2 a b))
      = Ideal.div (∑ l : Fin 1024, (show EReal from k0_pay8 (F := Ideal) d w g (ix2 a l)) * (show EReal from k0_pay5 (F := Ideal) x (ix2 a l)))
          (Ideal.ofBits .f32 0x44800000#32) := by
  unfold k0_pay9
  generalize k0_pay8 (F := Ideal) d w g = D
  generalize k0_pay5 (F := Ideal) x = X
  pointwise

/-- The kernel's last lines, an entry. -/
theorem last_at (r : FVec Ideal S512x1 .f32) (xh gd h mm : FVec Ideal S512x1024 .f32) (a : Fin 512) (b : Fin 1024) :
    (show EReal from k0_pay1 (F := Ideal) r xh gd h mm (ix2 a b))
      = (show EReal from h (ix2 a b)) + (show EReal from r (ix2 a 0)) * ((show EReal from gd (ix2 a b)) - (show EReal from xh (ix2 a b)) * (show EReal from mm (ix2 a b))) := by
  unfold k0_pay1
  pointwise

/-- One tile's gradient: what the residual brings, and the normed row's. -/
theorem tile_at (d : FVec Ideal S512x4096 .bf16) (w : FVec Ideal S1x1024x4096 .bf16) (x : FVec Ideal S512x1024 .f32) (g : FVec Ideal S1x1024 .f32)
    (h : FVec Ideal S512x1024 .f32) (a : Fin 512) (b : Fin 1024) :
    (show EReal from k0_pay1 (F := Ideal) (k0_pay4 (F := Ideal) x) (k0_pay5 (F := Ideal) x) (k0_pay8 (F := Ideal) d w g) h (k0_pay9 (F := Ideal) d w x g) (ix2 a b))
      = (show EReal from h (ix2 a b)) + Cert.Rms.dxKernel (fun l => (show EReal from x (ix2 a l)))
          (fun l => (∑ k : Fin 4096, (show EReal from d (ix2 a k)) * (show EReal from w (ix3 0 l k))) * (show EReal from g (ix2 0 l))) b := by
  refine (last_at _ _ _ _ _ a b).trans ?_
  rw [along_at, scale_at]
  simp only [scaled_at, gained_at, back_at]
  rfl

/-- One block's part of the gains' gradient. -/
theorem part_at (d : FVec Ideal S512x4096 .bf16) (w : FVec Ideal S1x1024x4096 .bf16) (x : FVec Ideal S512x1024 .f32) (b : Fin 1024) :
    (show EReal from k0_pay6 (F := Ideal) d w x (ix2 0 b))
      = ∑ a : Fin 512, (∑ k : Fin 4096, (show EReal from d (ix2 a k)) * (show EReal from w (ix3 0 b k)))
          * ((show EReal from x (ix2 a b)) * Cert.Rms.scale fun l => (show EReal from x (ix2 a l))) := by
  have e : (show EReal from k0_pay6 (F := Ideal) d w x (ix2 0 b))
      = ∑ a : Fin 512, (show EReal from k0_pay3 (F := Ideal) d w (ix2 a b)) * (show EReal from k0_pay5 (F := Ideal) x (ix2 a b)) := by
    unfold k0_pay6
    generalize k0_pay3 (F := Ideal) d w = D
    generalize k0_pay5 (F := Ideal) x = X
    pointwise
  rw [e]
  simp only [scaled_at, back_at]

/-- A later block's part is added. -/
theorem added_at (d : FVec Ideal S512x4096 .bf16) (w : FVec Ideal S1x1024x4096 .bf16) (x : FVec Ideal S512x1024 .f32) (s : FVec Ideal S1x1024 .f32)
    (i : S1x1024.Idx) : (show EReal from k0_pay7 (F := Ideal) d w x s i) = (show EReal from s i) + (show EReal from k0_pay6 (F := Ideal) d w x i) := by
  rw [eq_ix2 (n0 := 1) (n1 := 1024) i]
  unfold k0_pay7
  generalize k0_pay6 (F := Ideal) d w x = D
  pointwise

variable (m : (ℓ : Loc nD τ sig) → Buf (Elt Ideal) ℓ) (c : Dev nD)

/-- The gains, as the host line leaves them: one row. -/
theorem gain_at (k : Fin 1024) : (show EReal from V m c main_v0 (ix2 0 k)) = m ((c : Thread nD τ).loc main_arg3) (ix1 k) := by
  have e : V m c main_v0 = (shapeCast S1x1024 (m ((c : Thread nD τ).loc main_arg3) : FVec Ideal S1024 .f32) shapeCasts_S1024_S1x1024 : FVec Ideal S1x1024 .f32) := by
    show after (List.flatten [hostOps0]) (fun b => m (c, b)) _ = _
    simp only [List.flatten_cons, List.flatten_nil, List.append_nil]
    after_results <;> rfl
  rw [e]
  pointwise

variable (t : Fin cfg0.N)

/-- The windows' block numbers at a grid point: one block of tokens a point, weights, gains and the gains' gradient whole. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0])

theorem point_lt : t.val < 8 := lt_of_lt_of_eq t.isLt N_0

/-- The block of what comes back. -/
theorem d_tile (a : Fin 512) (k : Fin 4096) : (show EReal from iblk m c 0 t (ix2 a k))
    = m ((c : Thread nD τ).loc main_arg0) (ix2 ⟨t.val * 512 + a.val, by have := point_lt t; omega⟩ k) := by
  blk_ext [iblk, V, idx t]

/-- The weights, whole at every point. -/
theorem w_tile (b : Fin 1024) (k : Fin 4096) : (show EReal from iblk m c 1 t (ix3 0 b k)) = m ((c : Thread nD τ).loc main_arg1) (ix3 0 b k) := by
  blk_ext [iblk, V, idx t]

/-- The block of tokens. -/
theorem x_tile (a : Fin 512) (k : Fin 1024) : (show EReal from iblk m c 2 t (ix2 a k))
    = m ((c : Thread nD τ).loc main_arg2) (ix2 ⟨t.val * 512 + a.val, by have := point_lt t; omega⟩ k) := by
  blk_ext [iblk, V, idx t]

/-- The gains, whole at every point. -/
theorem gain_tile (k : Fin 1024) : (show EReal from iblk m c 3 t (ix2 0 k)) = m ((c : Thread nD τ).loc main_arg3) (ix1 k) := by
  refine Eq.trans ?_ (gain_at m c k)
  unfold iblk
  generalize V m c (Pipeline.arrRef spec0 3) = X
  blk_ext [idx t]

/-- The residual's block. -/
theorem h_tile (a : Fin 512) (k : Fin 1024) : (show EReal from iblk m c 4 t (ix2 a k))
    = m ((c : Thread nD τ).loc main_arg4) (ix2 ⟨t.val * 512 + a.val, by have := point_lt t; omega⟩ k) := by
  blk_ext [iblk, V, idx t]

/-- What comes back to the normed tokens, an entry. -/
abbrev back (D : FVec Ideal S4096x4096 .bf16) (W : FVec Ideal S1x1024x4096 .bf16) (i : Fin 4096) (l : Fin 1024) : EReal :=
  ∑ k : Fin 4096, (show EReal from D (ix2 i k)) * (show EReal from W (ix3 0 l k))

/-- The tokens' gradient, an entry. -/
abbrev entry (D : FVec Ideal S4096x4096 .bf16) (W : FVec Ideal S1x1024x4096 .bf16) (X : FVec Ideal S4096x1024 .f32) (G : FVec Ideal S1024 .f32)
    (H : FVec Ideal S4096x1024 .f32) (i : Fin 4096) (j : Fin 1024) : EReal :=
  (show EReal from H (ix2 i j)) + Cert.Rms.dxKernel (fun l => (show EReal from X (ix2 i l))) (fun l => back D W i l * (show EReal from G (ix1 l))) j

/-- A token's part of the gains' gradient. -/
abbrev partOf (D : FVec Ideal S4096x4096 .bf16) (W : FVec Ideal S1x1024x4096 .bf16) (X : FVec Ideal S4096x1024 .f32) (j : Fin 1024) (i : Fin 4096) : EReal :=
  back D W i j * ((show EReal from X (ix2 i j)) * Cert.Rms.scale fun l => (show EReal from X (ix2 i l)))

theorem back_tile (a : Fin 512) (b : Fin 1024) (i : Fin 4096) (hi : i.val = t.val * 512 + a.val) :
    ∑ k : Fin 4096, (show EReal from iblk m c 0 t (ix2 a k)) * (show EReal from iblk m c 1 t (ix3 0 b k))
      = back (m ((c : Thread nD τ).loc main_arg0)) (m ((c : Thread nD τ).loc main_arg1)) i b :=
  Finset.sum_congr rfl fun k _ => congrArg₂ (fun x y : EReal => x * y)
    ((d_tile m c t a k).trans (congrArg (fun x => m ((c : Thread nD τ).loc main_arg0) (ix2 x k)) (Fin.ext hi.symm))) (w_tile m c t b k)

theorem row_tile (a : Fin 512) (i : Fin 4096) (hi : i.val = t.val * 512 + a.val) :
    (fun l => (show EReal from iblk m c 2 t (ix2 a l))) = fun l => (show EReal from m ((c : Thread nD τ).loc main_arg2) (ix2 i l)) :=
  funext fun l => (x_tile m c t a l).trans (congrArg (fun x => m ((c : Thread nD τ).loc main_arg2) (ix2 x l)) (Fin.ext hi.symm))

/-- What a grid point leaves in the tokens' gradient's block. -/
theorem entry_at (a : Fin 512) (b : Fin 1024) (i : Fin 4096) (j : Fin 1024) (hi : i.val = t.val * 512 + a.val) (hj : j = b) :
    (show EReal from k0_pay1 (F := Ideal) (k0_pay4 (F := Ideal) (iblk m c 2 t)) (k0_pay5 (F := Ideal) (iblk m c 2 t))
        (k0_pay8 (F := Ideal) (iblk m c 0 t) (iblk m c 1 t) (iblk m c 3 t)) (iblk m c 4 t)
        (k0_pay9 (F := Ideal) (iblk m c 0 t) (iblk m c 1 t) (iblk m c 2 t) (iblk m c 3 t)) (ix2 a b))
      = entry (m ((c : Thread nD τ).loc main_arg0)) (m ((c : Thread nD τ).loc main_arg1)) (m ((c : Thread nD τ).loc main_arg2))
          (m ((c : Thread nD τ).loc main_arg3)) (m ((c : Thread nD τ).loc main_arg4)) i j := by
  subst hj
  refine (tile_at _ _ _ _ _ _ _).trans (congrArg₂ (fun x y : EReal => x + y)
    ((h_tile m c t a j).trans (congrArg (fun x => m ((c : Thread nD τ).loc main_arg4) (ix2 x j)) (Fin.ext hi.symm)))
    (congrArg₂ (fun x y => Cert.Rms.dxKernel x y j) (row_tile m c t a i hi) (funext fun l => ?_)))
  exact congrArg₂ (fun x y : EReal => x * y) (back_tile m c t a l i hi) (gain_tile m c t l)

/-- What a grid point adds to the gains' gradient. -/
theorem part_tile (b : Fin 1024) : (show EReal from k0_pay6 (F := Ideal) (iblk m c 0 t) (iblk m c 1 t) (iblk m c 2 t) (ix2 0 b))
    = ∑ a : Fin 512, partOf (m ((c : Thread nD τ).loc main_arg0)) (m ((c : Thread nD τ).loc main_arg1)) (m ((c : Thread nD τ).loc main_arg2)) b
        ⟨t.val * 512 + a.val, by have := point_lt t; omega⟩ := by
  refine (part_at _ _ _ _).trans (Finset.sum_congr rfl fun a _ => ?_)
  exact congrArg₂ (fun x y : EReal => x * y) (back_tile m c t a b _ rfl)
    (congrArg₂ (fun x y : EReal => x * y) (x_tile m c t a b) (congrArg Cert.Rms.scale (row_tile m c t a _ rfl)))

/-- At the first point the gains' gradient is that point's part, at a later one what was there and the point's part. -/
theorem first_at (h : t.val % 8 = 0) (i : S1x1024.Idx) : (outsAt0 m c t.val t.isLt).2.2 i
    = (0 : EReal) + (show EReal from k0_pay6 (F := Ideal) (iblk m c 0 t) (iblk m c 1 t) (iblk m c 2 t) i) := by
  rw [outsAt0_A m c t h (by have := point_lt t; omega), zero_add]
  frame_out

theorem later_at (h : ¬t.val % 8 = 0) (i : S1x1024.Idx) : (outsAt0 m c t.val t.isLt).2.2 i
    = (show EReal from (outsAt0 m c (t.val - 1) (Nat.lt_of_le_of_lt (Nat.sub_le _ _) t.isLt)).2.2 i)
      + (show EReal from k0_pay6 (F := Ideal) (iblk m c 0 t) (iblk m c 1 t) (iblk m c 2 t) i) := by
  rw [outsAt0_B m c t h (by omega)]
  frame_out
  exact added_at _ _ _ _ i

/-- What the points write to the tokens' gradient. -/
theorem dx_left (i : S512x1024.Idx) : (outsAt0 m c t.val t.isLt).1 i
    = k0_pay1 (F := Ideal) (k0_pay4 (F := Ideal) (iblk m c 2 t)) (k0_pay5 (F := Ideal) (iblk m c 2 t))
        (k0_pay8 (F := Ideal) (iblk m c 0 t) (iblk m c 1 t) (iblk m c 3 t)) (iblk m c 4 t)
        (k0_pay9 (F := Ideal) (iblk m c 0 t) (iblk m c 1 t) (iblk m c 2 t) (iblk m c 3 t)) i := by
  by_cases h : t.val % 8 = 0
  · rw [outsAt0_A m c t h (by have := point_lt t; omega)]
    frame_out
  · rw [outsAt0_B m c t h (by omega)]
    frame_out

/-- What the points write to its rounded copy: over the reals the same. -/
theorem dxb_left (i : S512x1024.Idx) : (show EReal from (outsAt0 m c t.val t.isLt).2.1 i)
    = k0_pay1 (F := Ideal) (k0_pay4 (F := Ideal) (iblk m c 2 t)) (k0_pay5 (F := Ideal) (iblk m c 2 t))
        (k0_pay8 (F := Ideal) (iblk m c 0 t) (iblk m c 1 t) (iblk m c 3 t)) (iblk m c 4 t)
        (k0_pay9 (F := Ideal) (iblk m c 0 t) (iblk m c 1 t) (iblk m c 2 t) (iblk m c 3 t)) i := by
  by_cases h : t.val % 8 = 0
  · rw [outsAt0_A m c t h (by have := point_lt t; omega)]
    frame_out
    rfl
  · rw [outsAt0_B m c t h (by omega)]
    frame_out
    rfl

/-- The tokens' gradient after the run. -/
theorem array_at (i : Fin 4096) (j : Fin 1024) : (show EReal from (dats m 0 c).arrAt 5 cfg0.N (ix2 i j))
    = entry (m ((c : Thread nD τ).loc main_arg0)) (m ((c : Thread nD τ).loc main_arg1)) (m ((c : Thread nD τ).loc main_arg2))
        (m ((c : Thread nD τ).loc main_arg3)) (m ((c : Thread nD τ).loc main_arg4)) i j := by
  have h := (dats m 0 c).arrAt_eq_of_covers 5
    (fun x : S4096x1024.Idx => entry (m ((c : Thread nD τ).loc main_arg0)) (m ((c : Thread nD τ).loc main_arg1)) (m ((c : Thread nD τ).loc main_arg2))
        (m ((c : Thread nD τ).loc main_arg3)) (m ((c : Thread nD τ).loc main_arg4)) (x 0) (x 1))
    (by decide +kernel) fun t hf y => ?_
  · exact congrFun h (ix2 i j)
  · have e0 : win0_5.index t 0 = t.val := congrFun (idx t).2.2.2.2.2.1 0
    have e1 : win0_5.index t 1 = 0 := congrFun (idx t).2.2.2.2.2.1 1
    blk_simp
    rw [after0_5, dx_left]
    rw [eq_ix2 (n0 := 512) (n1 := 1024) y]
    refine entry_at m c t (y 0) (y 1) _ _ ?_ (Fin.ext ?_)
    · show win0_5.index t 0 * 512 + 1 * (y 0).val = _
      rw [e0, one_mul]
    · show win0_5.index t 1 * 1024 + 1 * (y 1).val = _
      rw [e1, zero_mul, zero_add, one_mul]

/-- Its rounded copy after the run. -/
theorem copy_at (i : Fin 4096) (j : Fin 1024) : (show EReal from (dats m 0 c).arrAt 6 cfg0.N (ix2 i j))
    = entry (m ((c : Thread nD τ).loc main_arg0)) (m ((c : Thread nD τ).loc main_arg1)) (m ((c : Thread nD τ).loc main_arg2))
        (m ((c : Thread nD τ).loc main_arg3)) (m ((c : Thread nD τ).loc main_arg4)) i j := by
  have h := (dats m 0 c).arrAt_eq_of_covers 6
    (fun x : S4096x1024.Idx => entry (m ((c : Thread nD τ).loc main_arg0)) (m ((c : Thread nD τ).loc main_arg1)) (m ((c : Thread nD τ).loc main_arg2))
        (m ((c : Thread nD τ).loc main_arg3)) (m ((c : Thread nD τ).loc main_arg4)) (x 0) (x 1))
    (by decide +kernel) fun t hf y => ?_
  · exact congrFun h (ix2 i j)
  · have e0 : win0_6.index t 0 = t.val := congrFun (idx t).2.2.2.2.2.2.1 0
    have e1 : win0_6.index t 1 = 0 := congrFun (idx t).2.2.2.2.2.2.1 1
    blk_simp
    rw [after0_6]
    refine (dxb_left m c t y).trans ?_
    rw [eq_ix2 (n0 := 512) (n1 := 1024) y]
    refine entry_at m c t (y 0) (y 1) _ _ ?_ (Fin.ext ?_)
    · show win0_6.index t 0 * 512 + 1 * (y 0).val = _
      rw [e0, one_mul]
    · show win0_6.index t 1 * 1024 + 1 * (y 1).val = _
      rw [e1, zero_mul, zero_add, one_mul]

/-- The gains' gradient at the last point: every token's part. -/
theorem gains_left (ht : t.val = 7) (b : Fin 1024) : (show EReal from (outsAt0 m c t.val t.isLt).2.2 (ix2 0 b))
    = ∑ i : Fin 4096, partOf (m ((c : Thread nD τ).loc main_arg0)) (m ((c : Thread nD τ).loc main_arg1)) (m ((c : Thread nD τ).loc main_arg2)) b i := by
  have h := Pipeline.eq_sum_fin_of_reset_step_apply_last (M := EReal) (fun n h => (outsAt0 m c n h).2.2) 8 (fun _ => 0)
    (fun t i => (show EReal from k0_pay6 (F := Ideal) (iblk m c 0 t) (iblk m c 1 t) (iblk m c 2 t) i))
    (fun t h i => first_at m c t h i) (fun t h i => later_at m c t h i) (le_of_eq N_0) t (by rw [ht]; exact N_0.symm) (ix2 0 b)
  refine h.trans ?_
  rw [zero_add]
  refine Eq.trans ?_ (Fin.sum_mul_add_fin 8 512 (partOf (m ((c : Thread nD τ).loc main_arg0)) (m ((c : Thread nD τ).loc main_arg1)) (m ((c : Thread nD τ).loc main_arg2)) b))
  exact Finset.sum_congr rfl fun t _ => part_tile m c t b

/-- The gains' gradient after the run. -/
theorem gains_at (b : Fin 1024) : (show EReal from (dats m 0 c).arrAt 7 cfg0.N (ix2 0 b))
    = ∑ i : Fin 4096, partOf (m ((c : Thread nD τ).loc main_arg0)) (m ((c : Thread nD τ).loc main_arg1)) (m ((c : Thread nD τ).loc main_arg2)) b i := by
  have h := (dats m 0 c).arrAt_eq_of_covers 7
    (fun x : S1x1024.Idx => (show EReal from ∑ i : Fin 4096, partOf (m ((c : Thread nD τ).loc main_arg0)) (m ((c : Thread nD τ).loc main_arg1)) (m ((c : Thread nD τ).loc main_arg2)) (x 1) i))
    (by decide +kernel) fun t hf y => ?_
  · exact congrFun h (ix2 0 b)
  · have ht : t.val = 7 := (by decide +kernel : ∀ t : Fin grid0.N, win0_7.flush t = true → t.val = 7) t hf
    have e1 : win0_7.index t 1 = 0 := congrFun (idx t).2.2.2.2.2.2.2 1
    blk_simp
    rw [after0_7]
    rw [eq_ix2 (n0 := 1) (n1 := 1024) y]
    refine Eq.trans (congrArg (fun a : Fin 1 => (show EReal from (outsAt0 m c t.val t.isLt).2.2 (ix2 a (y 1)))) (Subsingleton.elim (α := Fin 1) (y 0) 0))
      ((gains_left m c t ht (y 1)).trans ?_)
    refine Finset.sum_congr rfl fun i _ => congrArg (fun b => partOf _ _ _ b i) (Fin.ext ?_)
    show (y 1).val = win0_7.index t 1 * 1024 + 1 * (y 1).val
    rw [e1, zero_mul, zero_add, one_mul]

end Cert.Kernel10Ideal.Gen

namespace Cert.Reference10Ideal.Value

open Cert.Reference10Ideal Cert.Reference10Ideal.Gen Idealize.ShloMosaic Idealize.ShloMosaic.TcCoe Idealize.SL.Sem

/-- The rows' mean squares. -/
abbrev meanOf (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- What comes back to the normed tokens. -/
abbrev backOf (d : FVec Ideal S4096x4096 .bf16) (w : FVec Ideal S1x1024x4096 .bf16) : FVec Ideal S4096x1024 .f32 :=
  Host.dotGeneral dot_S4096x4096_S1024x4096_S4096x1024_1_1_0_0_n_n none (extf .f32 d bitsLt_bf16_f32)
    (shapeCast S1024x4096 (extf .f32 w bitsLt_bf16_f32) shapeCasts_S1x1024x4096_S1024x4096)

/-- The same with the gains. -/
abbrev gainedOf (b : FVec Ideal S4096x1024 .f32) (g : FVec Ideal S1024 .f32) : FVec Ideal S4096x1024 .f32 :=
  mulf b (broadcastInDim S4096x1024 ![0, 1] bcast_S1x1024_S4096x1024_0_1 (broadcastInDim S1x1024 ![1] bcast_S1024_S1x1024_1 g))

/-- What goes back through the scale, from what comes back with the gains, `e`, and the mean squares, `v`. -/
abbrev halfOf (x e : FVec Ideal S4096x1024 .f32) (v : FVec Ideal S4096x1 .f32) : FVec Ideal S4096x1024 .f32 :=
  broadcastInDim S4096x1024 ![0] bcast_S4096_S4096x1024_0 (Host.reduceAdd (Host.divf (mulf (shapeCast S4096x1 (Host.reduceAdd (mulf x e) (constant S_ .f32 0x00000000#32)
    reducesTo_S4096x1024_S4096_d1 h_S_) shapeCasts_S4096_S4096x1) (mulf (broadcastInDim S4096x1 ![] bcast_S_S4096x1 (constant S_ .f32 0xBF000000#32))
    (Host.divf (Host.rsqrt v) v))) (broadcastInDim S4096x1 ![] bcast_S_S4096x1 (constant S_ .f32 0x44800000#32))) (constant S_ .f32 0x00000000#32) reducesTo_S4096x1_S4096_d1 h_S_)

/-- The tokens' gradient, from those. -/
abbrev dxOf (h x e s : FVec Ideal S4096x1024 .f32) (v : FVec Ideal S4096x1 .f32) : FVec Ideal S4096x1024 .f32 :=
  addf h (addf (addf (mulf e (broadcastInDim S4096x1024 ![0, 1] bcast_S4096x1_S4096x1024_0_1 (Host.rsqrt v))) (mulf x s)) (mulf s x))

/-- The gains' gradient, from those. -/
abbrev gainsOf (x b : FVec Ideal S4096x1024 .f32) (v : FVec Ideal S4096x1 .f32) : FVec Ideal S1x1024 .f32 :=
  shapeCast S1x1024 (Host.reduceAdd (shapeCast S1x1024 (Host.reduceAdd (mulf (mulf x (broadcastInDim S4096x1024 ![0, 1] bcast_S4096x1_S4096x1024_0_1 (Host.rsqrt v))) b)
    (constant S_ .f32 0x00000000#32) reducesTo_S4096x1024_S1024_d0 h_S_) shapeCasts_S1024_S1x1024) (constant S_ .f32 0x00000000#32) reducesTo_S1x1024_S1024_d0 h_S_) shapeCasts_S1024_S1x1024

theorem mean_at (x : FVec Ideal S4096x1024 .f32) (i : Fin 4096) :
    (show EReal from meanOf x (ix2 i 0)) = Cert.Rms.mean fun l => (show EReal from x (ix2 i l)) := by
  unfold Cert.Rms.mean meanOf
  pointwise

theorem back_at (d : FVec Ideal S4096x4096 .bf16) (w : FVec Ideal S1x1024x4096 .bf16) (i : Fin 4096) (l : Fin 1024) :
    (show EReal from backOf d w (ix2 i l)) = ∑ k : Fin 4096, (show EReal from d (ix2 i k)) * (show EReal from w (ix3 0 l k)) := by
  unfold backOf
  pointwise

theorem gained_at (b : FVec Ideal S4096x1024 .f32) (g : FVec Ideal S1024 .f32) (i : Fin 4096) (l : Fin 1024) :
    (show EReal from gainedOf b g (ix2 i l)) = (show EReal from b (ix2 i l)) * (show EReal from g (ix1 l)) := by
  unfold gainedOf
  pointwise

theorem half_at (x e : FVec Ideal S4096x1024 .f32) (v : FVec Ideal S4096x1 .f32) (i : Fin 4096) (l : Fin 1024) :
    (show EReal from halfOf x e v (ix2 i l))
      = Ideal.div ((∑ l, (show EReal from x (ix2 i l)) * (show EReal from e (ix2 i l)))
          * (Ideal.ofBits .f32 0xBF000000#32 * Ideal.div (Ideal.rsqrt (show EReal from v (ix2 i 0))) (show EReal from v (ix2 i 0)))) (Ideal.ofBits .f32 0x44800000#32) := by
  unfold halfOf
  pointwise
  exact Fin.sum_univ_one _

theorem dx_at (h x e s : FVec Ideal S4096x1024 .f32) (v : FVec Ideal S4096x1 .f32) (i : Fin 4096) (j : Fin 1024) :
    (show EReal from dxOf h x e s v (ix2 i j)) = (show EReal from h (ix2 i j)) + ((show EReal from e (ix2 i j)) * Ideal.rsqrt (show EReal from v (ix2 i 0))
      + (show EReal from x (ix2 i j)) * (show EReal from s (ix2 i j)) + (show EReal from s (ix2 i j)) * (show EReal from x (ix2 i j))) := by
  unfold dxOf
  pointwise

theorem gains_at (x b : FVec Ideal S4096x1024 .f32) (v : FVec Ideal S4096x1 .f32) (j : Fin 1024) :
    (show EReal from gainsOf x b v (ix2 0 j))
      = ∑ i : Fin 4096, (show EReal from x (ix2 i j)) * Ideal.rsqrt (show EReal from v (ix2 i 0)) * (show EReal from b (ix2 i j)) := by
  unfold gainsOf
  pointwise
  exact Fin.sum_univ_one _

/-- The reference's gradient in the tokens, an entry. -/
theorem result_at (d : FVec Ideal S4096x4096 .bf16) (w : FVec Ideal S1x1024x4096 .bf16) (x : FVec Ideal S4096x1024 .f32) (g : FVec Ideal S1024 .f32)
    (h : FVec Ideal S4096x1024 .f32) (i : Fin 4096) (j : Fin 1024) :
    (show EReal from dxOf h x (gainedOf (backOf d w) g) (halfOf x (gainedOf (backOf d w) g) (meanOf x)) (meanOf x) (ix2 i j))
      = Cert.Kernel10Ideal.Gen.entry d w x g h i j := by
  refine (dx_at _ _ _ _ _ i j).trans (congrArg (fun y : EReal => (show EReal from h (ix2 i j)) + y) (Eq.trans ?_ (Cert.Rms.dx_eq _ _ j)))
  rw [half_at, mean_at]
  simp only [gained_at, back_at]
  rfl

/-- The reference's gradient in the gains, an entry. -/
theorem gains_result_at (d : FVec Ideal S4096x4096 .bf16) (w : FVec Ideal S1x1024x4096 .bf16) (x : FVec Ideal S4096x1024 .f32) (j : Fin 1024) :
    (show EReal from gainsOf x (backOf d w) (meanOf x) (ix2 0 j)) = ∑ i : Fin 4096, Cert.Kernel10Ideal.Gen.partOf d w x j i := by
  refine (gains_at _ _ _ j).trans (Finset.sum_congr rfl fun i _ => ?_)
  rw [mean_at, back_at, mul_comm]
  rfl

end Cert.Reference10Ideal.Value

namespace Cert.Proof

open Idealize.ShloMosaic Idealize.ShloMosaic.TcCoe Idealize.SL.Sem

/-- The kernel and the reference end with the same gradients: the tokens', its rounded copy, and the gains'. -/
theorem up_dx : Cert.algebraic_Kernel10Ideal_Reference10Ideal (hKernel10Ideal := Cert.Kernel10Ideal.Gen.facts)
    (hReference10Ideal := Cert.Reference10Ideal.Gen.facts) := by
  intro m g m' g' _ e
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N,
    fun c => (Cert.Kernel10Ideal.Gen.dats m 0 c).arrAt 7 Cert.Kernel10Ideal.cfg0.N, Cert.Kernel10Ideal.Value.run_blocks m g, ?_⟩
  refine (θ_run Cert.Reference10Ideal.defs _ _).mono (fun r h c => ⟨(h c).1.trans ?_, (h c).2.1.trans ?_, (h c).2.2.1.trans ?_, (h c).2.2.2⟩)
    (Cert.Reference10Ideal.Value.run (F := Ideal) m' g')
  · obtain ⟨e0, e1, e2, e3, e4⟩ := e c
    unfold Cert.Reference10Ideal.Value.res_main_v41
    rw [e0, e1, e2, e3, e4]
    exact matrix_ext (r := 4096) (c := 1024) fun i j =>
      (Cert.Reference10Ideal.Value.result_at _ _ _ _ _ i j).trans (Cert.Kernel10Ideal.Gen.array_at m c i j).symm
  · obtain ⟨e0, e1, e2, e3, e4⟩ := e c
    unfold Cert.Reference10Ideal.Value.res_main_v43
    rw [e0, e1, e2, e3, e4]
    exact matrix_ext (r := 4096) (c := 1024) fun i j =>
      (Cert.Reference10Ideal.Value.result_at _ _ _ _ _ i j).trans (Cert.Kernel10Ideal.Gen.copy_at m c i j).symm
  · obtain ⟨e0, e1, e2, e3, e4⟩ := e c
    rw [e0, e1, e2]
    refine matrix_ext (r := 1) (c := 1024) fun i j => ?_
    rw [show i = 0 from Subsingleton.elim _ _]
    exact (Cert.Reference10Ideal.Value.gains_result_at _ _ _ j).trans (Cert.Kernel10Ideal.Gen.gains_at m c j).symm

end Cert.Proof

end
-- ==== Proof.Head.lean ====
/- One block of the kernel as functions of the tiles it is given: what one group of three query heads (one key/value
   head) computes, and what the block leaves in each result. The run's stored values are these functions by unfolding. -/
module

public import proofs.«01_k».proof.Proof.Gen.KernelIdeal.Skeleton

@[expose] public section

noncomputable section

namespace Cert.KernelIdeal.Swa

open Idealize.ShloMosaic Idealize.SL.Sem Cert.KernelIdeal.Gen

variable {F : FTy → Type} [FloatOps F] [Named F]

/-- Which of the three query heads of a group each of the 384 stacked rows belongs to. -/
def grp : IVec S384x1 32 := k0_pay16

/-- A column that holds one of three scalars, by the query head of the row. -/
def pick (a b c : F .f32) : FVec F S384x1 .f32 :=
  select (cmpi .eq grp (broadcast S384x1 0#32)) (broadcast S384x1 a)
    (select (cmpi .eq grp (broadcast S384x1 1#32)) (broadcast S384x1 b) (broadcast S384x1 c))

/-- The masked scores of 384 stacked query rows against the 256 keys of the two blocks. -/
def scores (mask : IVec S384x256 1) (slope : FVec F S384x1 .f32) (qq : FVec F S384x64 .bf16)
    (kh : FVec F S256x64 .bf16) : FVec F S384x256 .f32 :=
  select mask
    (subf
      (mulf (matmul dot_S384x64_S256x64_S384x256_1_1_0_0_n_n none qq kh (constant S384x256 .f32 0x00000000#32))
        (broadcast S384x256 (Scalar.ofBits .f32 0x3E000000#32)))
      (mulf (broadcastTo S384x256 slope broadcasts_S384x1_S384x256) k0_pay11))
    (broadcast S384x256 (Named.named κ "mask" 0xFF61B1E6#32))

/-- The greatest of a row's scores and its sink. -/
def top (s : FVec F S384x256 .f32) (sink : FVec F S384x1 .f32) : FVec F S384x1 .f32 :=
  maximumf (shapeCast S384x1 (multiReduction .maximumf [1] S384 s 0xFF800000#32 reduces_S384x256_S384 (.inl rfl) rfl)
    shapeCasts_S384_S384x1) sink

/-- The exponentials of the scores, shifted by the row's greatest. -/
def expRow (s : FVec F S384x256 .f32) (m : FVec F S384x1 .f32) : FVec F S384x256 .f32 :=
  exp (subf s (broadcastTo S384x256 m broadcasts_S384x1_S384x256))

/-- The exponential of the sink. -/
def expSink (sink m : FVec F S384x1 .f32) : FVec F S384x1 .f32 := exp (subf sink m)

/-- The sum of each row, as a column. -/
def rowSum (x : FVec F S384x256 .f32) : FVec F S384x1 .f32 :=
  shapeCast S384x1 (multiReduction .add [1] S384 x 0x00000000#32 reduces_S384x256_S384 (.inl rfl) rfl) shapeCasts_S384_S384x1

/-- One over the softmax's denominator: the row's exponentials and the sink's. -/
def recip (e : FVec F S384x256 .f32) (es : FVec F S384x1 .f32) : FVec F S384x1 .f32 :=
  divf (broadcast S384x1 (Scalar.ofBits .f32 0x3F800000#32)) (addf (rowSum e) es)

/-- The probabilities of the keys. -/
def prob (mask : IVec S384x256 1) (slope sink : FVec F S384x1 .f32) (qq : FVec F S384x64 .bf16)
    (kh : FVec F S256x64 .bf16) : FVec F S384x256 .f32 :=
  mulf (expRow (scores mask slope qq kh) (top (scores mask slope qq kh) sink))
    (broadcastTo S384x256
      (recip (expRow (scores mask slope qq kh) (top (scores mask slope qq kh) sink))
        (expSink sink (top (scores mask slope qq kh) sink)))
      broadcasts_S384x1_S384x256)

/-- The probability of the sink. -/
def probSink (mask : IVec S384x256 1) (slope sink : FVec F S384x1 .f32) (qq : FVec F S384x64 .bf16)
    (kh : FVec F S256x64 .bf16) : FVec F S384x1 .f32 :=
  mulf (expSink sink (top (scores mask slope qq kh) sink))
    (recip (expRow (scores mask slope qq kh) (top (scores mask slope qq kh) sink))
      (expSink sink (top (scores mask slope qq kh) sink)))

/-- The gradient of the probabilities: the output's gradient against the values. -/
def dprob (dd : FVec F S384x64 .bf16) (vh : FVec F S256x64 .bf16) : FVec F S384x256 .f32 :=
  matmul dot_S384x64_S256x64_S384x256_1_1_0_0_n_n none dd vh (constant S384x256 .f32 0x00000000#32)

/-- The gradient of the scores, from the probabilities and their gradient. -/
def dscore (p dp : FVec F S384x256 .f32) : FVec F S384x256 .bf16 :=
  truncf .bf16 (mulf p (subf dp (broadcastTo S384x256 (rowSum (mulf p dp)) broadcasts_S384x1_S384x256))) bitsLt_bf16_f32

/-- The gradient of the queries of the 384 stacked rows. -/
def dqRows (ds : FVec F S384x256 .bf16) (kh : FVec F S256x64 .bf16) : FVec F S384x64 .f32 :=
  mulf (matmul dot_S384x256_S256x64_S384x64_1_0_0_1_n_n none ds kh (constant S384x64 .f32 0x00000000#32))
    (broadcast S384x64 (Scalar.ofBits .f32 0x3E000000#32))

/-- The gradient of the keys, features down and keys across. -/
def dkCols (qq : FVec F S384x64 .bf16) (ds : FVec F S384x256 .bf16) : FVec F S64x256 .f32 :=
  mulf (matmul dot_S384x64_S384x256_S64x256_0_0_1_1_n_n none qq ds (constant S64x256 .f32 0x00000000#32))
    (broadcast S64x256 (Scalar.ofBits .f32 0x3E000000#32))

/-- The gradient of the values, features down and keys across. -/
def dvCols (dd : FVec F S384x64 .bf16) (p : FVec F S384x256 .f32) : FVec F S64x256 .f32 :=
  matmul dot_S384x64_S384x256_S64x256_0_0_1_1_n_n none dd (truncf .bf16 p bitsLt_bf16_f32) (constant S64x256 .f32 0x00000000#32)

/-- The gradient of the sink, row by row. -/
def dsinkRows (ps : FVec F S384x1 .f32) (p dp : FVec F S384x256 .f32) : FVec F S384x1 .f32 :=
  subf (broadcast S384x1 (Scalar.ofBits .f32 0x00000000#32)) (mulf ps (rowSum (mulf p dp)))

/-- The sum of 128 rows of a column. -/
def total (x : FVec F S128x1 .f32) : F .f32 :=
  extractAt ![0, 0, 0] (shapeCast S1x1x1
    (multiReduction .add [1, 2] S1 (shapeCast S1x128x1 x shapeCasts_S128x1_S1x128x1) 0x00000000#32 reduces_S1x128x1_S1
      (.inl rfl) rfl) shapeCasts_S1_S1x1x1) inpos_S1x1x1_p0_0_0

/-- A scalar added to one lane of a row of 128. -/
def addLane (acc : FVec F S1x128 .f32) (n : BitVec 32) (x : F .f32) : FVec F S1x128 .f32 :=
  addf acc (select (cmpi .eq (iota .tc S1x128 32 [1] iota_S1x128_d1_w32) (broadcast S1x128 n)) (broadcast S1x128 x)
    (broadcast S1x128 (Scalar.ofBits .f32 0x00000000#32)))

/-- The three sums of a group's sink gradients, each added to the lane of its query head. -/
def addLanes (acc : FVec F S1x128 .f32) (a b c : BitVec 32) (x : FVec F S384x1 .f32) : FVec F S1x128 .f32 :=
  addLane (addLane (addLane acc a (total (extractStridedSlice S128x1 ![0, 0] x slices_S384x1_o0_0_S128x1)))
    b (total (extractStridedSlice S128x1 ![128, 0] x slices_S384x1_o128_0_S128x1)))
    c (total (extractStridedSlice S128x1 ![256, 0] x slices_S384x1_o256_0_S128x1))

/-- Three heads of 64 features stacked as rows. -/
def stack {t : FTy} (a b c : FVec F S128x64 t) : FVec F S384x64 t :=
  concatenate S384x64 0 [⟨S128x64, a⟩, ⟨S128x64, b⟩, ⟨S128x64, c⟩] concatenates_S128x64_S128x64_S128x64_S384x64_d0

/-- The tiles a block of the kernel is given: the sinks, the queries, the output's gradient, and the keys and values of
    the block before and of the block itself. -/
structure Tiles (F : FTy → Type) where
  sinks : Vec F S12 .f32
  q : Vec F S128x768 .bf16
  g : Vec F S128x768 .f32
  kPrev : Vec F S128x256 .bf16
  kCur : Vec F S128x256 .bf16
  vPrev : Vec F S128x256 .f32
  vCur : Vec F S128x256 .f32

namespace Tiles
variable (x : Tiles F)

/-- The 256 keys of the two blocks. -/
def keys : FVec F S256x256 .bf16 :=
  concatenate S256x256 0 [⟨S128x256, x.kPrev⟩, ⟨S128x256, x.kCur⟩] concatenates_S128x256_S128x256_S256x256_d0
/-- The 256 values of the two blocks. -/
def vals : FVec F S256x256 .bf16 :=
  truncf .bf16 (concatenate S256x256 0 [⟨S128x256, x.vPrev⟩, ⟨S128x256, x.vCur⟩] concatenates_S128x256_S128x256_S256x256_d0)
    bitsLt_bf16_f32
/-- The output's gradient, rounded. -/
def grad : FVec F S128x768 .bf16 := truncf .bf16 x.g bitsLt_bf16_f32

/-- The stacked queries of each group. -/
def qq : Fin 4 → FVec F S384x64 .bf16
  | 0 => stack (extractStridedSlice S128x64 ![0, 0] x.q slices_S128x768_o0_0_S128x64)
      (extractStridedSlice S128x64 ![0, 64] x.q slices_S128x768_o0_64_S128x64)
      (extractStridedSlice S128x64 ![0, 128] x.q slices_S128x768_o0_128_S128x64)
  | 1 => stack (extractStridedSlice S128x64 ![0, 192] x.q slices_S128x768_o0_192_S128x64)
      (extractStridedSlice S128x64 ![0, 256] x.q slices_S128x768_o0_256_S128x64)
      (extractStridedSlice S128x64 ![0, 320] x.q slices_S128x768_o0_320_S128x64)
  | 2 => stack (extractStridedSlice S128x64 ![0, 384] x.q slices_S128x768_o0_384_S128x64)
      (extractStridedSlice S128x64 ![0, 448] x.q slices_S128x768_o0_448_S128x64)
      (extractStridedSlice S128x64 ![0, 512] x.q slices_S128x768_o0_512_S128x64)
  | 3 => stack (extractStridedSlice S128x64 ![0, 576] x.q slices_S128x768_o0_576_S128x64)
      (extractStridedSlice S128x64 ![0, 640] x.q slices_S128x768_o0_640_S128x64)
      (extractStridedSlice S128x64 ![0, 704] x.q slices_S128x768_o0_704_S128x64)

/-- The stacked gradients of the output of each group. -/
def dd : Fin 4 → FVec F S384x64 .bf16
  | 0 => stack (extractStridedSlice S128x64 ![0, 0] x.grad slices_S128x768_o0_0_S128x64)
      (extractStridedSlice S128x64 ![0, 64] x.grad slices_S128x768_o0_64_S128x64)
      (extractStridedSlice S128x64 ![0, 128] x.grad slices_S128x768_o0_128_S128x64)
  | 1 => stack (extractStridedSlice S128x64 ![0, 192] x.grad slices_S128x768_o0_192_S128x64)
      (extractStridedSlice S128x64 ![0, 256] x.grad slices_S128x768_o0_256_S128x64)
      (extractStridedSlice S128x64 ![0, 320] x.grad slices_S128x768_o0_320_S128x64)
  | 2 => stack (extractStridedSlice S128x64 ![0, 384] x.grad slices_S128x768_o0_384_S128x64)
      (extractStridedSlice S128x64 ![0, 448] x.grad slices_S128x768_o0_448_S128x64)
      (extractStridedSlice S128x64 ![0, 512] x.grad slices_S128x768_o0_512_S128x64)
  | 3 => stack (extractStridedSlice S128x64 ![0, 576] x.grad slices_S128x768_o0_576_S128x64)
      (extractStridedSlice S128x64 ![0, 640] x.grad slices_S128x768_o0_640_S128x64)
      (extractStridedSlice S128x64 ![0, 704] x.grad slices_S128x768_o0_704_S128x64)

/-- The 64 columns of each key head in an array of 256. -/
def head (a : FVec F S256x256 .bf16) : Fin 4 → FVec F S256x64 .bf16
  | 0 => extractStridedSlice S256x64 ![0, 0] a slices_S256x256_o0_0_S256x64
  | 1 => extractStridedSlice S256x64 ![0, 64] a slices_S256x256_o0_64_S256x64
  | 2 => extractStridedSlice S256x64 ![0, 128] a slices_S256x256_o0_128_S256x64
  | 3 => extractStridedSlice S256x64 ![0, 192] a slices_S256x256_o0_192_S256x64

/-- The sink of query head `n`. -/
def sinkAt (n : Fin 12) : F .f32 := x.sinks (fun a => n.cast (by fin_cases a; rfl))

/-- The slopes of each group's three query heads, as a column. -/
def slope : Fin 4 → FVec F S384x1 .f32
  | 0 => pick (Scalar.ofBits .f32 0x3F214518#32) (Scalar.ofBits .f32 0x3ECB2FF5#32) (Scalar.ofBits .f32 0x3E800000#32)
  | 1 => pick (Scalar.ofBits .f32 0x3E214518#32) (Scalar.ofBits .f32 0x3DCB2FF5#32) (Scalar.ofBits .f32 0x3D800000#32)
  | 2 => pick (Scalar.ofBits .f32 0x3D214518#32) (Scalar.ofBits .f32 0x3CCB2FF5#32) (Scalar.ofBits .f32 0x3C800000#32)
  | 3 => pick (Scalar.ofBits .f32 0x3C214518#32) (Scalar.ofBits .f32 0x3BCB2FF5#32) (Scalar.ofBits .f32 0x3B800000#32)

/-- The sinks of each group's three query heads, as a column. -/
def sink : Fin 4 → FVec F S384x1 .f32
  | 0 => pick (x.sinkAt 0) (x.sinkAt 1) (x.sinkAt 2)
  | 1 => pick (x.sinkAt 3) (x.sinkAt 4) (x.sinkAt 5)
  | 2 => pick (x.sinkAt 6) (x.sinkAt 7) (x.sinkAt 8)
  | 3 => pick (x.sinkAt 9) (x.sinkAt 10) (x.sinkAt 11)

variable (mask : IVec S384x256 1) (h : Fin 4)

/-- The probabilities of group `h`. -/
def p : FVec F S384x256 .f32 := prob mask (slope h) (x.sink h) (x.qq h) (head x.keys h)
/-- The sink's probabilities of group `h`. -/
def ps : FVec F S384x1 .f32 := probSink mask (slope h) (x.sink h) (x.qq h) (head x.keys h)
/-- The gradient of the probabilities of group `h`. -/
def dp : FVec F S384x256 .f32 := dprob (x.dd h) (head x.vals h)
/-- The gradient of the scores of group `h`. -/
def ds : FVec F S384x256 .bf16 := dscore (x.p mask h) (x.dp h)
/-- The gradient of the queries of group `h`. -/
def dqh : FVec F S384x64 .f32 := dqRows (x.ds mask h) (head x.keys h)
/-- The gradient of the keys of group `h`. -/
def dkh : FVec F S64x256 .f32 := dkCols (x.qq h) (x.ds mask h)
/-- The gradient of the values of group `h`. -/
def dvh : FVec F S64x256 .f32 := dvCols (x.dd h) (x.p mask h)
/-- The gradient of the sinks of group `h`, row by row. -/
def dsh : FVec F S384x1 .f32 := dsinkRows (x.ps mask h) (x.p mask h) (x.dp h)

/-- The block of the queries' gradient. -/
def dq : FVec F S128x768 .f32 :=
  concatenate S128x768 1
    [⟨S128x64, extractStridedSlice S128x64 ![0, 0] (x.dqh mask 0) slices_S384x64_o0_0_S128x64⟩,
     ⟨S128x64, extractStridedSlice S128x64 ![128, 0] (x.dqh mask 0) slices_S384x64_o128_0_S128x64⟩,
     ⟨S128x64, extractStridedSlice S128x64 ![256, 0] (x.dqh mask 0) slices_S384x64_o256_0_S128x64⟩,
     ⟨S128x64, extractStridedSlice S128x64 ![0, 0] (x.dqh mask 1) slices_S384x64_o0_0_S128x64⟩,
     ⟨S128x64, extractStridedSlice S128x64 ![128, 0] (x.dqh mask 1) slices_S384x64_o128_0_S128x64⟩,
     ⟨S128x64, extractStridedSlice S128x64 ![256, 0] (x.dqh mask 1) slices_S384x64_o256_0_S128x64⟩,
     ⟨S128x64, extractStridedSlice S128x64 ![0, 0] (x.dqh mask 2) slices_S384x64_o0_0_S128x64⟩,
     ⟨S128x64, extractStridedSlice S128x64 ![128, 0] (x.dqh mask 2) slices_S384x64_o128_0_S128x64⟩,
     ⟨S128x64, extractStridedSlice S128x64 ![256, 0] (x.dqh mask 2) slices_S384x64_o256_0_S128x64⟩,
     ⟨S128x64, extractStridedSlice S128x64 ![0, 0] (x.dqh mask 3) slices_S384x64_o0_0_S128x64⟩,
     ⟨S128x64, extractStridedSlice S128x64 ![128, 0] (x.dqh mask 3) slices_S384x64_o128_0_S128x64⟩,
     ⟨S128x64, extractStridedSlice S128x64 ![256, 0] (x.dqh mask 3) slices_S384x64_o256_0_S128x64⟩]
    concatenates_S128x64_S128x64_S128x64_S128x64_S128x64_S128x64_S128x64_S128x64_S128x64_S128x64_S128x64_S128x64_S128x768_d1

/-- The gradient of the keys of the two blocks. -/
def dk : FVec F S256x256 .f32 :=
  transpose S256x256 [1, 0] (concatenate S256x256 0 [⟨S64x256, x.dkh mask 0⟩, ⟨S64x256, x.dkh mask 1⟩,
    ⟨S64x256, x.dkh mask 2⟩, ⟨S64x256, x.dkh mask 3⟩] concatenates_S64x256_S64x256_S64x256_S64x256_S256x256_d0)
    transposes_S256x256_p1_0_S256x256

/-- The gradient of the values of the two blocks. -/
def dv : FVec F S256x256 .f32 :=
  transpose S256x256 [1, 0] (concatenate S256x256 0 [⟨S64x256, x.dvh mask 0⟩, ⟨S64x256, x.dvh mask 1⟩,
    ⟨S64x256, x.dvh mask 2⟩, ⟨S64x256, x.dvh mask 3⟩] concatenates_S64x256_S64x256_S64x256_S64x256_S256x256_d0)
    transposes_S256x256_p1_0_S256x256

/-- The block's contribution to the gradient of the sinks. -/
def dsinks : FVec F S1x128 .f32 :=
  addLanes (addLanes (addLanes (addLanes (broadcast S1x128 (Scalar.ofBits .f32 0x00000000#32))
    0#32 1#32 2#32 (x.dsh mask 0)) 3#32 4#32 5#32 (x.dsh mask 1)) 6#32 7#32 8#32 (x.dsh mask 2)) 9#32 10#32 11#32 (x.dsh mask 3)

end Tiles

/-- The half of a gradient of the two blocks that belongs to the block before. -/
def lower (a : FVec F S256x256 .f32) : FVec F S128x256 .f32 :=
  extractStridedSlice S128x256 ![0, 0] a slices_S256x256_o0_0_S128x256
/-- The half of a gradient of the two blocks that belongs to the block itself. -/
def upper (a : FVec F S256x256 .f32) : FVec F S128x256 .f32 :=
  extractStridedSlice S128x256 ![128, 0] a slices_S256x256_o128_0_S128x256

end Cert.KernelIdeal.Swa

end
-- ==== Proof.Conds.lean ====
/- The kernel's branches by grid point, the tiles' staging buffers at a point, and where each result is written. -/
module

public import proofs.«01_k».proof.Proof.Gen.KernelIdeal.Frame
public import Idealize.ShloMosaic.Lib.Pipeline.FrameBody
public import Idealize.ShloMosaic.Lib.Pipeline.TableIdle
public import Idealize.ShloMosaic.Lib.Pipeline.ValueKit
public import Idealize.ShloMosaic.Lib.WritesUnit
public import Idealize.ShloMosaic.Lib.Tactic
public import proofs.«01_k».proof.Proof.Head

@[expose] public section

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The carries are cleared at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- A block of tokens is handled at every point but the last. -/
theorem block_iff : ∀ t : Fin cfg0.N, k0_cond2 (grid0.coords t) = 1#1 ↔ t.val < 32 :=
  (by decide +kernel : ∀ t : Fin grid0.N, k0_cond2 (grid0.coords t) = 1#1 ↔ t.val < 32)

/-- The last carries are written out at the last point only. -/
theorem last_iff : ∀ t : Fin cfg0.N, k0_cond3 (grid0.coords t) = 1#1 ↔ t.val = 32 :=
  (by decide +kernel : ∀ t : Fin grid0.N, k0_cond3 (grid0.coords t) = 1#1 ↔ t.val = 32)

/-- The results of the keys and values are written at every point. -/
theorem live8 : ∀ t : Fin cfg0.N, cfg0.idle 8 (grid0.coords t) = false :=
  (by decide +kernel : ∀ t : Fin grid0.N, cfg0.idle 8 (grid0.coords t) = false)
theorem live9 : ∀ t : Fin cfg0.N, cfg0.idle 9 (grid0.coords t) = false :=
  (by decide +kernel : ∀ t : Fin grid0.N, cfg0.idle 9 (grid0.coords t) = false)
/-- The results of the queries and the sinks are written at every point but the last. -/
theorem idle7 : ∀ t : Fin cfg0.N, cfg0.idle 7 (grid0.coords t) = decide (t.val = 32) :=
  (by decide +kernel : ∀ t : Fin grid0.N, cfg0.idle 7 (grid0.coords t) = decide (t.val = 32))
theorem idle10 : ∀ t : Fin cfg0.N, cfg0.idle 10 (grid0.coords t) = decide (t.val = 32) :=
  (by decide +kernel : ∀ t : Fin grid0.N, cfg0.idle 10 (grid0.coords t) = decide (t.val = 32))
/-- The queries' gradient is written back at every point but the last but one. -/
theorem flush7 : ∀ t : Fin cfg0.N, (cfg0.win 7).flush t = decide (t.val ≠ 31) :=
  (by decide +kernel : ∀ t : Fin grid0.N, win0_7.flush t = decide (t.val ≠ 31))
/-- The queries' gradient is still in its buffer at the last point. -/
theorem fresh7 : ∀ t : Fin cfg0.N, cfg0.fresh 7 t.val = decide (t.val ≠ 32) :=
  fun t => (Pipeline.Cfg.fresh_tab cfg0 7 (fun n => decide (n ≠ 32)) rfl
    (by decide +kernel : ∀ t : Fin grid0.N, decide (t.val + 1 ≠ 32)
      = (win0_7.flush t || (cfg0.idle 7 (grid0.coords t) && decide (t.val ≠ 32)))) t.val (Nat.le_of_lt t.isLt))
/-- The sinks' gradient stays in its buffer from the second point on. -/
theorem fresh10 : ∀ t : Fin cfg0.N, cfg0.fresh 10 t.val = decide (t.val = 0 ∨ t.val = 33) :=
  fun t => (Pipeline.Cfg.fresh_tab cfg0 10 (fun n => decide (n = 0 ∨ n = 33)) rfl
    (by decide +kernel : ∀ t : Fin grid0.N, decide (t.val + 1 = 0 ∨ t.val + 1 = 33)
      = (win0_10.flush t || (cfg0.idle 10 (grid0.coords t) && decide (t.val = 0 ∨ t.val = 33)))) t.val
    (Nat.le_of_lt t.isLt))

/-- Each tile's staging buffer at a point, and its wholeness. -/
abbrev st0 (t : Fin cfg0.N) : Memref sig .tc .smem S12 .f32 := win0_0.stage (cfg0.slots t 0)
theorem wh0 (t : Fin cfg0.N) : (st0 t).IsWhole := hstage0_0 ((cfg0.slots t 0).cast nbuf0_0)
abbrev st1 (t : Fin cfg0.N) : Memref sig .tc .vmem S128x768 .bf16 := win0_1.stage (cfg0.slots t 1)
theorem wh1 (t : Fin cfg0.N) : (st1 t).IsWhole := hstage0_1 ((cfg0.slots t 1).cast nbuf0_1)
abbrev st2 (t : Fin cfg0.N) : Memref sig .tc .vmem S128x768 .f32 := win0_2.stage (cfg0.slots t 2)
theorem wh2 (t : Fin cfg0.N) : (st2 t).IsWhole := hstage0_2 ((cfg0.slots t 2).cast nbuf0_2)
abbrev st3 (t : Fin cfg0.N) : Memref sig .tc .vmem S128x256 .bf16 := win0_3.stage (cfg0.slots t 3)
theorem wh3 (t : Fin cfg0.N) : (st3 t).IsWhole := hstage0_3 ((cfg0.slots t 3).cast nbuf0_3)
abbrev st4 (t : Fin cfg0.N) : Memref sig .tc .vmem S128x256 .bf16 := win0_4.stage (cfg0.slots t 4)
theorem wh4 (t : Fin cfg0.N) : (st4 t).IsWhole := hstage0_4 ((cfg0.slots t 4).cast nbuf0_4)
abbrev st5 (t : Fin cfg0.N) : Memref sig .tc .vmem S128x256 .f32 := win0_5.stage (cfg0.slots t 5)
theorem wh5 (t : Fin cfg0.N) : (st5 t).IsWhole := hstage0_5 ((cfg0.slots t 5).cast nbuf0_5)
abbrev st6 (t : Fin cfg0.N) : Memref sig .tc .vmem S128x256 .f32 := win0_6.stage (cfg0.slots t 6)
theorem wh6 (t : Fin cfg0.N) : (st6 t).IsWhole := hstage0_6 ((cfg0.slots t 6).cast nbuf0_6)
abbrev st7 (t : Fin cfg0.N) : Memref sig .tc .vmem S128x768 .f32 := win0_7.stage (cfg0.slots t 7)
theorem wh7 (t : Fin cfg0.N) : (st7 t).IsWhole := hstage0_7 ((cfg0.slots t 7).cast nbuf0_7)
abbrev st8 (t : Fin cfg0.N) : Memref sig .tc .vmem S128x256 .f32 := win0_8.stage (cfg0.slots t 8)
theorem wh8 (t : Fin cfg0.N) : (st8 t).IsWhole := hstage0_8 ((cfg0.slots t 8).cast nbuf0_8)
abbrev st9 (t : Fin cfg0.N) : Memref sig .tc .vmem S128x256 .f32 := win0_9.stage (cfg0.slots t 9)
theorem wh9 (t : Fin cfg0.N) : (st9 t).IsWhole := hstage0_9 ((cfg0.slots t 9).cast nbuf0_9)
abbrev st10 (t : Fin cfg0.N) : Memref sig .tc .vmem S1x128 .f32 := win0_10.stage (cfg0.slots t 10)
theorem wh10 (t : Fin cfg0.N) : (st10 t).IsWhole := hstage0_10 ((cfg0.slots t 10).cast nbuf0_10)
/-- The buffers of the two carries. -/
abbrev carK : Memref sig .tc .vmem S128x256 .f32 := Memref.whole cc0_scratch0
abbrev carV : Memref sig .tc .vmem S128x256 .f32 := Memref.whole cc0_scratch1

/-- What the region's invariant holds beside the windows: the two carries and the device's register. -/
theorem rest_eq (c : Dev nD) :
    (Pipeline.ΦA spec0 c : sProp 𝕄)
      = iprop(iprop((∃ d, owns (c : Thread nD τ) carK fullShare d) ∗ (∃ d, owns (c : Thread nD τ) carV fullShare d)) ∗ (∃ r, prngReg c r)) := by
  unfold Pipeline.ΦA; rw [scopedRest0_eq]; simp only [carK, carV, owns_whole]; try rfl

/-- The offset of a whole two-dimensional array. -/
theorem origin : (![0, 0] : Fin 2 → Nat) = fun _ => 0 := funext fun a => by fin_cases a <;> rfl

/-- A buffer whose last store covers it holds what was stored. -/
theorem read_top {S : Shape} {e : EltTy} {sp : Space} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  funext y
  exact View.read_writes_cons_unit_of_mem v f inb w L y y hz (fun a => (Nat.zero_add _).symm)

/-- A load of a whole buffer reads what it holds. -/
theorem load_whole {S : Shape} {e : EltTy} {sp : Space} (v : View sig .tc sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld]; exact View.ld_unit_zero hz _ _

end Cert.KernelIdeal.Swa

end
-- ==== Proof.Stored.lean ====
/- The values the kernel's body stores, as the functions of the block's tiles. -/
module

public import proofs.«01_k».proof.Proof.Head
public import Idealize.ShloMosaic.Lib.Pipeline.Value

@[expose] public section

set_option maxRecDepth 16384

noncomputable section

namespace Cert.KernelIdeal.Swa

open Idealize.ShloMosaic Idealize.SL.Sem Cert.KernelIdeal.Gen

variable {F : FTy → Type} [FloatOps F] [Named F] (x : Tiles F) (M : IVec S384x256 1)

/-- The lanes of a row of 128, and the rows of a column of 384. -/
def lanes : IVec S1x128 32 := iota .tc S1x128 32 [1] iota_S1x128_d1_w32
def rows : IVec S384x1 32 := iota .tc S384x1 32 [0] iota_S384x1_d0_w32

/-- Group `h`'s sums of the probabilities against their gradient, row by row. -/
def Tiles.dsum (h : Fin 4) : FVec F S384x1 .f32 := rowSum (mulf (x.p M h) (x.dp h))
/-- Group `h`'s gradient of the probabilities, less those sums. -/
def Tiles.rest (h : Fin 4) : FVec F S384x256 .f32 :=
  subf (x.dp h) (broadcastTo S384x256 (x.dsum M h) broadcasts_S384x1_S384x256)
/-- The three parts of the queries' gradient of group `h`. -/
def Tiles.dqa (h : Fin 4) : FVec F S128x64 .f32 := extractStridedSlice S128x64 ![0, 0] (x.dqh M h) slices_S384x64_o0_0_S128x64
def Tiles.dqb (h : Fin 4) : FVec F S128x64 .f32 := extractStridedSlice S128x64 ![128, 0] (x.dqh M h) slices_S384x64_o128_0_S128x64
def Tiles.dqc (h : Fin 4) : FVec F S128x64 .f32 := extractStridedSlice S128x64 ![256, 0] (x.dqh M h) slices_S384x64_o256_0_S128x64
/-- The sinks' gradient after the first groups. -/
def Tiles.lane0 : FVec F S1x128 .f32 := addLanes (broadcast S1x128 (Scalar.ofBits .f32 0x00000000#32)) 0#32 1#32 2#32 (x.dsh M 0)
def Tiles.lane1 : FVec F S1x128 .f32 := addLanes (x.lane0 M) 3#32 4#32 5#32 (x.dsh M 1)
def Tiles.lane2 : FVec F S1x128 .f32 := addLanes (x.lane1 M) 6#32 7#32 8#32 (x.dsh M 2)

namespace Tiles

theorem lanes_eq : iota .tc S1x128 32 [1] iota_S1x128_d1_w32 = lanes := rfl
theorem rows_eq : iota .tc S384x1 32 [0] iota_S384x1_d0_w32 = rows := rfl
theorem keys_eq : k0_pay12 x.kPrev x.kCur = x.keys := rfl
theorem vals_eq : k0_pay13 x.vPrev x.vCur = x.vals := rfl
theorem grad_eq : k0_pay14 x.g = x.grad := rfl

/-! The first group's values, as the body computes them. -/
theorem qq0_eq : k0_pay21 x.q = x.qq 0 := rfl
theorem kh0_eq : k0_pay22 x.keys = head x.keys 0 := rfl
theorem dd0_eq : k0_pay23 x.grad = x.dd 0 := rfl
theorem p0_eq : k0_pay29 M k0_pay11 x.keys x.q k0_pay16 (x.sinkAt 0) (x.sinkAt 1) (x.sinkAt 2) k0_pay17 k0_pay18 k0_pay19
    = x.p M 0 := rfl
theorem ps0_eq : k0_pay30 M k0_pay11 x.keys x.q k0_pay16 (x.sinkAt 0) (x.sinkAt 1) (x.sinkAt 2) k0_pay17 k0_pay18 k0_pay19
    = x.ps M 0 := rfl
theorem dsum0_eq : k0_pay32 M k0_pay11 x.keys x.vals x.q x.grad k0_pay16 (x.sinkAt 0) (x.sinkAt 1) (x.sinkAt 2) k0_pay17 k0_pay18 k0_pay19
    = x.dsum M 0 := rfl
theorem rest0_eq : k0_pay33 M k0_pay11 x.keys x.vals x.q x.grad k0_pay16 (x.sinkAt 0) (x.sinkAt 1) (x.sinkAt 2) k0_pay17 k0_pay18 k0_pay19
    = x.rest M 0 := rfl
theorem dqa0_eq : k0_pay36 (head x.keys 0) (x.p M 0) (x.rest M 0) = x.dqa M 0 := rfl
theorem dqb0_eq : k0_pay37 (head x.keys 0) (x.p M 0) (x.rest M 0) = x.dqb M 0 := rfl
theorem dqc0_eq : k0_pay38 (head x.keys 0) (x.p M 0) (x.rest M 0) = x.dqc M 0 := rfl
theorem dk0_eq : k0_pay39 (x.qq 0) (x.p M 0) (x.rest M 0) = x.dkh M 0 := rfl
theorem dv0_eq : k0_pay40 (x.dd 0) (x.p M 0) = x.dvh M 0 := rfl
theorem lane0_eq : k0_pay45 (k0_pay42 lanes k0_pay15 (x.ps M 0) (x.dsum M 0)) (k0_pay43 lanes) (k0_pay44 (x.ps M 0) (x.dsum M 0))
    (Scalar.ofBits .f32 0x00000000#32) = x.lane0 M := rfl

/-! The second group's. -/
theorem qq1_eq : k0_pay50 x.q = x.qq 1 := rfl
theorem dd1_eq : k0_pay52 x.grad = x.dd 1 := rfl
theorem p1_eq : k0_pay58 M k0_pay11 x.keys x.q k0_pay46 (x.sinkAt 3) (x.sinkAt 4) (x.sinkAt 5) k0_pay47 k0_pay48 1#32
    = x.p M 1 := rfl
theorem ps1_eq : k0_pay59 M k0_pay11 x.keys x.q k0_pay46 (x.sinkAt 3) (x.sinkAt 4) (x.sinkAt 5) k0_pay47 k0_pay48 1#32
    = x.ps M 1 := rfl
theorem dsum1_eq : k0_pay61 M k0_pay11 x.keys x.vals x.q x.grad k0_pay46 (x.sinkAt 3) (x.sinkAt 4) (x.sinkAt 5) k0_pay47 k0_pay48 1#32
    = x.dsum M 1 := rfl
theorem ds1_eq : k0_pay62 M k0_pay11 x.keys x.vals x.q x.grad k0_pay46 (x.sinkAt 3) (x.sinkAt 4) (x.sinkAt 5) k0_pay47 k0_pay48 1#32
    = x.ds M 1 := rfl
theorem dqa1_eq : k0_pay65 (k0_pay63 M k0_pay11 x.keys x.vals x.q x.grad k0_pay46 (x.sinkAt 3) (x.sinkAt 4) (x.sinkAt 5) k0_pay47 k0_pay48 1#32)
    (Scalar.ofBits .f32 0x3E000000#32) = x.dqa M 1 := rfl
theorem dqb1_eq : k0_pay66 (k0_pay63 M k0_pay11 x.keys x.vals x.q x.grad k0_pay46 (x.sinkAt 3) (x.sinkAt 4) (x.sinkAt 5) k0_pay47 k0_pay48 1#32)
    (Scalar.ofBits .f32 0x3E000000#32) = x.dqb M 1 := rfl
theorem dqc1_eq : k0_pay67 (k0_pay63 M k0_pay11 x.keys x.vals x.q x.grad k0_pay46 (x.sinkAt 3) (x.sinkAt 4) (x.sinkAt 5) k0_pay47 k0_pay48 1#32)
    (Scalar.ofBits .f32 0x3E000000#32) = x.dqc M 1 := rfl
theorem dk1_eq : k0_pay68 (x.qq 1) (x.ds M 1) = x.dkh M 1 := rfl
theorem dv1_eq : k0_pay69 (x.dd 1) (x.p M 1) = x.dvh M 1 := rfl
theorem lane1_eq : k0_pay70 lanes (x.lane0 M) (x.ps M 1) (x.dsum M 1) = x.lane1 M := rfl

/-! The third group's. -/
theorem qq2_eq : k0_pay76 x.q = x.qq 2 := rfl
theorem dd2_eq : k0_pay78 x.grad = x.dd 2 := rfl
theorem p2_eq : k0_pay84 M k0_pay11 x.keys x.q (x.sinkAt 6) (k0_pay72 rows) (k0_pay73 rows) (k0_pay74 rows (x.sinkAt 7) (x.sinkAt 8))
    = x.p M 2 := rfl
theorem ps2_eq : k0_pay85 M k0_pay11 x.keys x.q (x.sinkAt 6) (k0_pay72 rows) (k0_pay73 rows) (k0_pay74 rows (x.sinkAt 7) (x.sinkAt 8))
    = x.ps M 2 := rfl
theorem dsum2_eq : k0_pay87 M k0_pay11 x.keys x.vals x.q x.grad (x.sinkAt 6) (k0_pay72 rows) (k0_pay73 rows) (k0_pay74 rows (x.sinkAt 7) (x.sinkAt 8))
    = x.dsum M 2 := rfl
theorem ds2_eq : k0_pay88 M k0_pay11 x.keys x.vals x.q x.grad (x.sinkAt 6) (k0_pay72 rows) (k0_pay73 rows) (k0_pay74 rows (x.sinkAt 7) (x.sinkAt 8))
    = x.ds M 2 := rfl
theorem dqa2_eq : k0_pay90 M k0_pay11 x.keys x.vals x.q x.grad (x.sinkAt 6) (k0_pay72 rows) (k0_pay73 rows) (k0_pay74 rows (x.sinkAt 7) (x.sinkAt 8))
    = x.dqa M 2 := rfl
theorem dqb2_eq : k0_pay91 M k0_pay11 x.keys x.vals x.q x.grad (x.sinkAt 6) (k0_pay72 rows) (k0_pay73 rows) (k0_pay74 rows (x.sinkAt 7) (x.sinkAt 8))
    = x.dqb M 2 := rfl
theorem dqc2_eq : k0_pay92 M k0_pay11 x.keys x.vals x.q x.grad (x.sinkAt 6) (k0_pay72 rows) (k0_pay73 rows) (k0_pay74 rows (x.sinkAt 7) (x.sinkAt 8))
    = x.dqc M 2 := rfl
theorem dk2_eq : k0_pay93 (x.qq 2) (x.ds M 2) = x.dkh M 2 := rfl
theorem dv2_eq : k0_pay94 (x.dd 2) (x.p M 2) = x.dvh M 2 := rfl
theorem lane2_eq : k0_pay95 lanes (x.lane1 M) (x.ps M 2) (x.dsum M 2) = x.lane2 M := rfl

/-! The fourth group's. -/
theorem sink3_eq : k0_pay99 rows 128#32 k0_pay96 k0_pay97 (x.sinkAt 9) (x.sinkAt 10) (x.sinkAt 11) = x.sink 3 := rfl
theorem dd3_eq : k0_pay104 x.grad = x.dd 3 := rfl
theorem p3_eq : k0_pay110 M x.keys x.q (x.sink 3) (k0_pay100 k0_pay11 rows 128#32 k0_pay96 k0_pay97) (k0_pay101 x.q) = x.p M 3 := rfl
theorem ps3_eq : k0_pay111 M x.keys x.q (x.sink 3) (k0_pay100 k0_pay11 rows 128#32 k0_pay96 k0_pay97) (k0_pay101 x.q) = x.ps M 3 := rfl
theorem dsum3_eq : k0_pay113 M x.keys x.vals x.q x.grad (x.sink 3) (k0_pay100 k0_pay11 rows 128#32 k0_pay96 k0_pay97) (k0_pay101 x.q)
    = x.dsum M 3 := rfl
theorem dqa3_eq : k0_pay116 M x.keys x.vals x.q x.grad (x.sink 3) (k0_pay100 k0_pay11 rows 128#32 k0_pay96 k0_pay97) (k0_pay101 x.q)
    = x.dqa M 3 := rfl
theorem dqb3_eq : k0_pay117 M x.keys x.vals x.q x.grad (x.sink 3) (k0_pay100 k0_pay11 rows 128#32 k0_pay96 k0_pay97) (k0_pay101 x.q)
    = x.dqb M 3 := rfl
theorem dqc3_eq : k0_pay118 M x.keys x.vals x.q x.grad (x.sink 3) (k0_pay100 k0_pay11 rows 128#32 k0_pay96 k0_pay97) (k0_pay101 x.q)
    = x.dqc M 3 := rfl
theorem dk3_eq : k0_pay119 M x.keys x.vals x.q x.grad (x.sink 3) (k0_pay100 k0_pay11 rows 128#32 k0_pay96 k0_pay97) (k0_pay101 x.q)
    = x.dkh M 3 := rfl

/-! What the block leaves. -/
theorem lane3_eq : k0_pay120 lanes (x.lane2 M) (x.ps M 3) (x.dsum M 3) = x.dsinks M := rfl
theorem dq_eq : k0_pay121 (x.dqa M 0) (x.dqb M 0) (x.dqc M 0) (x.dqa M 1) (x.dqb M 1) (x.dqc M 1) (x.dqa M 2) (x.dqb M 2) (x.dqc M 2)
    (x.dqa M 3) (x.dqb M 3) (x.dqc M 3) = x.dq M := rfl
theorem dk_eq : k0_pay122 (x.dkh M 0) (x.dkh M 1) (x.dkh M 2) (x.dkh M 3) = x.dk M := rfl
theorem dv_eq : k0_pay123 (x.dvh M 0) (x.dvh M 1) (x.dvh M 2) (x.dd 3) (x.p M 3) = x.dv M := rfl

/-! The five stores of a block, and the three that clear. -/
theorem out_eq (a : FVec F S256x256 .f32) (b : Vec F S128x256 .f32) : k0_pay4 a b = addf b (lower a) := rfl
theorem outV_eq (a : FVec F S256x256 .f32) (b : Vec F S128x256 .f32) : k0_pay5 a b = addf b (lower a) := rfl
theorem carry_eq (a : FVec F S256x256 .f32) : k0_pay6 a = upper a := shapeCast_self _ _
theorem carryV_eq (a : FVec F S256x256 .f32) : k0_pay7 a = upper a := shapeCast_self _ _
theorem sinks_eq (a : FVec F S1x128 .f32) (b : Vec F S1x128 .f32) : k0_pay8 a b = addf b a := by
  unfold k0_pay8; rw [shapeCast_self]
theorem zeroK_eq : k0_pay1 (F := F) = broadcast S128x256 (Scalar.ofBits .f32 0x00000000#32) := shapeCast_self _ _
theorem zeroV_eq : k0_pay2 (F := F) = broadcast S128x256 (Scalar.ofBits .f32 0x00000000#32) := shapeCast_self _ _
theorem zeroS_eq : k0_pay3 (F := F) = broadcast S1x128 (Scalar.ofBits .f32 0x00000000#32) := rfl

/-- A scalar load of the sinks. -/
theorem sink_load {sp : Space} (v : View sig .tc sp S12 .f32) (f : v.ty.Contents (Elt F)) (hf : v.read (Elt F) f = x.sinks)
    (n : Fin 12) {off : Fin 1 → Nat} (ho : off 0 = n.val) (inb : ∀ a, off a + S1.size a ≤ S12.size a)
    (y : (Rect.unit (s := S12) off S1.size inb).toLoadRect.shape.Idx) :
    v.readAt (Elt F) (Rect.unit (s := S12) off S1.size inb).toLoadRect f y = x.sinkAt n := by
  change v.read (Elt F) f _ = _
  rw [hf]
  unfold sinkAt
  congr 1
  funext a
  fin_cases a
  refine Fin.ext ?_
  have hy : (y 0).val < 1 := (y 0).isLt
  change off 0 + 1 * (y 0).val = n.val
  omega

end Tiles

end Cert.KernelIdeal.Swa

end
-- ==== Proof.RunB.lean ====
/- One run of the kernel's body at a point that handles a block and is neither the first nor the last. -/
module

public import proofs.«01_k».proof.Proof.Conds
public import proofs.«01_k».proof.Proof.Stored

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The tiles' staging buffers at a point, at given contents. -/
abbrev tilesAt (c : Dev nD) (t : Fin cfg0.N) (x : Tiles F) : sProp 𝕄 :=
  iprop(owns (c : Thread nD τ) (st0 t) fullShare x.sinks ∗ owns (c : Thread nD τ) (st1 t) fullShare x.q
    ∗ owns (c : Thread nD τ) (st2 t) fullShare x.g ∗ owns (c : Thread nD τ) (st3 t) fullShare x.kPrev
    ∗ owns (c : Thread nD τ) (st4 t) fullShare x.kCur ∗ owns (c : Thread nD τ) (st5 t) fullShare x.vPrev
    ∗ owns (c : Thread nD τ) (st6 t) fullShare x.vCur)

/-- The kernel's body at a point. -/
abbrev bodyAt (t : Fin cfg0.N) :=
  cc0_swa_bwd (F := F) (grid0.coords t) (st0 t) (wh0 t) (st1 t) (wh1 t) (st2 t) (wh2 t) (st3 t) (wh3 t) (st4 t) (wh4 t) (st5 t) (wh5 t)
    (st6 t) (wh6 t) (Memref.whole main_arg5) (Memref.isWhole_whole _) (st7 t) (wh7 t) (st8 t) (wh8 t) (st9 t) (wh9 t) (st10 t) (wh10 t)
    carK (Memref.isWhole_whole _) carV (Memref.isWhole_whole _)

/-- The pairs of a query and a key that attend at a point. -/
abbrev maskAt (t : Fin cfg0.N) : IVec S384x256 1 := k0_pay10 (BitVec.ofNat 32 (grid0.coords t 0).val)

set_option maxHeartbeats 4000000 in
/-- At a middle point the body writes the block's gradients, adds the carries to the block before's, and keeps its own
    halves as the next carries. -/
theorem run_middle (c : Dev nD) (t : Fin cfg0.N) (h1 : ¬k0_cond1 (grid0.coords t) = 1#1) (h2 : k0_cond2 (grid0.coords t) = 1#1)
    (h3 : ¬k0_cond3 (grid0.coords t) = 1#1) (x : Tiles F) (s : Vec F S1x128 .f32) (ck cv : Vec F S128x256 .f32)
    (E : Set ℕ) (K : PUnit → sProp 𝕄) :
    iprop(tilesAt c t x ∗ (∃ d, owns (c : Thread nD τ) (st7 t) fullShare d) ∗ (∃ d, owns (c : Thread nD τ) (st8 t) fullShare d)
        ∗ (∃ d, owns (c : Thread nD τ) (st9 t) fullShare d) ∗ owns (c : Thread nD τ) (st10 t) fullShare s
        ∗ owns (c : Thread nD τ) carK fullShare ck ∗ owns (c : Thread nD τ) carV fullShare cv
        ∗ (iprop(tilesAt c t x ∗ owns (c : Thread nD τ) (st7 t) fullShare (x.dq (maskAt t))
            ∗ owns (c : Thread nD τ) (st8 t) fullShare (addf ck (lower (x.dk (maskAt t))))
            ∗ owns (c : Thread nD τ) (st9 t) fullShare (addf cv (lower (x.dv (maskAt t))))
            ∗ owns (c : Thread nD τ) (st10 t) fullShare (addf s (x.dsinks (maskAt t)))
            ∗ owns (c : Thread nD τ) carK fullShare (upper (x.dk (maskAt t)))
            ∗ owns (c : Thread nD τ) carV fullShare (upper (x.dv (maskAt t)))) -∗ K ⟨⟩))
      ⊢ wp frame (wpE (defs₀ (F := F)) Variants.none c none) E (bodyAt t) K := by
  unfold tilesAt bodyAt
  simp only [cc0_swa_bwd_eq_skeleton]; unfold cc0_swa_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, Hk⟩
  sl_exec (disch := first | sl_exact h1 | sl_exact h2 | sl_exact h3)
  sl_step
  have hs0 := x.sink_load (st0 t).view f0 hf0 0 (off := ![0]) rfl inb_S12_S1_0
  have hs1 := x.sink_load (st0 t).view f0 hf0 1 (off := ![1]) rfl inb_S12_S1_1
  have hs2 := x.sink_load (st0 t).view f0 hf0 2 (off := ![2]) rfl inb_S12_S1_2
  have hs3 := x.sink_load (st0 t).view f0 hf0 3 (off := ![3]) rfl inb_S12_S1_3
  have hs4 := x.sink_load (st0 t).view f0 hf0 4 (off := ![4]) rfl inb_S12_S1_4
  have hs5 := x.sink_load (st0 t).view f0 hf0 5 (off := ![5]) rfl inb_S12_S1_5
  have hs6 := x.sink_load (st0 t).view f0 hf0 6 (off := ![6]) rfl inb_S12_S1_6
  have hs7 := x.sink_load (st0 t).view f0 hf0 7 (off := ![7]) rfl inb_S12_S1_7
  have hs8 := x.sink_load (st0 t).view f0 hf0 8 (off := ![8]) rfl inb_S12_S1_8
  have hs9 := x.sink_load (st0 t).view f0 hf0 9 (off := ![9]) rfl inb_S12_S1_9
  have hs10 := x.sink_load (st0 t).view f0 hf0 10 (off := ![10]) rfl inb_S12_S1_10
  have hs11 := x.sink_load (st0 t).view f0 hf0 11 (off := ![11]) rfl inb_S12_S1_11
  iapply Hk
  isplitl [H0 H1 H2 H3 H4 H5 H6]
  · isplitl [H0]
    · iexists f0; isplitr
      · ipureintro; exact hf0
      iexact H0
    isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    iexists f6; isplitr
    · ipureintro; exact hf6
    iexact H6
  isplitl [H7]
  · iexists _; isplitr
    on_goal 2 => iexact H7
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.kh0_eq, Tiles.p0_eq, Tiles.rest0_eq, Tiles.dqa0_eq, Tiles.dqb0_eq, Tiles.dqc0_eq,
      Tiles.dqa1_eq, Tiles.dqb1_eq, Tiles.dqc1_eq, Tiles.dqa2_eq, Tiles.dqb2_eq, Tiles.dqc2_eq,
      Tiles.sink3_eq, Tiles.dqa3_eq, Tiles.dqb3_eq, Tiles.dqc3_eq, Tiles.dq_eq]
  isplitl [H8]
  · iexists _; isplitr
    on_goal 2 => iexact H8
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.rest0_eq, Tiles.qq0_eq, Tiles.dk0_eq, Tiles.qq1_eq, Tiles.ds1_eq, Tiles.dk1_eq,
      Tiles.qq2_eq, Tiles.ds2_eq, Tiles.dk2_eq, Tiles.sink3_eq, Tiles.dk3_eq, Tiles.dk_eq, Tiles.out_eq,
      load_whole (S := S128x256) (View.whole cc0_scratch0) fs0 origin, hfs0]
  isplitl [H9]
  · iexists _; isplitr
    on_goal 2 => iexact H9
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.dd0_eq, Tiles.dv0_eq, Tiles.p1_eq, Tiles.dd1_eq, Tiles.dv1_eq,
      Tiles.p2_eq, Tiles.dd2_eq, Tiles.dv2_eq, Tiles.sink3_eq, Tiles.dd3_eq, Tiles.p3_eq, Tiles.dv_eq, Tiles.outV_eq,
      load_whole (S := S128x256) (View.whole cc0_scratch1) fs1 origin, hfs1]
  isplitl [H10]
  · iexists _; isplitr
    on_goal 2 => iexact H10
    ipureintro
    refine (read_top (F := F) _ _ origin _ _ _).trans ?_
    sl_unfold_words
    rw [Tiles.lanes_eq, Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.ps0_eq, Tiles.dsum0_eq, Tiles.lane0_eq, Tiles.ps1_eq, Tiles.dsum1_eq, Tiles.lane1_eq,
      Tiles.ps2_eq, Tiles.dsum2_eq, Tiles.lane2_eq, Tiles.sink3_eq, Tiles.ps3_eq, Tiles.dsum3_eq, Tiles.lane3_eq, Tiles.sinks_eq,
      load_whole (S := S1x128) (st10 t).view f10 origin, hf10]
  isplitl [HS0]
  · iexists _; isplitr
    on_goal 2 => iexact HS0
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.rest0_eq, Tiles.qq0_eq, Tiles.dk0_eq, Tiles.qq1_eq, Tiles.ds1_eq, Tiles.dk1_eq,
      Tiles.qq2_eq, Tiles.ds2_eq, Tiles.dk2_eq, Tiles.sink3_eq, Tiles.dk3_eq, Tiles.dk_eq, Tiles.carry_eq]
  · iexists _; isplitr
    on_goal 2 => iexact HS1
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.dd0_eq, Tiles.dv0_eq, Tiles.p1_eq, Tiles.dd1_eq, Tiles.dv1_eq,
      Tiles.p2_eq, Tiles.dd2_eq, Tiles.dv2_eq, Tiles.sink3_eq, Tiles.dd3_eq, Tiles.p3_eq, Tiles.dv_eq, Tiles.carryV_eq]

end Cert.KernelIdeal.Swa

end
-- ==== Proof.RunA.lean ====
/- One run of the kernel's body at the first point. -/
module

public import proofs.«01_k».proof.Proof.RunB

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- At the first point the body clears the carries and the sinks' gradient, and then does what it does at a middle point. -/
theorem run_first (c : Dev nD) (t : Fin cfg0.N) (h1 : k0_cond1 (grid0.coords t) = 1#1) (h2 : k0_cond2 (grid0.coords t) = 1#1)
    (h3 : ¬k0_cond3 (grid0.coords t) = 1#1) (x : Tiles F)
    (E : Set ℕ) (K : PUnit → sProp 𝕄) :
    iprop(tilesAt c t x ∗ (∃ d, owns (c : Thread nD τ) (st7 t) fullShare d) ∗ (∃ d, owns (c : Thread nD τ) (st8 t) fullShare d)
        ∗ (∃ d, owns (c : Thread nD τ) (st9 t) fullShare d) ∗ (∃ d, owns (c : Thread nD τ) (st10 t) fullShare d)
        ∗ (∃ d, owns (c : Thread nD τ) carK fullShare d) ∗ (∃ d, owns (c : Thread nD τ) carV fullShare d)
        ∗ (iprop(tilesAt c t x ∗ owns (c : Thread nD τ) (st7 t) fullShare (x.dq (maskAt t))
            ∗ owns (c : Thread nD τ) (st8 t) fullShare (addf (broadcast S128x256 (Scalar.ofBits .f32 0x00000000#32)) (lower (x.dk (maskAt t))))
            ∗ owns (c : Thread nD τ) (st9 t) fullShare (addf (broadcast S128x256 (Scalar.ofBits .f32 0x00000000#32)) (lower (x.dv (maskAt t))))
            ∗ owns (c : Thread nD τ) (st10 t) fullShare (addf (broadcast S1x128 (Scalar.ofBits .f32 0x00000000#32)) (x.dsinks (maskAt t)))
            ∗ owns (c : Thread nD τ) carK fullShare (upper (x.dk (maskAt t)))
            ∗ owns (c : Thread nD τ) carV fullShare (upper (x.dv (maskAt t)))) -∗ K ⟨⟩))
      ⊢ wp frame (wpE (defs₀ (F := F)) Variants.none c none) E (bodyAt t) K := by
  unfold tilesAt bodyAt
  simp only [cc0_swa_bwd_eq_skeleton]; unfold cc0_swa_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, ⟨%e0, %fs0, -, HS0⟩, ⟨%e1, %fs1, -, HS1⟩, Hk⟩
  sl_exec (disch := first | sl_exact h1 | sl_exact h2 | sl_exact h3)
  sl_step
  have hs0 := x.sink_load (st0 t).view f0 hf0 0 (off := ![0]) rfl inb_S12_S1_0
  have hs1 := x.sink_load (st0 t).view f0 hf0 1 (off := ![1]) rfl inb_S12_S1_1
  have hs2 := x.sink_load (st0 t).view f0 hf0 2 (off := ![2]) rfl inb_S12_S1_2
  have hs3 := x.sink_load (st0 t).view f0 hf0 3 (off := ![3]) rfl inb_S12_S1_3
  have hs4 := x.sink_load (st0 t).view f0 hf0 4 (off := ![4]) rfl inb_S12_S1_4
  have hs5 := x.sink_load (st0 t).view f0 hf0 5 (off := ![5]) rfl inb_S12_S1_5
  have hs6 := x.sink_load (st0 t).view f0 hf0 6 (off := ![6]) rfl inb_S12_S1_6
  have hs7 := x.sink_load (st0 t).view f0 hf0 7 (off := ![7]) rfl inb_S12_S1_7
  have hs8 := x.sink_load (st0 t).view f0 hf0 8 (off := ![8]) rfl inb_S12_S1_8
  have hs9 := x.sink_load (st0 t).view f0 hf0 9 (off := ![9]) rfl inb_S12_S1_9
  have hs10 := x.sink_load (st0 t).view f0 hf0 10 (off := ![10]) rfl inb_S12_S1_10
  have hs11 := x.sink_load (st0 t).view f0 hf0 11 (off := ![11]) rfl inb_S12_S1_11
  iapply Hk
  isplitl [H0 H1 H2 H3 H4 H5 H6]
  · isplitl [H0]
    · iexists f0; isplitr
      · ipureintro; exact hf0
      iexact H0
    isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    iexists f6; isplitr
    · ipureintro; exact hf6
    iexact H6
  isplitl [H7]
  · iexists _; isplitr
    on_goal 2 => iexact H7
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.kh0_eq, Tiles.p0_eq, Tiles.rest0_eq, Tiles.dqa0_eq, Tiles.dqb0_eq, Tiles.dqc0_eq,
      Tiles.dqa1_eq, Tiles.dqb1_eq, Tiles.dqc1_eq, Tiles.dqa2_eq, Tiles.dqb2_eq, Tiles.dqc2_eq,
      Tiles.sink3_eq, Tiles.dqa3_eq, Tiles.dqb3_eq, Tiles.dqc3_eq, Tiles.dq_eq]
  isplitl [H8]
  · iexists _; isplitr
    on_goal 2 => iexact H8
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.rest0_eq, Tiles.qq0_eq, Tiles.dk0_eq, Tiles.qq1_eq, Tiles.ds1_eq, Tiles.dk1_eq,
      Tiles.qq2_eq, Tiles.ds2_eq, Tiles.dk2_eq, Tiles.sink3_eq, Tiles.dk3_eq, Tiles.dk_eq, Tiles.out_eq,
      View.readCov_cons_toLoadRect, Tiles.zeroK_eq]
  isplitl [H9]
  · iexists _; isplitr
    on_goal 2 => iexact H9
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.dd0_eq, Tiles.dv0_eq, Tiles.p1_eq, Tiles.dd1_eq, Tiles.dv1_eq,
      Tiles.p2_eq, Tiles.dd2_eq, Tiles.dv2_eq, Tiles.sink3_eq, Tiles.dd3_eq, Tiles.p3_eq, Tiles.dv_eq, Tiles.outV_eq,
      View.readCov_cons_toLoadRect, Tiles.zeroV_eq]
  isplitl [H10]
  · iexists _; isplitr
    on_goal 2 => iexact H10
    ipureintro
    refine (read_top (F := F) _ _ origin _ _ _).trans ?_
    sl_unfold_words
    rw [Tiles.lanes_eq, Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.ps0_eq, Tiles.dsum0_eq, Tiles.lane0_eq, Tiles.ps1_eq, Tiles.dsum1_eq, Tiles.lane1_eq,
      Tiles.ps2_eq, Tiles.dsum2_eq, Tiles.lane2_eq, Tiles.sink3_eq, Tiles.ps3_eq, Tiles.dsum3_eq, Tiles.lane3_eq, Tiles.sinks_eq,
      View.readCov_cons_toLoadRect, Tiles.zeroS_eq]
  isplitl [HS0]
  · iexists _; isplitr
    on_goal 2 => iexact HS0
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.rest0_eq, Tiles.qq0_eq, Tiles.dk0_eq, Tiles.qq1_eq, Tiles.ds1_eq, Tiles.dk1_eq,
      Tiles.qq2_eq, Tiles.ds2_eq, Tiles.dk2_eq, Tiles.sink3_eq, Tiles.dk3_eq, Tiles.dk_eq, Tiles.carry_eq]
  · iexists _; isplitr
    on_goal 2 => iexact HS1
    ipureintro
    refine (read_top (F := F) _ _ origin _ _ _).trans ?_
    sl_unfold_words
    rw [Tiles.rows_eq]
    simp only [
      load_whole (S := S128x768) (st1 t).view f1 origin, load_whole (S := S128x768) (st2 t).view f2 origin,
      load_whole (S := S128x256) (st3 t).view f3 origin, load_whole (S := S128x256) (st4 t).view f4 origin,
      load_whole (S := S128x256) (st5 t).view f5 origin, load_whole (S := S128x256) (st6 t).view f6 origin,
      hf1, hf2, hf3, hf4, hf5, hf6, hs0, hs1, hs2, hs3, hs4, hs5, hs6, hs7, hs8, hs9, hs10, hs11,
      Tiles.keys_eq, Tiles.vals_eq, Tiles.grad_eq,
      Tiles.p0_eq, Tiles.dd0_eq, Tiles.dv0_eq, Tiles.p1_eq, Tiles.dd1_eq, Tiles.dv1_eq,
      Tiles.p2_eq, Tiles.dd2_eq, Tiles.dv2_eq, Tiles.sink3_eq, Tiles.dd3_eq, Tiles.p3_eq, Tiles.dv_eq, Tiles.carryV_eq]

end Cert.KernelIdeal.Swa

end
-- ==== Proof.RunC.lean ====
/- One run of the kernel's body at the last point. -/
module

public import proofs.«01_k».proof.Proof.RunB

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- At the last point the body writes the two carries out. -/
theorem run_last (c : Dev nD) (t : Fin cfg0.N) (h1 : ¬k0_cond1 (grid0.coords t) = 1#1) (h2 : ¬k0_cond2 (grid0.coords t) = 1#1)
    (h3 : k0_cond3 (grid0.coords t) = 1#1) (ck cv : Vec F S128x256 .f32) (E : Set ℕ) (K : PUnit → sProp 𝕄) :
    iprop((∃ d, owns (c : Thread nD τ) (st8 t) fullShare d) ∗ (∃ d, owns (c : Thread nD τ) (st9 t) fullShare d)
        ∗ owns (c : Thread nD τ) carK fullShare ck ∗ owns (c : Thread nD τ) carV fullShare cv
        ∗ (iprop(owns (c : Thread nD τ) (st8 t) fullShare ck ∗ owns (c : Thread nD τ) (st9 t) fullShare cv
            ∗ owns (c : Thread nD τ) carK fullShare ck ∗ owns (c : Thread nD τ) carV fullShare cv) -∗ K ⟨⟩))
      ⊢ wp frame (wpE (defs₀ (F := F)) Variants.none c none) E (bodyAt t) K := by
  unfold bodyAt
  simp only [cc0_swa_bwd_eq_skeleton]; unfold cc0_swa_bwd_skel
  unfold owns
  iintro ⟨⟨%d8, %f8, -, H8⟩, ⟨%d9, %f9, -, H9⟩, ⟨%fs0, %hfs0, HS0⟩, ⟨%fs1, %hfs1, HS1⟩, Hk⟩
  sl_exec (disch := first | sl_exact h1 | sl_exact h2 | sl_exact h3)
  sl_step
  iapply Hk
  isplitl [H8]
  · iexists _; isplitr
    on_goal 2 => iexact H8
    ipureintro
    refine (read_top (F := F) _ _ origin _ _ _).trans ?_
    sl_unfold_words
    simp only [load_whole (S := S128x256) (View.whole cc0_scratch0) fs0 origin, hfs0]
  isplitl [H9]
  · iexists _; isplitr
    on_goal 2 => iexact H9
    ipureintro
    refine (read_top (F := F) _ _ origin _ _ _).trans ?_
    sl_unfold_words
    simp only [load_whole (S := S128x256) (View.whole cc0_scratch1) fs1 origin, hfs1]
  isplitl [HS0]
  · iexists fs0; isplitr
    · ipureintro; exact hfs0
    iexact HS0
  iexists fs1; isplitr
  · ipureintro; exact hfs1
  iexact HS1

end Cert.KernelIdeal.Swa

end
-- ==== Proof.Outs.lean ====
/- What each buffer of the kernel holds after each grid point, and the proof data of the launch. -/
module

public import proofs.«01_k».proof.Proof.RunA
public import proofs.«01_k».proof.Proof.RunB
public import proofs.«01_k».proof.Proof.RunC

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable (m : (ℓ : Loc nD τ sig) → Buf (Elt F) ℓ)

local notation "𝕄" => MT nD τ sig Unit (Elt F) ℕ (UR sig nD τ) ℕ

/-- The grid point that handles block `n` of the tokens; the last block's from there on. -/
def pt (n : ℕ) : Fin cfg0.N := ⟨min n 31, lt_of_lt_of_eq (Nat.lt_of_le_of_lt (Nat.min_le_right n 31) (by decide)) N_0.symm⟩

/-- A point that handles a block is that block's point. -/
theorem pt_val (t : Fin cfg0.N) (h : t.val < 32) : pt t.val = t := Fin.ext (by show min t.val 31 = t.val; omega)

/-- The tiles at a point. -/
def tiles (c : Dev nD) (t : Fin cfg0.N) : Tiles F :=
  { sinks := iblk m c 0 t, q := X0_1 m c t, g := X0_2 m c t, kPrev := iblk m c 3 t, kCur := iblk m c 4 t,
    vPrev := iblk m c 5 t, vCur := iblk m c 6 t }

/-- Block `n`'s gradients of its queries, of the keys and values it sees, and of the sinks. -/
def qGrad (c : Dev nD) (n : ℕ) : Vec F S128x768 .f32 := (tiles m c (pt n)).dq (maskAt (pt n))
def kGrad (c : Dev nD) (n : ℕ) : Vec F S256x256 .f32 := (tiles m c (pt n)).dk (maskAt (pt n))
def vGrad (c : Dev nD) (n : ℕ) : Vec F S256x256 .f32 := (tiles m c (pt n)).dv (maskAt (pt n))
def sGrad (c : Dev nD) (n : ℕ) : Vec F S1x128 .f32 := (tiles m c (pt n)).dsinks (maskAt (pt n))

/-- What point `n` writes of a pair of neighbouring blocks' gradients `G`: at the first point there is no block before, at the
    last no block after. -/
def joined (G : ℕ → Vec F S256x256 .f32) (n : ℕ) : Vec F S128x256 .f32 :=
  if n = 0 then addf (broadcast S128x256 (Scalar.ofBits .f32 0x00000000#32)) (lower (G 0))
  else if n < 32 then addf (upper (G (n - 1))) (lower (G n)) else upper (G 31)

/-- The sum of the sinks' gradients up to block `n`. -/
def sumTo (c : Dev nD) : ℕ → Vec F S1x128 .f32
  | 0 => addf (broadcast S1x128 (Scalar.ofBits .f32 0x00000000#32)) (sGrad m c 0)
  | n + 1 => if n + 1 < 32 then addf (sumTo c n) (sGrad m c (n + 1)) else sumTo c n

theorem joined_first (G : ℕ → Vec F S256x256 .f32) :
    joined G 0 = addf (broadcast S128x256 (Scalar.ofBits .f32 0x00000000#32)) (lower (G 0)) := if_pos rfl
theorem joined_middle (G : ℕ → Vec F S256x256 .f32) {n : ℕ} (h0 : n ≠ 0) (h : n < 32) :
    joined G n = addf (upper (G (n - 1))) (lower (G n)) := by unfold joined; rw [if_neg h0, if_pos h]
theorem joined_last (G : ℕ → Vec F S256x256 .f32) : joined G 32 = upper (G 31) := by
  unfold joined; rw [if_neg (by decide), if_neg (by decide)]

theorem sumTo_middle (c : Dev nD) {n : ℕ} (h0 : n ≠ 0) (h : n < 32) : sumTo m c n = addf (sumTo m c (n - 1)) (sGrad m c n) := by
  obtain ⟨k, rfl⟩ := Nat.exists_eq_succ_of_ne_zero h0
  show (if k + 1 < 32 then _ else _) = _
  rw [if_pos h]; rfl
theorem sumTo_last (c : Dev nD) : sumTo m c 32 = sumTo m c 31 := by
  show (if 31 + 1 < 32 then _ else _) = _
  rw [if_neg (by decide)]

/-- The region's invariant at a point's start: the carries hold the later halves of the block before's gradients. -/
def carried (c : Dev nD) : (n : ℕ) → n ≤ cfg0.N → sProp 𝕄
  | 0, _ => Pipeline.ΦA spec0 c
  | n + 1, _ => iprop(iprop(owns (c : Thread nD τ) carK fullShare (upper (kGrad m c n))
      ∗ owns (c : Thread nD τ) carV fullShare (upper (vGrad m c n))) ∗ (∃ r, prngReg c r))

theorem carried_zero (c : Dev nD) (n : ℕ) (h : n ≤ cfg0.N) (h0 : n = 0) : (carried m c n h : sProp 𝕄) = Pipeline.ΦA spec0 c := by
  subst h0; rfl
theorem carried_succ (c : Dev nD) (n : ℕ) (h : n + 1 ≤ cfg0.N) :
    (carried m c (n + 1) h : sProp 𝕄) = iprop(iprop(owns (c : Thread nD τ) carK fullShare (upper (kGrad m c n))
      ∗ owns (c : Thread nD τ) carV fullShare (upper (vGrad m c n))) ∗ (∃ r, prngReg c r)) := rfl
theorem carried_pos (c : Dev nD) (n : ℕ) (h : n ≤ cfg0.N) (h0 : n ≠ 0) :
    (carried m c n h : sProp 𝕄) = iprop(iprop(owns (c : Thread nD τ) carK fullShare (upper (kGrad m c (n - 1)))
      ∗ owns (c : Thread nD τ) carV fullShare (upper (vGrad m c (n - 1)))) ∗ (∃ r, prngReg c r)) := by
  cases n with
  | zero => exact absurd rfl h0
  | succ n => rfl

/-- The launch's proof data: the arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => qGrad m c t.val
    | ⟨8, _⟩ => joined (kGrad m c) t.val
    | ⟨9, _⟩ => joined (vGrad m c) t.val
    | ⟨10, _⟩ => sumTo m c t.val
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = qGrad m c t.val := by dsimp only [dats]
theorem after8 (c : Dev nD) (t : Fin cfg0.N) : (dats m 0 c).after 8 t = joined (kGrad m c) t.val := by dsimp only [dats]
theorem after9 (c : Dev nD) (t : Fin cfg0.N) : (dats m 0 c).after 9 t = joined (vGrad m c) t.val := by dsimp only [dats]
theorem after10 (c : Dev nD) (t : Fin cfg0.N) : (dats m 0 c).after 10 t = sumTo m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The grid has thirty-three points. -/
theorem point_lt (t : Fin cfg0.N) : t.val < 33 := lt_of_lt_of_eq t.isLt (show cfg0.N = 33 from N_0)

/-- No block of the queries' gradient is cut. -/
theorem whole7 : ∀ (i : cfg0.grid.Coords) a, (cfg0.win 7).clip i a = none :=
  (by decide +kernel : ∀ (i : grid0.Coords) a, win0_7.clip i a = none)

/-- The last point finds the last block's queries' gradient still in its buffer. -/
theorem before7 (c : Dev nD) (t : Fin cfg0.N) (h : t.val = 32) (d) : (dats m 0 c).before 7 t d = qGrad m c 31 := by
  rw [Dat.before_out_traj (dats m 0 c) 7 rfl
    whole7
    (fun t _ hi _ => by
      rw [after7, after7]
      have h := of_decide_eq_true ((idle7 t).symm.trans hi)
      have e : pt t.val = pt (t.val - 1) := Fin.ext (by show min t.val 31 = min (t.val - 1) 31; omega)
      unfold qGrad; rw [e]) t.val t rfl d, if_neg (by rw [fresh7 t, h]; decide), after7]
  show qGrad m c (t.val - 1) = _
  rw [h]

/-- From the second point on the sinks' buffer is found at the sum so far. -/
theorem before10 (c : Dev nD) (t : Fin cfg0.N) (h : t.val ≠ 0) (d) : (dats m 0 c).before 10 t d = sumTo m c (t.val - 1) := by
  rw [Dat.before_out_traj (dats m 0 c) 10 rfl (fun _ _ => rfl)
    (fun t _ hi _ => by
      rw [after10, after10]
      have h := of_decide_eq_true ((idle10 t).symm.trans hi)
      show sumTo m c t.val = sumTo m c (t.val - 1)
      rw [h]; exact sumTo_last m c) t.val t rfl d,
    if_neg (by rw [fresh10 t, decide_eq_false (by have := point_lt t; omega)]; exact Bool.false_ne_true), after10]

/-- A point leaves in a window's buffer what the proof data say, where the window is used or written back. -/
theorem leaves_after (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

end Cert.KernelIdeal.Swa

end
-- ==== Proof.Body.lean ====
/- The body of the kernel at each grid point, against the proof data of the launch. -/
module

public import proofs.«01_k».proof.Proof.Outs

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable (m : (ℓ : Loc nD τ sig) → Buf (Elt F) ℓ)

local notation "𝕄" => MT nD τ sig Unit (Elt F) ℕ (UR sig nD τ) ℕ

/-- What the pipeline hands the body at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- What the body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The same, with what each buffer holds spelt out. -/
def bodyLeft (c : Dev nD) (t : Fin cfg0.N) : sProp 𝕄 :=
  iprop(iprop(iprop(owns (c : Thread nD τ) carK fullShare (upper (kGrad m c t.val))
      ∗ owns (c : Thread nD τ) carV fullShare (upper (vGrad m c t.val))) ∗ (∃ r, prngReg c r))
    ∗ (dats m 0 c).owesAt () t.castSucc
    ∗ owns (c : Thread nD τ) (st0 t) fullShare (iblk m c 0 t)
    ∗ owns (c : Thread nD τ) (st1 t) fullShare (X0_1 m c t)
    ∗ owns (c : Thread nD τ) (st2 t) fullShare (X0_2 m c t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (iblk m c 6 t)
    ∗ owns (c : Thread nD τ) (st7 t) fullShare (qGrad m c t.val)
    ∗ owns (c : Thread nD τ) (st8 t) fullShare (joined (kGrad m c) t.val)
    ∗ owns (c : Thread nD τ) (st9 t) fullShare (joined (vGrad m c) t.val)
    ∗ owns (c : Thread nD τ) (st10 t) fullShare (sumTo m c t.val))

/-- A window written whatever the point, or at every point but the last and written back there. -/
theorem used7 (t : Fin cfg0.N) : cfg0.idle 7 (cfg0.grid.coords t) = false ∨ (cfg0.win 7).flush t = true := by
  rw [show cfg0.idle 7 (cfg0.grid.coords t) = _ from idle7 t, flush7 t]
  by_cases h : t.val = 32
  · exact Or.inr (decide_eq_true (by omega))
  · exact Or.inl (decide_eq_false h)
theorem used10 (t : Fin cfg0.N) : cfg0.idle 10 (cfg0.grid.coords t) = false ∨ (cfg0.win 10).flush t = true := by
  rw [show cfg0.idle 10 (cfg0.grid.coords t) = _ from idle10 t]
  by_cases h : t.val = 32
  · exact Or.inr ((flush0_10 t).mpr (by omega))
  · exact Or.inl (decide_eq_false h)

/-- What the body hands back, buffer by buffer. -/
theorem bodyPost_eq (c : Dev nD) (t : Fin cfg0.N) : bodyPost m c t = bodyLeft m c t := by
  unfold bodyPost bodyLeft
  rw [show (dats m 0 c).owesAt () t.succ = (dats m 0 c).owesAt () t.castSucc from rfl,
    show (dats m 0 c).Φ t.succ = carried m c (t.val + 1) t.isLt from rfl, carried_succ]
  rw [show (dats m 0 c).leavesExact 0 t = owns (c : Thread nD τ) (st0 t) fullShare ((dats m 0 c).after 0 t) from leaves_after m c 0 t (Or.inl rfl), after0]
  rw [show (dats m 0 c).leavesExact 1 t = owns (c : Thread nD τ) (st1 t) fullShare ((dats m 0 c).after 1 t) from leaves_after m c 1 t (Or.inl rfl), after1]
  rw [show (dats m 0 c).leavesExact 2 t = owns (c : Thread nD τ) (st2 t) fullShare ((dats m 0 c).after 2 t) from leaves_after m c 2 t (Or.inl rfl), after2]
  rw [show (dats m 0 c).leavesExact 3 t = owns (c : Thread nD τ) (st3 t) fullShare ((dats m 0 c).after 3 t) from leaves_after m c 3 t (Or.inl rfl), after3]
  rw [show (dats m 0 c).leavesExact 4 t = owns (c : Thread nD τ) (st4 t) fullShare ((dats m 0 c).after 4 t) from leaves_after m c 4 t (Or.inl rfl), after4]
  rw [show (dats m 0 c).leavesExact 5 t = owns (c : Thread nD τ) (st5 t) fullShare ((dats m 0 c).after 5 t) from leaves_after m c 5 t (Or.inl rfl), after5]
  rw [show (dats m 0 c).leavesExact 6 t = owns (c : Thread nD τ) (st6 t) fullShare ((dats m 0 c).after 6 t) from leaves_after m c 6 t (Or.inl rfl), after6]
  rw [show (dats m 0 c).leavesExact 7 t = owns (c : Thread nD τ) (st7 t) fullShare ((dats m 0 c).after 7 t) from leaves_after m c 7 t (used7 t), after7]
  rw [show (dats m 0 c).leavesExact 8 t = owns (c : Thread nD τ) (st8 t) fullShare ((dats m 0 c).after 8 t) from leaves_after m c 8 t (Or.inl (live8 t)), after8]
  rw [show (dats m 0 c).leavesExact 9 t = owns (c : Thread nD τ) (st9 t) fullShare ((dats m 0 c).after 9 t) from leaves_after m c 9 t (Or.inl (live9 t)), after9]
  rw [show (dats m 0 c).leavesExact 10 t = owns (c : Thread nD τ) (st10 t) fullShare ((dats m 0 c).after 10 t) from leaves_after m c 10 t (used10 t), after10]

/-- What the pipeline hands the body, with what each tile's buffer holds spelt out. -/
theorem bodyPre_eq (c : Dev nD) (t : Fin cfg0.N) : bodyPre m c t =
    iprop(carried m c t.val (Nat.le_of_lt t.isLt) ∗ (dats m 0 c).owesAt () t.castSucc
    ∗ (∃ _d : (cfg0.win 0).block.Idx → Elt F (cfg0.win 0).elt, owns (c : Thread nD τ) (st0 t) fullShare (iblk m c 0 t))
    ∗ (∃ _d : (cfg0.win 1).block.Idx → Elt F (cfg0.win 1).elt, owns (c : Thread nD τ) (st1 t) fullShare (X0_1 m c t))
    ∗ (∃ _d : (cfg0.win 2).block.Idx → Elt F (cfg0.win 2).elt, owns (c : Thread nD τ) (st2 t) fullShare (X0_2 m c t))
    ∗ (∃ _d : (cfg0.win 3).block.Idx → Elt F (cfg0.win 3).elt, owns (c : Thread nD τ) (st3 t) fullShare (iblk m c 3 t))
    ∗ (∃ _d : (cfg0.win 4).block.Idx → Elt F (cfg0.win 4).elt, owns (c : Thread nD τ) (st4 t) fullShare (iblk m c 4 t))
    ∗ (∃ _d : (cfg0.win 5).block.Idx → Elt F (cfg0.win 5).elt, owns (c : Thread nD τ) (st5 t) fullShare (iblk m c 5 t))
    ∗ (∃ _d : (cfg0.win 6).block.Idx → Elt F (cfg0.win 6).elt, owns (c : Thread nD τ) (st6 t) fullShare (iblk m c 6 t))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))) := by
  unfold bodyPre
  simp only [before0, before1, before2, before3, before4, before5, before6]
  rw [carried_castSucc]

/-- At the first point. -/
theorem body_first (c : Dev nD) (t : Fin cfg0.N) (ht : t.val = 0) :
    bodyPre m c t ⊢ wp frame (wpE (defs₀ (F := F)) Variants.none c none) Set.univ (bodyAt t) (fun _ => bodyPost m c t) := by
  rw [bodyPost_eq, bodyPre_eq]; unfold bodyLeft
  rw [carried_zero m c _ _ ht, rest_eq]
  rw [show joined (kGrad m c) t.val = _ from (congrArg _ ht).trans (joined_first _),
    show joined (vGrad m c) t.val = _ from (congrArg _ ht).trans (joined_first _),
    show sumTo m c t.val = addf (broadcast S1x128 (Scalar.ofBits .f32 0x00000000#32)) (sGrad m c 0) from congrArg _ ht]
  have e : pt t.val = t := pt_val t (by omega)
  have e' : pt 0 = t := (congrArg pt ht.symm).trans e
  rw [show qGrad m c t.val = (tiles m c t).dq (maskAt t) by unfold qGrad; rw [e],
    show kGrad m c t.val = (tiles m c t).dk (maskAt t) by unfold kGrad; rw [e],
    show vGrad m c t.val = (tiles m c t).dv (maskAt t) by unfold vGrad; rw [e],
    show kGrad m c 0 = (tiles m c t).dk (maskAt t) by unfold kGrad; rw [e'],
    show vGrad m c 0 = (tiles m c t).dv (maskAt t) by unfold vGrad; rw [e'],
    show sGrad m c 0 = (tiles m c t).dsinks (maskAt t) by unfold sGrad; rw [e']]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_first c t ((first_iff t).mpr ht) ((block_iff t).mpr (by omega)) (fun h => by have := (last_iff t).mp h; omega)
    (tiles m c t) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨⟨H0, H1, H2, H3, H4, H5, H6⟩, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- At a middle point. -/
theorem body_middle (c : Dev nD) (t : Fin cfg0.N) (h0 : t.val ≠ 0) (h : t.val < 32) :
    bodyPre m c t ⊢ wp frame (wpE (defs₀ (F := F)) Variants.none c none) Set.univ (bodyAt t) (fun _ => bodyPost m c t) := by
  rw [bodyPost_eq, bodyPre_eq]; unfold bodyLeft
  rw [carried_pos m c _ _ h0]
  simp only [before10 m c t h0]
  rw [joined_middle _ h0 h, joined_middle _ h0 h, sumTo_middle m c h0 h]
  have e : pt t.val = t := pt_val t h
  rw [show qGrad m c t.val = (tiles m c t).dq (maskAt t) by unfold qGrad; rw [e],
    show kGrad m c t.val = (tiles m c t).dk (maskAt t) by unfold kGrad; rw [e],
    show vGrad m c t.val = (tiles m c t).dv (maskAt t) by unfold vGrad; rw [e],
    show sGrad m c t.val = (tiles m c t).dsinks (maskAt t) by unfold sGrad; rw [e]]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_middle c t (fun h => h0 ((first_iff t).mp h)) ((block_iff t).mpr h) (fun h => by have := (last_iff t).mp h; omega)
    (tiles m c t) _ _ _ Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  iintro ⟨⟨H0, H1, H2, H3, H4, H5, H6⟩, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- At the last point. -/
theorem body_last (c : Dev nD) (t : Fin cfg0.N) (h : t.val = 32) :
    bodyPre m c t ⊢ wp frame (wpE (defs₀ (F := F)) Variants.none c none) Set.univ (bodyAt t) (fun _ => bodyPost m c t) := by
  have h0 : t.val ≠ 0 := by omega
  rw [bodyPost_eq, bodyPre_eq]; unfold bodyLeft
  rw [carried_pos m c _ _ h0]
  simp only [before10 m c t h0, before7 m c t h]
  have e : pt t.val = pt 31 := by rw [h]; rfl
  rw [show qGrad m c t.val = qGrad m c 31 by unfold qGrad; rw [e],
    show kGrad m c t.val = kGrad m c 31 by unfold kGrad; rw [e],
    show vGrad m c t.val = vGrad m c 31 by unfold vGrad; rw [e]]
  rw [h, joined_last, joined_last, sumTo_last]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_last c t (fun h => h0 ((first_iff t).mp h)) (fun h' => by have := (block_iff t).mp h'; omega) ((last_iff t).mpr h)
    _ _ Set.univ _)
  isplitl [H8]; · iexists _; iexact H8
  isplitl [H9]; · iexists _; iexact H9
  isplitl [HS0]; · iexact HS0
  isplitl [HS1]; · iexact HS1
  iintro ⟨H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- At any point. -/
theorem body_any (c : Dev nD) (t : Fin cfg0.N) :
    bodyPre m c t ⊢ wp frame (wpE (defs₀ (F := F)) Variants.none c none) Set.univ (bodyAt t) (fun _ => bodyPost m c t) := by
  by_cases h0 : t.val = 0
  · exact body_first m c t h0
  · by_cases h : t.val < 32
    · exact body_middle m c t h0 h
    · exact body_last m c t (by have := point_lt t; omega)

end Cert.KernelIdeal.Swa

end
-- ==== Proof.Launch.lean ====
/- The launch of the kernel: what its run leaves in memory, and its frame. -/
module

public import proofs.«01_k».proof.Proof.Body
public import proofs.«01_k».proof.Proof.Gen.KernelIdeal.Launch

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable (m : (ℓ : Loc nD τ sig) → Buf (Elt F) ℓ)

local notation "𝕄" => MT nD τ sig Unit (Elt F) ℕ (UR sig nD τ) ℕ

/-- The pipeline calls the kernel's body at each point. -/
theorem defs₀_body (t : Fin cfg0.N) : defs₀ (F := F) .tc cfg0.body (cfg0.bodyArgs t (cfg0.slots t)) = bodyAt t := by
  unfold defs₀; rw [Defs.onTc_tc]

/-- The body meets the launch's proof data. -/
theorem body_obligation (c : Dev nD) : BodyObligation (dats (F := F) m 0 c) (defs₀ (F := F)) Variants.none () Set.univ := fun t => by
  rw [bigSep_W0, bigSep_W0, defs₀_body]
  exact triple_restated (body_any m c t) rfl .rfl fun _ => .rfl

/-- The region enters with the invariant. -/
theorem enters (c : Dev nD) : Pipeline.ΦA spec0 c ⊢ (dats m 0 c).Φ 0 := by
  rw [show (dats m 0 c).Φ 0 = carried m c 0 (Nat.zero_le _) from rfl, carried_zero m c 0 _ rfl]

/-- After any point but none, the invariant holds what the region holds at its exit. -/
theorem leaves_any (c : Dev nD) (t : Fin (cfg0.N + 1)) (h : t.val ≠ 0) : (dats m 0 c).Φ t ⊢ Pipeline.ΦA spec0 c := by
  rw [show (dats m 0 c).Φ t = carried m c t.val (Nat.le_of_lt_succ t.isLt) from rfl, carried_pos m c _ _ h, rest_eq]
  iintro ⟨⟨HS0, HS1⟩, Hg⟩
  isplitl [HS0 HS1]
  · isplitl [HS0]
    · iexists _; iexact HS0
    iexists _; iexact HS1
  iexact Hg

variable (ρ : Dev nD → PrngReg)

set_option backward.isDefEq.respectTransparency.types false in
/-- A run of the kernel leaves in each window's array what the proof data say, the other arrays as they were, and the
    semaphores at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose)
    (hq := fun _ _ _ => rfl) (howed := fun _ _ => rfl) (V := V m) (hmain := hmain m Variants.none) (hA := A_eq m)
    (hin := enters m)
    (hout := fun c => leaves_any m c _ (by rw [Fin.val_last, show cfg0.N = 33 from N_0]; decide))

/-- A run of the kernel leaves in each window's array what the proof data say, and the other arrays as they were. -/
theorem run_main : θ_run defs (onTc (τ := τ) (main (F := F))) (s₀ m ρ) (Pipeline.FramePost cfgs (dats m) 0 (V m)) :=
  (θ_run defs _ _).mono (fun _ h => h.1) (run_quiescent m ρ)

end Cert.KernelIdeal.Swa

end
-- ==== Proof.Row.lean ====
/- One row of the attention over the reals: the softmax of a query's scores with a sink, and its derivative. -/
module

public import Idealize.ShloMosaic.Lib.Pointwise

@[expose] public section

noncomputable section

namespace Cert.Attention

open Idealize.ShloMosaic

/-- A sum of reals is the sum of their extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals, off zero. -/
theorem coe_div (x : ℝ) {y : ℝ} (h : y ≠ 0) : Ideal.div (x : EReal) (y : EReal) = ((x / y : ℝ) : EReal) := by
  rw [Ideal.div_coe h, ← EReal.coe_mul, mul_one_div]

/-- What a row is given: which keys the query sees, its scores, its sink, and the gradient of its probabilities. -/
structure Row where
  seen : Fin 256 → Prop
  score : Fin 256 → ℝ
  sink : ℝ
  dp : Fin 256 → ℝ

namespace Row
variable (r : Row)

open Classical in
/-- The exponential of a seen key's score. -/
def e (j : Fin 256) : ℝ := if r.seen j then Real.exp (r.score j) else 0
/-- The softmax's denominator. -/
def z : ℝ := ∑ j, r.e j + Real.exp r.sink
/-- The probability of a key. -/
def p (j : Fin 256) : ℝ := r.e j / r.z
/-- The probability of the sink. -/
def ps : ℝ := Real.exp r.sink / r.z
/-- The probabilities' gradient, averaged. -/
def mean : ℝ := ∑ j, r.p j * r.dp j
/-- The gradient of a score. -/
def ds (j : Fin 256) : ℝ := r.p j * (r.dp j - r.mean)
/-- The gradient of the sink. -/
def dsink : ℝ := -(r.ps * r.mean)

open Classical in
/-- The score as the programs hold it: that of an unseen key is −∞. -/
def masked (j : Fin 256) : EReal := if r.seen j then (r.score j : EReal) else ⊥

theorem e_nonneg (j : Fin 256) : 0 ≤ r.e j := by unfold e; split <;> positivity
theorem z_pos : 0 < r.z := add_pos_of_nonneg_of_pos (Finset.sum_nonneg fun j _ => r.e_nonneg j) (Real.exp_pos _)
theorem p_unseen {j : Fin 256} (h : ¬r.seen j) : r.p j = 0 := by unfold p e; rw [if_neg h, zero_div]
theorem ds_unseen {j : Fin 256} (h : ¬r.seen j) : r.ds j = 0 := by unfold ds; rw [r.p_unseen h, zero_mul]

/-- The probabilities of the keys and of the sink add up to one. -/
theorem sum_p : ∑ j, r.p j + r.ps = 1 := by
  unfold p ps
  rw [← Finset.sum_div, ← add_div]
  exact div_self r.z_pos.ne'

/-- The gradients of the scores and of the sink add up to zero. -/
theorem sum_ds : ∑ j, r.ds j + r.dsink = 0 := by
  have h : ∑ j, r.ds j = r.mean - (∑ j, r.p j) * r.mean := by
    unfold ds
    simp only [mul_sub, Finset.sum_sub_distrib, ← Finset.sum_mul]
    rfl
  have h1 := r.sum_p
  rw [h]; unfold dsink
  linear_combination -r.mean * h1

/-- Two rows that agree on what is seen. -/
structure Agree (r r' : Row) : Prop where
  seen : ∀ j, r.seen j ↔ r'.seen j
  score : ∀ j, r'.seen j → r.score j = r'.score j
  sink : r.sink = r'.sink
  dp : ∀ j, r'.seen j → r.dp j = r'.dp j

namespace Agree
variable {r r' : Row} (h : Agree r r')
include h

theorem e (j : Fin 256) : r.e j = r'.e j := by
  unfold Row.e
  by_cases hs : r'.seen j
  · rw [if_pos hs, if_pos ((h.seen j).mpr hs), h.score j hs]
  · rw [if_neg hs, if_neg fun a => hs ((h.seen j).mp a)]
theorem z : r.z = r'.z := by unfold Row.z; simp only [h.e, h.sink]
theorem p (j : Fin 256) : r.p j = r'.p j := by unfold Row.p; rw [h.e, h.z]
theorem ps : r.ps = r'.ps := by unfold Row.ps; rw [h.sink, h.z]
theorem pdp (j : Fin 256) : r.p j * r.dp j = r'.p j * r'.dp j := by
  rw [h.p]
  by_cases hs : r'.seen j
  · rw [h.dp j hs]
  · rw [r'.p_unseen hs, zero_mul, zero_mul]
theorem mean : r.mean = r'.mean := Finset.sum_congr rfl fun j _ => h.pdp j
theorem ds (j : Fin 256) : r.ds j = r'.ds j := by
  unfold Row.ds; rw [mul_sub, mul_sub, h.pdp, h.p, h.mean]
theorem dsink : r.dsink = r'.dsink := by unfold Row.dsink; rw [h.ps, h.mean]

end Agree

/-! The programs shift the scores by a real number before the exponential; `c` below is the exponential of its opposite. -/

/-- The greatest of the scores and of the sink is a real number. -/
theorem top_real {ι : Type} (s : Finset ι) (f : ι → EReal) (hf : ∀ i ∈ s, f i ≠ ⊤) (x : ℝ) :
    ∃ μ : ℝ, max (s.fold max ⊥ f) (x : EReal) = (μ : EReal) := by
  have h1 : max (s.fold max ⊥ f) (x : EReal) ≠ ⊤ := by
    refine ne_of_lt (max_lt ?_ (EReal.coe_lt_top x))
    rw [Finset.fold_max_lt]
    exact ⟨bot_lt_top, fun i hi => lt_top_iff_ne_top.mpr (hf i hi)⟩
  have h2 : max (s.fold max ⊥ f) (x : EReal) ≠ ⊥ := ne_of_gt (lt_of_lt_of_le (EReal.bot_lt_coe x) (le_max_right _ _))
  exact ⟨_, (EReal.coe_toReal h1 h2).symm⟩

theorem masked_ne_top (j : Fin 256) : r.masked j ≠ ⊤ := by
  unfold masked; split
  · exact EReal.coe_ne_top _
  · exact bot_ne_top

theorem exp_masked (μ : ℝ) (j : Fin 256) : Ideal.exp (r.masked j - (μ : EReal)) = ((r.e j * Real.exp (-μ) : ℝ) : EReal) := by
  unfold masked e; split
  · rw [← EReal.coe_sub, Ideal.exp_coe, sub_eq_add_neg, Real.exp_add]
  · rw [show (⊥ : EReal) - (μ : EReal) = ⊥ from EReal.bot_sub _, Ideal.exp_bot, zero_mul, EReal.coe_zero]

theorem exp_sink (μ : ℝ) : Ideal.exp ((r.sink : EReal) - (μ : EReal)) = ((Real.exp r.sink * Real.exp (-μ) : ℝ) : EReal) := by
  rw [← EReal.coe_sub, Ideal.exp_coe, sub_eq_add_neg, Real.exp_add]

theorem sum_exp (c : ℝ) : (∑ j, ((r.e j * c : ℝ) : EReal)) + ((Real.exp r.sink * c : ℝ) : EReal) = ((r.z * c : ℝ) : EReal) := by
  rw [← coe_sum, ← EReal.coe_add, ← Finset.sum_mul, ← add_mul]; rfl

variable {c : ℝ} (hc : 0 < c)
include hc

theorem zc_ne : r.z * c ≠ 0 := (mul_pos r.z_pos hc).ne'

/-- A probability by the quotient. -/
theorem div_p (j : Fin 256) : Ideal.div ((r.e j * c : ℝ) : EReal) ((r.z * c : ℝ) : EReal) = (r.p j : EReal) := by
  rw [coe_div _ (r.zc_ne hc)]
  unfold p
  rw [mul_div_mul_right _ _ hc.ne']

/-- A probability by the reciprocal of the denominator. -/
theorem mul_p (j : Fin 256) : ((r.e j * c : ℝ) : EReal) * Ideal.div 1 ((r.z * c : ℝ) : EReal) = (r.p j : EReal) := by
  rw [← EReal.coe_one, coe_div _ (r.zc_ne hc), ← EReal.coe_mul]
  unfold p
  rw [mul_one_div, mul_div_mul_right _ _ hc.ne']

/-- The sink's probability by the reciprocal of the denominator. -/
theorem mul_ps : ((Real.exp r.sink * c : ℝ) : EReal) * Ideal.div 1 ((r.z * c : ℝ) : EReal) = (r.ps : EReal) := by
  rw [← EReal.coe_one, coe_div _ (r.zc_ne hc), ← EReal.coe_mul]
  unfold ps
  rw [mul_one_div, mul_div_mul_right _ _ hc.ne']

/-- The derivative of the quotient by its denominator, as the reference takes it. -/
theorem dz : -(∑ j, ((r.dp j : EReal) * Ideal.div 1 (((r.z * c : ℝ) : EReal) * ((r.z * c : ℝ) : EReal))) * ((r.e j * c : ℝ) : EReal))
    = ((-(r.mean / (r.z * c)) : ℝ) : EReal) := by
  have h := r.zc_ne hc
  simp only [← EReal.coe_mul, ← EReal.coe_one, coe_div _ (mul_ne_zero h h), ← coe_sum, ← EReal.coe_neg]
  refine congrArg (fun x : ℝ => ((-x : ℝ) : EReal)) ?_
  unfold mean
  rw [Finset.sum_div]
  refine Finset.sum_congr rfl fun j _ => ?_
  unfold p
  have hz := r.z_pos.ne'
  have hc' := hc.ne'
  field_simp

/-- The sink's gradient, as the reference takes it. -/
theorem dz_sink : ((-(r.mean / (r.z * c)) : ℝ) : EReal) * ((Real.exp r.sink * c : ℝ) : EReal) = (r.dsink : EReal) := by
  rw [← EReal.coe_mul]
  refine congrArg (fun x : ℝ => (x : EReal)) ?_
  unfold dsink ps
  have hz := r.z_pos.ne'
  have hc' := hc.ne'
  field_simp

/-- A score's gradient, as the reference takes it. -/
theorem dz_ds (j : Fin 256) : (Ideal.div (r.dp j : EReal) ((r.z * c : ℝ) : EReal) + ((-(r.mean / (r.z * c)) : ℝ) : EReal))
      * ((r.e j * c : ℝ) : EReal) = (r.ds j : EReal) := by
  rw [coe_div _ (r.zc_ne hc), ← EReal.coe_add, ← EReal.coe_mul]
  refine congrArg (fun x : ℝ => (x : EReal)) ?_
  unfold ds p
  have hz := r.z_pos.ne'
  have hc' := hc.ne'
  field_simp
  ring

omit hc in
/-- The shift has no gradient. -/
theorem dtop : -(r.dsink : EReal) + ∑ j, -(r.ds j : EReal) = 0 := by
  simp only [← EReal.coe_neg, ← coe_sum, ← EReal.coe_add, Finset.sum_neg_distrib]
  rw [← EReal.coe_zero]
  refine congrArg (fun x : ℝ => (x : EReal)) ?_
  linear_combination -r.sum_ds

end Row

end Cert.Attention

end
-- ==== Proof.Spec.lean ====
/- The gradient of the sliding-window attention over the reals, block by block: what both programs are shown to compute. -/
module

public import proofs.«01_k».proof.Proof.Row

@[expose] public section

noncomputable section

namespace Cert.Attention

/-- The arguments the attention reads, as real arrays: queries, keys, values and the output's gradient by token and column,
    and by query head the sinks and slopes; and the scale of the scores. -/
structure Data where
  q : ℕ → ℕ → ℝ
  k : ℕ → ℕ → ℝ
  v : ℕ → ℕ → ℝ
  g : ℕ → ℕ → ℝ
  sink : ℕ → ℝ
  slope : ℕ → ℝ
  scale : ℝ

namespace Data
variable (D : Data)

/-- The row of query `a` of block `n` in query head `g` of group `h`. Key `j` of a block's 256 is token `128 n + j - 128`. -/
def row (n h g a : ℕ) : Row where
  seen j := a < j.val ∧ j.val ≤ a + 128 ∧ 128 ≤ n * 128 + j.val
  score j := (∑ d : Fin 64, D.q (n * 128 + a) (h * 192 + g * 64 + d) * D.k (n * 128 + j.val - 128) (h * 64 + d)) * D.scale
    - D.slope (h * 3 + g) * ((a : ℝ) + 128 - (j.val : ℝ))
  sink := D.sink (h * 3 + g)
  dp j := ∑ d : Fin 64, D.g (n * 128 + a) (h * 192 + g * 64 + d) * D.v (n * 128 + j.val - 128) (h * 64 + d)

/-- The queries' gradient. -/
def dq (n h g a d : ℕ) : ℝ :=
  (∑ j : Fin 256, (D.row n h g a).ds j * D.k (n * 128 + j.val - 128) (h * 64 + d)) * D.scale
/-- Block `n`'s part of its keys' gradient. -/
def dkOf (n : ℕ) (j : Fin 256) (h d : ℕ) : ℝ :=
  (∑ g : Fin 3, ∑ a : Fin 128, (D.row n h g a).ds j * D.q (n * 128 + a) (h * 192 + g.val * 64 + d)) * D.scale
/-- Block `n`'s part of its values' gradient. -/
def dvOf (n : ℕ) (j : Fin 256) (h d : ℕ) : ℝ :=
  ∑ g : Fin 3, ∑ a : Fin 128, (D.row n h g a).p j * D.g (n * 128 + a) (h * 192 + g.val * 64 + d)
/-- A sum over the two blocks that see key `b` of block `n`. -/
def both (f : ℕ → Fin 256 → ℕ → ℕ → ℝ) (n : ℕ) (b : Fin 128) (h d : ℕ) : ℝ :=
  f n ⟨128 + b.val, by omega⟩ h d + if n + 1 < 32 then f (n + 1) ⟨b.val, by omega⟩ h d else 0
/-- The gradient of a query head's sink. -/
def dsink (h g : ℕ) : ℝ := ∑ n : Fin 32, ∑ a : Fin 128, (D.row n h g a).dsink

end Data

end Cert.Attention

end
-- ==== Proof.Words.lean ====
/- The integer words by which both programs tell whether a query sees a key, and how far apart the two are. -/
module

public import Idealize.ShloMosaic.Lib.Pointwise

@[expose] public section

noncomputable section

namespace Cert.Attention

open Idealize.ShloMosaic

/-- A small integer is read back from its word. -/
theorem toInt_word {x : ℤ} (h : -1073741824 ≤ x) (h' : x < 1073741824) : (BitVec.ofInt 32 x).toInt = x := by
  rw [BitVec.toInt_ofInt]
  exact Int.bmod_eq_of_le (by omega) (by omega)

/-- A word whose signed value is a small integer is that integer's. -/
theorem word_eq {w : BitVec 32} {x : ℤ} (h : w.toInt = x) : w = BitVec.ofInt 32 x := by
  rw [← h, BitVec.ofInt_toInt]

theorem sge_zero {x : ℤ} (h : -1073741824 ≤ x) (h' : x < 1073741824) :
    IntOp.cmpi .sge (BitVec.ofInt 32 x) 0#32 = BitVec.ofBool (decide (0 ≤ x)) := by
  show BitVec.ofBool (decide (_ ≤ _)) = _
  rw [toInt_word h h']; rfl

theorem slt_block {x : ℤ} (h : -1073741824 ≤ x) (h' : x < 1073741824) :
    IntOp.cmpi .slt (BitVec.ofInt 32 x) 128#32 = BitVec.ofBool (decide (x < 128)) := by
  show BitVec.ofBool (decide (_ < _)) = _
  rw [toInt_word h h']; rfl

theorem sge_block {x : ℤ} (h : -1073741824 ≤ x) (h' : x < 1073741824) :
    IntOp.cmpi .sge (BitVec.ofInt 32 x) 128#32 = BitVec.ofBool (decide (128 ≤ x)) := by
  show BitVec.ofBool (decide (_ ≤ _)) = _
  rw [toInt_word h h']; rfl

theorem sgt_zero {x : ℤ} (h : -1073741824 ≤ x) (h' : x < 1073741824) :
    IntOp.cmpi .sgt (BitVec.ofInt 32 x) 0#32 = BitVec.ofBool (decide (0 < x)) := by
  show BitVec.ofBool (decide (_ < _)) = _
  rw [toInt_word h h']; rfl

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem bit_one (p : Prop) [Decidable p] : BitVec.ofBool (decide p) = 1#1 ↔ p := by
  by_cases hp : p <;> simp [hp]

/-- The distance as a float. -/
theorem float_word {x : ℤ} (h : -1073741824 ≤ x) (h' : x < 1073741824) :
    (FloatOps.sitofp .f32 (BitVec.ofInt 32 x) : Ideal .f32) = ((x : ℝ) : EReal) := by
  show (((BitVec.ofInt 32 x).toInt : ℝ) : EReal) = _
  rw [toInt_word h h']

/-- A sum, a difference and a product of integers' words. -/
theorem add_word (x y : ℤ) : IntOp.addi (BitVec.ofInt 32 x) (BitVec.ofInt 32 y) = BitVec.ofInt 32 (x + y) := by
  rw [BitVec.ofInt_add]; rfl
theorem sub_word (x y : ℤ) : IntOp.subi (BitVec.ofInt 32 x) (BitVec.ofInt 32 y) = BitVec.ofInt 32 (x - y) := by
  rw [sub_eq_add_neg, BitVec.ofInt_add, BitVec.ofInt_neg]
  exact BitVec.sub_eq_add_neg _ _
theorem mul_word (x y : ℤ) : IntOp.muli (BitVec.ofInt 32 x) (BitVec.ofInt 32 y) = BitVec.ofInt 32 (x * y) := by
  rw [BitVec.ofInt_mul]; rfl
theorem nat_word (n : ℕ) : BitVec.ofNat 32 n = BitVec.ofInt 32 n := (BitVec.ofInt_natCast 32 n).symm

end Cert.Attention

end
-- ==== Proof.KerRow.lean ====
/- A group of query heads of one block of the kernel, row by row: the real softmax of the attention and its derivative. -/
module

public import proofs.«01_k».proof.Proof.Head
public import proofs.«01_k».proof.Proof.Spec
public import proofs.«01_k».proof.Proof.Words

@[expose] public section

set_option maxRecDepth 16384

noncomputable section

namespace Cert.KernelIdeal.Swa

open Idealize.ShloMosaic Idealize.SL.Sem Cert.KernelIdeal.Gen Cert.Attention

variable (mask : IVec S384x256 1) (slope sink : FVec Ideal S384x1 .f32) (qq dd : FVec Ideal S384x64 .bf16) (kh vh : FVec Ideal S256x64 .bf16)
variable (r : Fin 384) (j : Fin 256) (d : Fin 64)

/-- The word of −∞. -/
theorem neg_inf : Ideal.ofBits .f32 0xFF800000#32 = ⊥ := by simp [Ideal.ofBits, Ideal.ieee]

theorem scores_of : scores mask slope qq kh (ix2 r j)
    = Scalar.select (mask (ix2 r j)) ((∑ d : Fin 64, (show EReal from qq (ix2 r d)) * (show EReal from kh (ix2 j d))) * Ideal.ofBits .f32 0x3E000000#32
        - (show EReal from slope (ix2 r 0)) * (show EReal from (k0_pay11 : FVec Ideal S384x256 .f32) (ix2 r j)))
      (Named.named (F := Ideal) κ "mask" (φ := .f32) 0xFF61B1E6#32) := by
  unfold scores
  generalize (k0_pay11 : FVec Ideal S384x256 .f32) = w
  pointwise

theorem top_of (s : FVec Ideal S384x256 .f32) : top s sink (ix2 r 0)
    = max ((Finset.univ : Finset (Fin 256)).fold max (⊥ : EReal) fun j => s (ix2 r j)) (show EReal from sink (ix2 r 0)) := by
  rw [← neg_inf]
  unfold top
  pointwise

theorem expRow_of (s : FVec Ideal S384x256 .f32) (m : FVec Ideal S384x1 .f32) :
    expRow s m (ix2 r j) = Ideal.exp ((show EReal from s (ix2 r j)) - (show EReal from m (ix2 r 0))) := by
  unfold expRow; pointwise

theorem expSink_of (m : FVec Ideal S384x1 .f32) :
    expSink sink m (ix2 r 0) = Ideal.exp ((show EReal from sink (ix2 r 0)) - (show EReal from m (ix2 r 0))) := by
  unfold expSink; pointwise

theorem rowSum_of (x : FVec Ideal S384x256 .f32) : rowSum x (ix2 r 0) = ∑ j : Fin 256, (show EReal from x (ix2 r j)) := by
  unfold rowSum; pointwise

theorem recip_of (e : FVec Ideal S384x256 .f32) (es : FVec Ideal S384x1 .f32) :
    recip e es (ix2 r 0) = Ideal.div 1 ((show EReal from rowSum e (ix2 r 0)) + (show EReal from es (ix2 r 0))) := by
  rw [← Ideal.ofBits_one_f32]
  unfold recip; generalize rowSum e = w; pointwise

theorem times_of (e : FVec Ideal S384x256 .f32) (w : FVec Ideal S384x1 .f32) :
    mulf e (broadcastTo S384x256 w broadcasts_S384x1_S384x256) (ix2 r j) = (show EReal from e (ix2 r j)) * (show EReal from w (ix2 r 0)) := by
  pointwise

theorem dprob_of : dprob dd vh (ix2 r j) = ∑ d : Fin 64, (show EReal from dd (ix2 r d)) * (show EReal from vh (ix2 j d)) := by
  unfold dprob; pointwise

theorem dscore_of (p dp : FVec Ideal S384x256 .f32) : dscore p dp (ix2 r j)
    = (show EReal from p (ix2 r j)) * ((show EReal from dp (ix2 r j)) - ∑ j : Fin 256, (show EReal from p (ix2 r j)) * (show EReal from dp (ix2 r j))) := by
  unfold dscore rowSum; pointwise

theorem dsinkRows_of (ps : FVec Ideal S384x1 .f32) (p dp : FVec Ideal S384x256 .f32) : dsinkRows ps p dp (ix2 r 0)
    = 0 - (show EReal from ps (ix2 r 0)) * ∑ j : Fin 256, (show EReal from p (ix2 r j)) * (show EReal from dp (ix2 r j)) := by
  rw [← Ideal.ofBits_zero_f32]
  unfold dsinkRows rowSum; pointwise

theorem dqRows_of (ds : FVec Ideal S384x256 .bf16) : dqRows ds kh (ix2 r d)
    = (∑ j : Fin 256, (show EReal from ds (ix2 r j)) * (show EReal from kh (ix2 j d))) * Ideal.ofBits .f32 0x3E000000#32 := by
  unfold dqRows; pointwise

theorem dkCols_of (ds : FVec Ideal S384x256 .bf16) : dkCols qq ds (ix2 d j)
    = (∑ r : Fin 384, (show EReal from qq (ix2 r d)) * (show EReal from ds (ix2 r j))) * Ideal.ofBits .f32 0x3E000000#32 := by
  unfold dkCols; pointwise

theorem dvCols_of (p : FVec Ideal S384x256 .f32) : dvCols dd p (ix2 d j)
    = ∑ r : Fin 384, (show EReal from dd (ix2 r d)) * (show EReal from p (ix2 r j)) := by
  unfold dvCols; pointwise

/-- What makes row `r` of a group the attention's row `R`. -/
structure RowHolds (R : Row) : Prop where
  score : ∀ j : Fin 256, scores mask slope qq kh (ix2 r j) = R.masked j
  sink : sink (ix2 r 0) = (R.sink : EReal)
  dp : ∀ j : Fin 256, dprob dd vh (ix2 r j) = (R.dp j : EReal)

namespace RowHolds
variable {mask slope sink qq dd kh vh r} {R : Row} (H : RowHolds mask slope sink qq dd kh vh r R)
include H

/-- The row's shift is a real number. -/
theorem top_real : ∃ μ : ℝ, top (scores mask slope qq kh) sink (ix2 r 0) = (μ : EReal) := by
  obtain ⟨μ, hμ⟩ := Row.top_real Finset.univ R.masked (fun j _ => R.masked_ne_top j) R.sink
  refine ⟨μ, (top_of sink r _).trans (Eq.trans ?_ hμ)⟩
  rw [H.sink, show (fun j => scores mask slope qq kh (ix2 r j)) = R.masked from funext H.score]

theorem row : ∃ c : ℝ, 0 < c
    ∧ (∀ j : Fin 256, expRow (scores mask slope qq kh) (top (scores mask slope qq kh) sink) (ix2 r j) = ((R.e j * c : ℝ) : EReal))
    ∧ expSink sink (top (scores mask slope qq kh) sink) (ix2 r 0) = ((Real.exp R.sink * c : ℝ) : EReal)
    ∧ recip (expRow (scores mask slope qq kh) (top (scores mask slope qq kh) sink)) (expSink sink (top (scores mask slope qq kh) sink)) (ix2 r 0)
      = Ideal.div 1 ((R.z * c : ℝ) : EReal) := by
  obtain ⟨μ, hμ⟩ := H.top_real
  have he : ∀ j : Fin 256, expRow (scores mask slope qq kh) (top (scores mask slope qq kh) sink) (ix2 r j)
      = ((R.e j * Real.exp (-μ) : ℝ) : EReal) := fun j =>
    (expRow_of r j _ _).trans ((congrArg₂ (fun x y : EReal => Ideal.exp (x - y)) (H.score j) hμ).trans (R.exp_masked μ j))
  have hs : expSink sink (top (scores mask slope qq kh) sink) (ix2 r 0) = ((Real.exp R.sink * Real.exp (-μ) : ℝ) : EReal) :=
    (expSink_of sink r _).trans ((congrArg₂ (fun x y : EReal => Ideal.exp (x - y)) H.sink hμ).trans (R.exp_sink μ))
  refine ⟨Real.exp (-μ), Real.exp_pos _, he, hs, (recip_of r _ _).trans (congrArg (Ideal.div 1) ?_)⟩
  exact (congrArg₂ (fun x y : EReal => x + y) ((rowSum_of r _).trans (Finset.sum_congr rfl fun j _ => he j)) hs).trans (Row.sum_exp _ _)

theorem prob (j : Fin 256) : Swa.prob mask slope sink qq kh (ix2 r j) = (R.p j : EReal) := by
  obtain ⟨c, hc, he, _, hz⟩ := H.row
  exact (times_of r j _ _).trans ((congrArg₂ (fun x y : EReal => x * y) (he j) hz).trans (R.mul_p hc j))

theorem probSink : Swa.probSink mask slope sink qq kh (ix2 r 0) = (R.ps : EReal) := by
  obtain ⟨c, hc, _, hs, hz⟩ := H.row
  exact (congrArg₂ (fun x y : EReal => x * y) hs hz).trans (R.mul_ps hc)

theorem mean : (∑ j : Fin 256, (show EReal from Swa.prob mask slope sink qq kh (ix2 r j)) * (show EReal from dprob dd vh (ix2 r j)))
    = (R.mean : EReal) := by
  unfold Row.mean
  rw [coe_sum]
  refine Finset.sum_congr rfl fun j _ => ?_
  rw [EReal.coe_mul]
  exact congrArg₂ (fun x y : EReal => x * y) (H.prob j) (H.dp j)

theorem ds (j : Fin 256) : dscore (Swa.prob mask slope sink qq kh) (dprob dd vh) (ix2 r j) = (R.ds j : EReal) := by
  refine (dscore_of r j _ _).trans ?_
  unfold Row.ds
  rw [EReal.coe_mul, EReal.coe_sub]
  exact congrArg₂ (fun x y : EReal => x * y) (H.prob j) (congrArg₂ (fun x y : EReal => x - y) (H.dp j) H.mean)

theorem dsink : dsinkRows (Swa.probSink mask slope sink qq kh) (Swa.prob mask slope sink qq kh) (dprob dd vh) (ix2 r 0) = (R.dsink : EReal) := by
  refine (dsinkRows_of r _ _ _).trans ?_
  unfold Row.dsink
  rw [EReal.coe_neg, EReal.coe_mul, ← zero_sub]
  exact congrArg (fun x : EReal => 0 - x) (congrArg₂ (fun x y : EReal => x * y) H.probSink H.mean)

end RowHolds

end Cert.KernelIdeal.Swa

end
-- ==== Proof.KerTiles.lean ====
/- A block of the kernel whose tiles are the attention's arguments: each of its rows is a row of the attention. -/
module

public import proofs.«01_k».proof.Proof.KerRow

@[expose] public section

set_option maxRecDepth 16384

noncomputable section

namespace Cert.KernelIdeal.Swa

open Idealize.ShloMosaic Idealize.SL.Sem Cert.KernelIdeal.Gen Cert.Attention

variable (r : Fin 384) (j : Fin 256) (d : Fin 64) (h : Fin 4)

/-- The distance from a key to a query, in tokens. -/
theorem dist_at : k0_pay9 (ix2 r j) = BitVec.ofInt 32 (((r.val % 128 : ℕ) : ℤ) + 128 - j.val) := by
  have e : k0_pay9 (ix2 r j) = IntOp.subi (IntOp.addi (BitVec.ofNat 32 (r.val % 128)) 128#32) (BitVec.ofNat 32 j.val) := by
    unfold k0_pay9
    pointwise
    refine congrArg₂ IntOp.subi (congrArg₂ IntOp.addi ?_ rfl) rfl
    revert r
    decide +kernel
  rw [e, show (128#32 : BitVec 32) = BitVec.ofInt 32 128 from rfl, nat_word (r.val % 128), nat_word j, add_word, sub_word]

/-- The head of a row within its group. -/
theorem grp_at : grp (ix2 r 0) = BitVec.ofNat 32 (r.val / 128) := by
  unfold grp k0_pay16
  pointwise
  revert r
  decide +kernel

/-- Which keys a query sees. -/
theorem mask_at (D : Data) {n : ℕ} (hn : n < 32) (g : ℕ) : k0_pay10 (BitVec.ofNat 32 n) (ix2 r j) = 1#1 ↔ (D.row n h g (r.val % 128)).seen j := by
  have e : k0_pay10 (BitVec.ofNat 32 n) (ix2 r j) = IntOp.andi
      (IntOp.andi (IntOp.cmpi .sge (k0_pay9 (ix2 r j)) 0#32) (IntOp.cmpi .slt (k0_pay9 (ix2 r j)) 128#32))
      (IntOp.ori (IntOp.cmpi .sgt (BitVec.ofNat 32 n) 0#32) (IntOp.cmpi .sge (BitVec.ofNat 32 j.val) 128#32)) := by
    unfold k0_pay10
    generalize k0_pay9 = z
    pointwise
    rfl
  have hr := r.isLt
  have hj := j.isLt
  rw [e, dist_at, nat_word n, nat_word j, sge_zero (by omega) (by omega), slt_block (by omega) (by omega), sgt_zero (by omega) (by omega),
    sge_block (by omega) (by omega), and_bit, or_bit, and_bit, bit_one]
  show _ ↔ (r.val % 128 < j.val ∧ j.val ≤ r.val % 128 + 128 ∧ 128 ≤ n * 128 + j.val)
  omega

/-- The distance as a float. -/
theorem fdist_at : (k0_pay11 : FVec Ideal S384x256 .f32) (ix2 r j) = (((((r.val % 128 : ℕ) : ℤ) + 128 - j.val : ℤ) : ℝ) : EReal) := by
  have e : (k0_pay11 : FVec Ideal S384x256 .f32) (ix2 r j) = FloatOps.sitofp (F := Ideal) .f32 (k0_pay9 (ix2 r j)) := rfl
  have hr := r.isLt
  have hj := j.isLt
  rw [e, dist_at]
  exact float_word (by omega) (by omega)

theorem stack_of {t : FTy} (a b c : FVec Ideal S128x64 t) : stack a b c (ix2 r d)
    = if e : r.val < 128 then a (ix2 ⟨r, by omega⟩ d) else if e : r.val - 128 < 128 then b (ix2 ⟨r.val - 128, by omega⟩ d)
      else c (ix2 ⟨r.val - 128 - 128, by omega⟩ d) := by
  unfold stack
  pointwise

theorem stack_real {t : FTy} {a b c : FVec Ideal S128x64 t} {f : ℕ → ℕ → ℝ} {n o : ℕ}
    (ha : ∀ (i : Fin 128) (d : Fin 64), a (ix2 i d) = (f (n * 128 + i) (o + 0 * 64 + d) : EReal))
    (hb : ∀ (i : Fin 128) (d : Fin 64), b (ix2 i d) = (f (n * 128 + i) (o + 1 * 64 + d) : EReal))
    (hc : ∀ (i : Fin 128) (d : Fin 64), c (ix2 i d) = (f (n * 128 + i) (o + 2 * 64 + d) : EReal)) :
    stack a b c (ix2 r d) = (f (n * 128 + r.val % 128) (o + r.val / 128 * 64 + d) : EReal) := by
  refine (stack_of r d a b c).trans ?_
  have hr := r.isLt
  split
  · rename_i e
    rw [show r.val % 128 = r.val by omega, show r.val / 128 = 0 by omega]
    exact ha _ d
  · rename_i e
    split
    · rename_i e'
      rw [show r.val % 128 = r.val - 128 by omega, show r.val / 128 = 1 by omega]
      exact hb _ d
    · rename_i e'
      rw [show r.val % 128 = r.val - 128 - 128 by omega, show r.val / 128 = 2 by omega]
      exact hc _ d

theorem pick_of (a b c : Ideal .f32) : pick (F := Ideal) a b c (ix2 r 0)
    = Scalar.select (IntOp.cmpi .eq (grp (ix2 r 0)) 0#32) a (Scalar.select (IntOp.cmpi .eq (grp (ix2 r 0)) 1#32) b c) := by
  unfold pick
  generalize grp = z
  pointwise

theorem pick_real {a b c : Ideal .f32} {f : ℕ → ℝ} {o : ℕ} (ha : a = (f (o + 0) : EReal)) (hb : b = (f (o + 1) : EReal)) (hc : c = (f (o + 2) : EReal)) :
    pick (F := Ideal) a b c (ix2 r 0) = (f (o + r.val / 128) : EReal) := by
  refine (pick_of r a b c).trans ?_
  rw [grp_at]
  have hr := r.isLt
  have e : r.val / 128 = 0 ∨ r.val / 128 = 1 ∨ r.val / 128 = 2 := by omega
  rcases e with e | e | e <;> rw [e]
  · exact ha
  · exact hb
  · exact hc

theorem slice_of {t : FTy} (X : FVec Ideal S128x768 t) {o : ℕ} (ho : o + 64 ≤ 768) (hs : S128x768.Slices ![0, o] S128x64) (i : Fin 128) :
    extractStridedSlice S128x64 ![0, o] X hs (ix2 i d) = X (ix2 i ⟨o + d.val, by omega⟩) := by
  pointwise

theorem head_of (X : FVec Ideal S256x256 .bf16) : Tiles.head X h (ix2 j d) = X (ix2 j ⟨h.val * 64 + d.val, by omega⟩) := by
  match h with
  | 0 => unfold Tiles.head; pointwise
  | 1 => unfold Tiles.head; pointwise
  | 2 => unfold Tiles.head; pointwise
  | 3 => unfold Tiles.head; pointwise

/-- The token of key `j` of the two blocks a block is given: of the block before the first, the first's again. -/
def tok (n : ℕ) (j : Fin 256) : ℕ := if j.val < 128 then (n - 1) * 128 + j.val else n * 128 + (j.val - 128)

/-- A row as the kernel is given it. -/
def kerRow (D : Data) (n h g a : ℕ) : Row where
  seen := (D.row n h g a).seen
  score j := (∑ d : Fin 64, D.q (n * 128 + a) (h * 192 + g * 64 + d) * D.k (tok n j) (h * 64 + d)) * D.scale
    - D.slope (h * 3 + g) * (((a : ℤ) + 128 - j.val : ℤ) : ℝ)
  sink := D.sink (h * 3 + g)
  dp j := ∑ d : Fin 64, D.g (n * 128 + a) (h * 192 + g * 64 + d) * D.v (tok n j) (h * 64 + d)

theorem tok_seen {D : Data} {n h g a : ℕ} {j : Fin 256} (e : (D.row n h g a).seen j) : tok n j = n * 128 + j.val - 128 := by
  have e' : a < j.val ∧ j.val ≤ a + 128 ∧ 128 ≤ n * 128 + j.val := e
  unfold tok
  split <;> omega

theorem agree (D : Data) (n h g a : ℕ) : (kerRow D n h g a).Agree (D.row n h g a) where
  seen _ := Iff.rfl
  score j e := by
    dsimp only [kerRow, Data.row]
    rw [tok_seen e]
    push_cast
    ring
  sink := rfl
  dp j e := by dsimp only [kerRow, Data.row]; rw [tok_seen e]

/-- The tiles are the arguments of block `n`. -/
structure Tiles.Holds (x : Tiles Ideal) (D : Data) (n : ℕ) : Prop where
  q : ∀ (i : Fin 128) (c : Fin 768), x.q (ix2 i c) = (D.q (n * 128 + i) c : EReal)
  g : ∀ (i : Fin 128) (c : Fin 768), x.g (ix2 i c) = (D.g (n * 128 + i) c : EReal)
  kPrev : ∀ (i : Fin 128) (c : Fin 256), x.kPrev (ix2 i c) = (D.k ((n - 1) * 128 + i) c : EReal)
  kCur : ∀ (i : Fin 128) (c : Fin 256), x.kCur (ix2 i c) = (D.k (n * 128 + i) c : EReal)
  vPrev : ∀ (i : Fin 128) (c : Fin 256), x.vPrev (ix2 i c) = (D.v ((n - 1) * 128 + i) c : EReal)
  vCur : ∀ (i : Fin 128) (c : Fin 256), x.vCur (ix2 i c) = (D.v (n * 128 + i) c : EReal)
  sink : ∀ i : Fin 12, x.sinkAt i = (D.sink i : EReal)

/-- The twelve slopes. -/
structure Slopes (D : Data) : Prop where
  s0 : Ideal.ofBits .f32 0x3F214518#32 = (D.slope 0 : EReal)
  s1 : Ideal.ofBits .f32 0x3ECB2FF5#32 = (D.slope 1 : EReal)
  s2 : Ideal.ofBits .f32 0x3E800000#32 = (D.slope 2 : EReal)
  s3 : Ideal.ofBits .f32 0x3E214518#32 = (D.slope 3 : EReal)
  s4 : Ideal.ofBits .f32 0x3DCB2FF5#32 = (D.slope 4 : EReal)
  s5 : Ideal.ofBits .f32 0x3D800000#32 = (D.slope 5 : EReal)
  s6 : Ideal.ofBits .f32 0x3D214518#32 = (D.slope 6 : EReal)
  s7 : Ideal.ofBits .f32 0x3CCB2FF5#32 = (D.slope 7 : EReal)
  s8 : Ideal.ofBits .f32 0x3C800000#32 = (D.slope 8 : EReal)
  s9 : Ideal.ofBits .f32 0x3C214518#32 = (D.slope 9 : EReal)
  s10 : Ideal.ofBits .f32 0x3BCB2FF5#32 = (D.slope 10 : EReal)
  s11 : Ideal.ofBits .f32 0x3B800000#32 = (D.slope 11 : EReal)
  scale : Ideal.ofBits .f32 0x3E000000#32 = (D.scale : EReal)

theorem Slopes.at {D : Data} (S : Slopes D) : (Tiles.slope (F := Ideal) h) (ix2 r 0) = (D.slope (h * 3 + r.val / 128) : EReal) := by
  match h with
  | 0 => exact pick_real (f := D.slope) (o := 0) r S.s0 S.s1 S.s2
  | 1 => exact pick_real (f := D.slope) (o := 3) r S.s3 S.s4 S.s5
  | 2 => exact pick_real (f := D.slope) (o := 6) r S.s6 S.s7 S.s8
  | 3 => exact pick_real (f := D.slope) (o := 9) r S.s9 S.s10 S.s11

theorem keys_of {t : FTy} (a b : FVec Ideal S128x256 t) (c : Fin 256) :
    concatenate S256x256 0 [⟨S128x256, a⟩, ⟨S128x256, b⟩] concatenates_S128x256_S128x256_S256x256_d0 (ix2 j c)
      = if e : j.val < 128 then a (ix2 ⟨j, by omega⟩ c) else b (ix2 ⟨j.val - 128, by omega⟩ c) := by
  pointwise

theorem keys_real {t : FTy} {a b : FVec Ideal S128x256 t} {f : ℕ → ℕ → ℝ} {n : ℕ}
    (ha : ∀ (i : Fin 128) (c : Fin 256), a (ix2 i c) = (f ((n - 1) * 128 + i) c : EReal))
    (hb : ∀ (i : Fin 128) (c : Fin 256), b (ix2 i c) = (f (n * 128 + i) c : EReal)) (c : Fin 256) :
    concatenate S256x256 0 [⟨S128x256, a⟩, ⟨S128x256, b⟩] concatenates_S128x256_S128x256_S256x256_d0 (ix2 j c) = (f (tok n j) c : EReal) := by
  refine (keys_of j a b c).trans ?_
  unfold tok
  split
  · exact ha _ c
  · exact hb _ c

/-- Three heads cut out of an array of twelve and stacked. -/
theorem cut_real {t : FTy} {X : FVec Ideal S128x768 t} {f : ℕ → ℕ → ℝ} {n : ℕ}
    (hX : ∀ (i : Fin 128) (c : Fin 768), X (ix2 i c) = (f (n * 128 + i) c : EReal)) {o o₁ o₂ : ℕ} (e₁ : o₁ = o + 64) (e₂ : o₂ = o + 128)
    (ho : o + 192 ≤ 768) (h₀ : S128x768.Slices ![0, o] S128x64) (h₁ : S128x768.Slices ![0, o₁] S128x64) (h₂ : S128x768.Slices ![0, o₂] S128x64) :
    stack (extractStridedSlice S128x64 ![0, o] X h₀) (extractStridedSlice S128x64 ![0, o₁] X h₁) (extractStridedSlice S128x64 ![0, o₂] X h₂) (ix2 r d)
      = (f (n * 128 + r.val % 128) (o + r.val / 128 * 64 + d) : EReal) := by
  subst e₁ e₂
  refine stack_real (f := f) (n := n) (o := o) r d (fun i d => ?_) (fun i d => ?_) (fun i d => ?_)
  · exact (slice_of d X (by omega) _ i).trans (hX _ _)
  · exact (slice_of d X (by omega) _ i).trans (hX _ _)
  · exact (slice_of d X (by omega) _ i).trans (hX _ _)

theorem select_real {c : BitVec 1} {p : Prop} {inst : Decidable p} {a b a' b' : EReal} (hc : c = 1#1 ↔ p) (ha : a = a') (hb : b = b') :
    Scalar.select c a b = @ite _ p inst a' b' := by
  rw [Scalar.select_def, ha, hb]
  by_cases e : p
  · exact (if_pos (hc.mpr e)).trans (if_pos e).symm
  · exact (if_neg (mt hc.mp e)).trans (if_neg e).symm

theorem score_real {qe ke : Fin 64 → EReal} {ce se we : EReal} {q k : Fin 64 → ℝ} {c s w : ℝ} (hq : ∀ d, qe d = (q d : EReal))
    (hk : ∀ d, ke d = (k d : EReal)) (hc : ce = (c : EReal)) (hs : se = (s : EReal)) (hw : we = (w : EReal)) :
    (∑ d : Fin 64, qe d * ke d) * ce - se * we = (((∑ d : Fin 64, q d * k d) * c - s * w : ℝ) : EReal) := by
  rw [EReal.coe_sub, EReal.coe_mul, EReal.coe_mul, coe_sum, hc, hs, hw]
  refine congrArg (fun x : EReal => x * (c : EReal) - (s : EReal) * (w : EReal)) (Finset.sum_congr rfl fun d _ => ?_)
  rw [EReal.coe_mul, hq, hk]

/-- A row whose tiles' entries are the arguments is a row of the attention. -/
theorem rows_of {D : Data} (S : Slopes D) {n : ℕ} (mask : IVec S384x256 1) (slope sink : FVec Ideal S384x1 .f32) (qq dd : FVec Ideal S384x64 .bf16)
    (kh vh : FVec Ideal S256x64 .bf16)
    (hm : ∀ j : Fin 256, mask (ix2 r j) = 1#1 ↔ (D.row n h (r.val / 128) (r.val % 128)).seen j)
    (hslope : slope (ix2 r 0) = (D.slope (h * 3 + r.val / 128) : EReal)) (hsink : sink (ix2 r 0) = (D.sink (h * 3 + r.val / 128) : EReal))
    (hq : ∀ d : Fin 64, qq (ix2 r d) = (D.q (n * 128 + r.val % 128) (h * 192 + r.val / 128 * 64 + d) : EReal))
    (hd : ∀ d : Fin 64, dd (ix2 r d) = (D.g (n * 128 + r.val % 128) (h * 192 + r.val / 128 * 64 + d) : EReal))
    (hk : ∀ (j : Fin 256) (d : Fin 64), kh (ix2 j d) = (D.k (tok n j) (h * 64 + d) : EReal))
    (hv : ∀ (j : Fin 256) (d : Fin 64), vh (ix2 j d) = (D.v (tok n j) (h * 64 + d) : EReal)) :
    RowHolds mask slope sink qq dd kh vh r (kerRow D n h (r.val / 128) (r.val % 128)) where
  sink := hsink
  dp j := by
    refine (dprob_of _ _ r j).trans ?_
    unfold kerRow
    dsimp only
    rw [coe_sum]
    refine Finset.sum_congr rfl fun d _ => ?_
    rw [EReal.coe_mul]
    exact congrArg₂ (fun x y : EReal => x * y) (hd d) (hv j d)
  score j := by
    refine (scores_of _ _ _ _ r j).trans ?_
    unfold Row.masked
    exact select_real (hm j) (score_real hq (fun d => hk j d) S.scale hslope (fdist_at r j))
      (IdealRules.named_const.ideal_named_scalar _ _ _ _ rfl)

namespace Tiles.Holds
variable {x : Tiles Ideal} {D : Data} {n : ℕ} (H : x.Holds D n)
include H

theorem keys (c : Fin 256) : x.keys (ix2 j c) = (D.k (tok n j) c : EReal) := keys_real j H.kPrev H.kCur c

theorem vals (c : Fin 256) : x.vals (ix2 j c) = (D.v (tok n j) c : EReal) := keys_real j H.vPrev H.vCur c

theorem grad (i : Fin 128) (c : Fin 768) : x.grad (ix2 i c) = (D.g (n * 128 + i) c : EReal) := H.g i c

theorem qq : x.qq h (ix2 r d) = (D.q (n * 128 + r.val % 128) (h * 192 + r.val / 128 * 64 + d) : EReal) := by
  fin_cases h
  · exact cut_real (o := 0) r d H.q rfl rfl (by decide) _ _ _
  · exact cut_real (o := 192) r d H.q rfl rfl (by decide) _ _ _
  · exact cut_real (o := 384) r d H.q rfl rfl (by decide) _ _ _
  · exact cut_real (o := 576) r d H.q rfl rfl (by decide) _ _ _

theorem dd : x.dd h (ix2 r d) = (D.g (n * 128 + r.val % 128) (h * 192 + r.val / 128 * 64 + d) : EReal) := by
  fin_cases h
  · exact cut_real (o := 0) r d H.grad rfl rfl (by decide) _ _ _
  · exact cut_real (o := 192) r d H.grad rfl rfl (by decide) _ _ _
  · exact cut_real (o := 384) r d H.grad rfl rfl (by decide) _ _ _
  · exact cut_real (o := 576) r d H.grad rfl rfl (by decide) _ _ _

theorem sinks : x.sink h (ix2 r 0) = (D.sink (h * 3 + r.val / 128) : EReal) := by
  match h with
  | 0 => exact pick_real (f := D.sink) (o := 0) r (H.sink 0) (H.sink 1) (H.sink 2)
  | 1 => exact pick_real (f := D.sink) (o := 3) r (H.sink 3) (H.sink 4) (H.sink 5)
  | 2 => exact pick_real (f := D.sink) (o := 6) r (H.sink 6) (H.sink 7) (H.sink 8)
  | 3 => exact pick_real (f := D.sink) (o := 9) r (H.sink 9) (H.sink 10) (H.sink 11)

/-- Each of the block's rows is a row of the attention. -/
theorem rows (S : Slopes D) (hn : n < 32) : RowHolds (k0_pay10 (BitVec.ofNat 32 n)) (Tiles.slope h) (x.sink h) (x.qq h) (x.dd h)
    (Tiles.head x.keys h) (Tiles.head x.vals h) r (kerRow D n h (r.val / 128) (r.val % 128)) :=
  rows_of r h S _ _ _ _ _ _ _ (fun j => mask_at r j h D hn _) (S.at r h) (H.sinks r h) (fun d => H.qq r d h) (fun d => H.dd r d h)
    (fun j d => (head_of j d h _).trans (H.keys j _)) (fun j d => (head_of j d h _).trans (H.vals j _))

end Tiles.Holds

end Cert.KernelIdeal.Swa

end
-- ==== Proof.KerOut.lean ====
/- What a block of the kernel computes, when its tiles are the attention's arguments. -/
module

public import proofs.«01_k».proof.Proof.KerTiles

@[expose] public section

set_option maxRecDepth 16384

noncomputable section

namespace Cert.KernelIdeal.Swa

open Idealize.ShloMosaic Idealize.SL.Sem Cert.KernelIdeal.Gen Cert.Attention

/-- A sum over 384 stacked rows is a sum over three heads of 128. -/
theorem sum_stack {M : Type} [AddCommMonoid M] (f : Fin 3 → Fin 128 → M) :
    (∑ r : Fin 384, f ⟨r.val / 128, by omega⟩ ⟨r.val % 128, by omega⟩) = ∑ g : Fin 3, ∑ a : Fin 128, f g a := by
  rw [← Fintype.sum_prod_type']
  refine (Fintype.sum_equiv (finProdFinEquiv (m := 3) (n := 128)) _ _ fun x => ?_).symm
  have e : (finProdFinEquiv (m := 3) (n := 128) x).val = x.2.val + 128 * x.1.val := rfl
  have h1 := x.1.isLt
  have h2 := x.2.isLt
  refine congrArg₂ f (Fin.ext ?_) (Fin.ext ?_)
  · show x.1.val = (finProdFinEquiv (m := 3) (n := 128) x).val / 128
    omega
  · show x.2.val = (finProdFinEquiv (m := 3) (n := 128) x).val % 128
    omega

variable (r : Fin 384) (j : Fin 256) (d : Fin 64) (h : Fin 4)

/-- One block's rows, as real numbers. -/
structure GroupHolds (D : Data) (n : ℕ) (kh : FVec Ideal S256x64 .bf16) (qq dd : FVec Ideal S384x64 .bf16)
    (p : FVec Ideal S384x256 .f32) (ds : FVec Ideal S384x256 .bf16) : Prop where
  k : ∀ (j : Fin 256) (d : Fin 64), kh (ix2 j d) = (D.k (tok n j) (h * 64 + d) : EReal)
  q : ∀ (r : Fin 384) (d : Fin 64), qq (ix2 r d) = (D.q (n * 128 + r.val % 128) (h * 192 + r.val / 128 * 64 + d) : EReal)
  g : ∀ (r : Fin 384) (d : Fin 64), dd (ix2 r d) = (D.g (n * 128 + r.val % 128) (h * 192 + r.val / 128 * 64 + d) : EReal)
  p : ∀ (r : Fin 384) (j : Fin 256), p (ix2 r j) = ((D.row n h (r.val / 128) (r.val % 128)).p j : EReal)
  ds : ∀ (r : Fin 384) (j : Fin 256), ds (ix2 r j) = ((D.row n h (r.val / 128) (r.val % 128)).ds j : EReal)
  scale : Ideal.ofBits .f32 0x3E000000#32 = (D.scale : EReal)

namespace GroupHolds
variable {h} {D : Data} {n : ℕ} {kh : FVec Ideal S256x64 .bf16} {qq dd : FVec Ideal S384x64 .bf16}
  {p : FVec Ideal S384x256 .f32} {ds : FVec Ideal S384x256 .bf16} (G : GroupHolds h D n kh qq dd p ds)
include G

theorem dq : dqRows ds kh (ix2 r d) = (D.dq n h (r.val / 128) (r.val % 128) d : EReal) := by
  refine (dqRows_of kh r d ds).trans ?_
  unfold Data.dq
  rw [EReal.coe_mul, coe_sum]
  refine congrArg₂ (fun x y : EReal => x * y) (Finset.sum_congr rfl fun j _ => ?_) G.scale
  rw [EReal.coe_mul]
  refine (congrArg₂ (fun x y : EReal => x * y) (G.ds r j) (G.k j d)).trans ?_
  by_cases e : (D.row n h (r.val / 128) (r.val % 128)).seen j
  · rw [tok_seen e]
  · rw [Row.ds_unseen _ e, EReal.coe_zero, zero_mul, zero_mul]

theorem dk : dkCols qq ds (ix2 d j) = (D.dkOf n j h d : EReal) := by
  refine (dkCols_of qq j d ds).trans ?_
  unfold Data.dkOf
  rw [← sum_stack (fun g a => (D.row n h g a).ds j * D.q (n * 128 + a) (h * 192 + g.val * 64 + d)), EReal.coe_mul, coe_sum]
  refine congrArg₂ (fun x y : EReal => x * y) (Finset.sum_congr rfl fun r _ => ?_) G.scale
  rw [EReal.coe_mul, mul_comm]
  exact congrArg₂ (fun x y : EReal => x * y) (G.ds r j) (G.q r d)

theorem dv : dvCols dd p (ix2 d j) = (D.dvOf n j h d : EReal) := by
  refine (dvCols_of dd j d p).trans ?_
  unfold Data.dvOf
  rw [← sum_stack (fun g a => (D.row n h g a).p j * D.g (n * 128 + a) (h * 192 + g.val * 64 + d)), coe_sum]
  refine Finset.sum_congr rfl fun r _ => ?_
  rw [EReal.coe_mul, mul_comm]
  exact congrArg₂ (fun x y : EReal => x * y) (G.p r j) (G.g r d)

end GroupHolds

namespace Tiles.Holds
variable {x : Tiles Ideal} {D : Data} {n : ℕ} (H : x.Holds D n) (S : Slopes D) (hn : n < 32)
include H S hn

theorem p_at : x.p (k0_pay10 (BitVec.ofNat 32 n)) h (ix2 r j) = ((D.row n h (r.val / 128) (r.val % 128)).p j : EReal) :=
  ((H.rows r h S hn).prob j).trans (congrArg _ ((agree D n h _ _).p j))

theorem ds_at : x.ds (k0_pay10 (BitVec.ofNat 32 n)) h (ix2 r j) = ((D.row n h (r.val / 128) (r.val % 128)).ds j : EReal) :=
  ((H.rows r h S hn).ds j).trans (congrArg _ ((agree D n h _ _).ds j))

theorem dsh_at : x.dsh (k0_pay10 (BitVec.ofNat 32 n)) h (ix2 r 0) = ((D.row n h (r.val / 128) (r.val % 128)).dsink : EReal) :=
  (H.rows r h S hn).dsink.trans (congrArg _ (agree D n h _ _).dsink)

theorem group : GroupHolds h D n (Tiles.head x.keys h) (x.qq h) (x.dd h) (x.p (k0_pay10 (BitVec.ofNat 32 n)) h)
    (x.ds (k0_pay10 (BitVec.ofNat 32 n)) h) where
  k j d := (head_of j d h _).trans (H.keys j _)
  q r d := H.qq r d h
  g r d := H.dd r d h
  p r j := H.p_at r j h S hn
  ds r j := H.ds_at r j h S hn
  scale := S.scale

theorem dqh_at : x.dqh (k0_pay10 (BitVec.ofNat 32 n)) h (ix2 r d) = (D.dq n h (r.val / 128) (r.val % 128) d : EReal) := (H.group h S hn).dq r d
theorem dkh_at : x.dkh (k0_pay10 (BitVec.ofNat 32 n)) h (ix2 d j) = (D.dkOf n j h d : EReal) := (H.group h S hn).dk j d
theorem dvh_at : x.dvh (k0_pay10 (BitVec.ofNat 32 n)) h (ix2 d j) = (D.dvOf n j h d : EReal) := (H.group h S hn).dv j d

end Tiles.Holds

/-! ### The block's results, over the groups' -/

theorem piece_of (X : FVec Ideal S384x64 .f32) {o : ℕ} (ho : o + 128 ≤ 384) (hs : S384x64.Slices ![o, 0] S128x64) (i : Fin 128) :
    extractStridedSlice S128x64 ![o, 0] X hs (ix2 i d) = X (ix2 ⟨o + i.val, by omega⟩ d) := by
  pointwise

theorem dite_of {α : Type} {p : Prop} [Decidable p] {a : p → α} {b : ¬p → α} {y : α} (ha : ∀ h, a h = y) (hb : ∀ h, b h = y) :
    dite p a b = y := by
  split
  · exact ha _
  · exact hb _

theorem entry_twelve (X : Fin 12 → FVec Ideal S128x64 .f32) (i : Fin 128) (c : Fin 768) (k : Fin 12) (a : Fin 64)
    (e : c.val = k.val * 64 + a.val) : X k (ix2 i a) = X ⟨c.val / 64, by omega⟩ (ix2 i ⟨c.val % 64, by omega⟩) := by
  have h1 : k = ⟨c.val / 64, by omega⟩ := Fin.ext (by show k.val = c.val / 64; omega)
  have h2 : a = ⟨c.val % 64, by omega⟩ := Fin.ext (by show a.val = c.val % 64; omega)
  exact congrArg₂ (fun (k : Fin 12) (a : Fin 64) => X k (ix2 i a)) h1 h2

theorem entry_four (X : Fin 4 → FVec Ideal S64x256 .f32) (j c : Fin 256) (k : Fin 4) (a : Fin 64)
    (e : c.val = k.val * 64 + a.val) : X k (ix2 a j) = X ⟨c.val / 64, by omega⟩ (ix2 ⟨c.val % 64, by omega⟩ j) := by
  have h1 : k = ⟨c.val / 64, by omega⟩ := Fin.ext (by show k.val = c.val / 64; omega)
  have h2 : a = ⟨c.val % 64, by omega⟩ := Fin.ext (by show a.val = c.val % 64; omega)
  exact congrArg₂ (fun (k : Fin 4) (a : Fin 64) => X k (ix2 a j)) h1 h2

theorem rows_twelve (X : Fin 12 → FVec Ideal S128x64 .f32) (i : Fin 128) (c : Fin 768) :
    concatenate S128x768 1 [⟨S128x64, X 0⟩, ⟨S128x64, X 1⟩, ⟨S128x64, X 2⟩, ⟨S128x64, X 3⟩, ⟨S128x64, X 4⟩, ⟨S128x64, X 5⟩,
      ⟨S128x64, X 6⟩, ⟨S128x64, X 7⟩, ⟨S128x64, X 8⟩, ⟨S128x64, X 9⟩, ⟨S128x64, X 10⟩, ⟨S128x64, X 11⟩]
      concatenates_S128x64_S128x64_S128x64_S128x64_S128x64_S128x64_S128x64_S128x64_S128x64_S128x64_S128x64_S128x64_S128x768_d1 (ix2 i c)
      = X ⟨c.val / 64, by omega⟩ (ix2 i ⟨c.val % 64, by omega⟩) := by
  have hc := c.isLt
  pointwise
  repeat' refine dite_of (fun _ => ?_) (fun _ => ?_)
  all_goals refine entry_twelve X i c _ _ ?_
  all_goals simp only [Fin.coe_ofNat_eq_mod]
  all_goals omega

theorem cols_four (X : Fin 4 → FVec Ideal S64x256 .f32) (c : Fin 256) :
    transpose S256x256 [1, 0] (concatenate S256x256 0 [⟨S64x256, X 0⟩, ⟨S64x256, X 1⟩, ⟨S64x256, X 2⟩, ⟨S64x256, X 3⟩]
      concatenates_S64x256_S64x256_S64x256_S64x256_S256x256_d0) transposes_S256x256_p1_0_S256x256 (ix2 j c)
      = X ⟨c.val / 64, by omega⟩ (ix2 ⟨c.val % 64, by omega⟩ j) := by
  have hc := c.isLt
  pointwise
  repeat' split
  all_goals exact entry_four X j c _ _ (by simp only [Fin.coe_ofNat_eq_mod]; omega)

theorem total_of (X : FVec Ideal S384x1 .f32) {o : ℕ} (ho : o + 128 ≤ 384) (hs : S384x1.Slices ![o, 0] S128x1) :
    total (extractStridedSlice S128x1 ![o, 0] X hs) = ∑ i : Fin 128, (show EReal from X (ix2 ⟨o + i.val, by omega⟩ 0)) := by
  have e : ∀ i : Fin 128, extractStridedSlice S128x1 ![o, 0] X hs (ix2 i 0) = X (ix2 ⟨o + i.val, by omega⟩ 0) := fun i => by pointwise
  generalize extractStridedSlice S128x1 ![o, 0] X hs = Y at e
  unfold total
  pointwise
  exact Finset.sum_congr rfl fun i _ => (Finset.sum_eq_single_of_mem (0 : Fin 1) (Finset.mem_univ _)
    fun b _ hb => absurd (Subsingleton.elim b 0) hb).trans (e i)

theorem lane_of (acc : FVec Ideal S1x128 .f32) (w : BitVec 32) (z : Ideal .f32) (l : Fin 128) : addLane acc w z (ix2 0 l)
    = (show EReal from acc (ix2 0 l)) + (show EReal from Scalar.select (IntOp.cmpi .eq (BitVec.ofNat 32 l.val) w) z (0 : EReal)) := by
  rw [← Ideal.ofBits_zero_f32]
  unfold addLane
  pointwise

/-! ### The sinks' lanes -/

theorem lane_word (l : Fin 128) (k : Fin 12) : IntOp.cmpi .eq (BitVec.ofNat 32 l.val) (BitVec.ofNat 32 k.val) = 1#1 ↔ l.val = k.val := by
  revert l k
  decide +kernel

/-- A sum added to one lane. -/
theorem lane_at {acc : FVec Ideal S1x128 .f32} {w : BitVec 32} {z : Ideal .f32} (l : Fin 128) (k : Fin 12) {y : ℝ} {f : ℕ → ℝ}
    (hacc : acc (ix2 0 l) = (y : EReal)) (hw : w = BitVec.ofNat 32 k.val) (hz : z = (f k.val : EReal)) :
    addLane acc w z (ix2 0 l) = ((y + if l.val = k.val then f k.val else 0 : ℝ) : EReal) := by
  subst hw
  refine (lane_of acc _ z l).trans ?_
  rw [EReal.coe_add]
  refine congrArg₂ (fun x y : EReal => x + y) hacc ?_
  refine (select_real (inst := inferInstance) (lane_word l k) hz EReal.coe_zero.symm).trans ?_
  split <;> rfl

/-- The three sums of a group added to their lanes. -/
theorem lanes_at {acc : FVec Ideal S1x128 .f32} {w₀ w₁ w₂ : BitVec 32} {X : FVec Ideal S384x1 .f32} (l : Fin 128) (k₀ k₁ k₂ : Fin 12) {y : ℝ}
    {f : ℕ → ℝ} {u : ℕ → ℕ → ℝ} (hacc : acc (ix2 0 l) = (y : EReal))
    (h₀ : w₀ = BitVec.ofNat 32 k₀.val) (h₁ : w₁ = BitVec.ofNat 32 k₁.val) (h₂ : w₂ = BitVec.ofNat 32 k₂.val)
    (hX : ∀ r : Fin 384, X (ix2 r 0) = (u (r.val / 128) (r.val % 128) : EReal))
    (f₀ : f k₀.val = ∑ a : Fin 128, u 0 a) (f₁ : f k₁.val = ∑ a : Fin 128, u 1 a) (f₂ : f k₂.val = ∑ a : Fin 128, u 2 a) :
    addLanes acc w₀ w₁ w₂ X (ix2 0 l) = ((y + (if l.val = k₀.val then f k₀.val else 0) + (if l.val = k₁.val then f k₁.val else 0)
      + (if l.val = k₂.val then f k₂.val else 0) : ℝ) : EReal) := by
  have hs : ∀ (g : ℕ) (a : Fin 128) (hb : g * 128 + a.val < 384), X (ix2 ⟨g * 128 + a.val, hb⟩ 0) = (u g a : EReal) := fun g a hb => by
    have ha := a.isLt
    refine (hX _).trans ?_
    rw [show (g * 128 + a.val) / 128 = g by omega, show (g * 128 + a.val) % 128 = a.val by omega]
  unfold addLanes
  refine lane_at l k₂ (lane_at l k₁ (lane_at l k₀ hacc h₀ ?_) h₁ ?_) h₂ ?_
  · rw [f₀, coe_sum]
    exact (total_of X (by decide) _).trans (Finset.sum_congr rfl fun a _ => hs 0 a _)
  · rw [f₁, coe_sum]
    exact (total_of X (by decide) _).trans (Finset.sum_congr rfl fun a _ => hs 1 a _)
  · rw [f₂, coe_sum]
    exact (total_of X (by decide) _).trans (Finset.sum_congr rfl fun a _ => hs 2 a _)

/-- Of twelve sums, each added to its own lane, a lane holds its own. -/
theorem twelve_lanes (l : ℕ) (f : ℕ → ℝ) :
    (0 : ℝ) + (if l = 0 then f 0 else 0) + (if l = 1 then f 1 else 0) + (if l = 2 then f 2 else 0) + (if l = 3 then f 3 else 0)
      + (if l = 4 then f 4 else 0) + (if l = 5 then f 5 else 0) + (if l = 6 then f 6 else 0) + (if l = 7 then f 7 else 0)
      + (if l = 8 then f 8 else 0) + (if l = 9 then f 9 else 0) + (if l = 10 then f 10 else 0) + (if l = 11 then f 11 else 0)
      = if l < 12 then f l else 0 := by
  by_cases e : l < 12
  · interval_cases l <;> simp
  · rw [if_neg (by omega : ¬l < 12)]
    rw [if_neg (by omega), if_neg (by omega), if_neg (by omega), if_neg (by omega), if_neg (by omega), if_neg (by omega),
      if_neg (by omega), if_neg (by omega), if_neg (by omega), if_neg (by omega), if_neg (by omega), if_neg (by omega)]
    simp

namespace Tiles.Holds
variable {x : Tiles Ideal} {D : Data} {n : ℕ} (H : x.Holds D n) (S : Slopes D) (hn : n < 32)
include H S hn

/-- The block's gradient of the queries. -/
theorem dq_at (i : Fin 128) (c : Fin 768) : x.dq (k0_pay10 (BitVec.ofNat 32 n)) (ix2 i c)
    = (D.dq n (c.val / 192) (c.val / 64 % 3) i (c.val % 64) : EReal) := by
  have hs : ∀ (h : Fin 4) (g : ℕ) (d : Fin 64) (ho : g * 128 + 128 ≤ 384) (hs : S384x64.Slices ![g * 128, 0] S128x64),
      extractStridedSlice S128x64 ![g * 128, 0] (x.dqh (k0_pay10 (BitVec.ofNat 32 n)) h) hs (ix2 i d) = (D.dq n h g i d : EReal) :=
    fun h g d ho hs => by
      have hi := i.isLt
      refine (piece_of d _ ho hs i).trans ((H.dqh_at _ d h S hn).trans ?_)
      rw [show (g * 128 + i.val) / 128 = g by omega, show (g * 128 + i.val) % 128 = i.val by omega]
  refine (rows_twelve ![_, _, _, _, _, _, _, _, _, _, _, _] i c).trans ?_
  obtain ⟨k, hk⟩ : ∃ k : Fin 12, k = ⟨c.val / 64, by omega⟩ := ⟨_, rfl⟩
  have hv : k.val = c.val / 64 := congrArg Fin.val hk
  rw [← hk, show c.val / 192 = k.val / 3 by omega, ← hv]
  clear hk hv
  fin_cases k
  · exact hs 0 0 _ (by decide) slices_S384x64_o0_0_S128x64
  · exact hs 0 1 _ (by decide) slices_S384x64_o128_0_S128x64
  · exact hs 0 2 _ (by decide) slices_S384x64_o256_0_S128x64
  · exact hs 1 0 _ (by decide) slices_S384x64_o0_0_S128x64
  · exact hs 1 1 _ (by decide) slices_S384x64_o128_0_S128x64
  · exact hs 1 2 _ (by decide) slices_S384x64_o256_0_S128x64
  · exact hs 2 0 _ (by decide) slices_S384x64_o0_0_S128x64
  · exact hs 2 1 _ (by decide) slices_S384x64_o128_0_S128x64
  · exact hs 2 2 _ (by decide) slices_S384x64_o256_0_S128x64
  · exact hs 3 0 _ (by decide) slices_S384x64_o0_0_S128x64
  · exact hs 3 1 _ (by decide) slices_S384x64_o128_0_S128x64
  · exact hs 3 2 _ (by decide) slices_S384x64_o256_0_S128x64

/-- The block's gradient of the keys it sees. -/
theorem dk_at (c : Fin 256) : x.dk (k0_pay10 (BitVec.ofNat 32 n)) (ix2 j c) = (D.dkOf n j (c.val / 64) (c.val % 64) : EReal) := by
  refine (cols_four j (x.dkh (k0_pay10 (BitVec.ofNat 32 n))) c).trans ?_
  exact H.dkh_at j _ _ S hn

/-- The block's gradient of the values it sees. -/
theorem dv_at (c : Fin 256) : x.dv (k0_pay10 (BitVec.ofNat 32 n)) (ix2 j c) = (D.dvOf n j (c.val / 64) (c.val % 64) : EReal) := by
  refine (cols_four j (x.dvh (k0_pay10 (BitVec.ofNat 32 n))) c).trans ?_
  exact H.dvh_at j _ _ S hn

/-- The block's gradient of the sinks, by lane. -/
theorem dsinks_at (l : Fin 128) : x.dsinks (k0_pay10 (BitVec.ofNat 32 n)) (ix2 0 l)
    = ((if l.val < 12 then ∑ a : Fin 128, (D.row n (l.val / 3) (l.val % 3) a).dsink else 0 : ℝ) : EReal) := by
  have hX : ∀ (h : Fin 4) (r : Fin 384), x.dsh (k0_pay10 (BitVec.ofNat 32 n)) h (ix2 r 0)
      = ((D.row n h (r.val / 128) (r.val % 128)).dsink : EReal) := fun h r => H.dsh_at r h S hn
  rw [← twelve_lanes l.val fun k => ∑ a : Fin 128, (D.row n (k / 3) (k % 3) a).dsink]
  unfold Tiles.dsinks
  refine lanes_at l 9 10 11 (lanes_at l 6 7 8 (lanes_at l 3 4 5 (lanes_at l 0 1 2
    (y := 0) (u := fun g a => (D.row n 0 g a).dsink) (f := fun k => ∑ a : Fin 128, (D.row n (k / 3) (k % 3) a).dsink) ?_ rfl rfl rfl (hX 0) rfl rfl rfl)
    (u := fun g a => (D.row n 1 g a).dsink) (f := fun k => ∑ a : Fin 128, (D.row n (k / 3) (k % 3) a).dsink) rfl rfl rfl (hX 1) rfl rfl rfl)
    (u := fun g a => (D.row n 2 g a).dsink) (f := fun k => ∑ a : Fin 128, (D.row n (k / 3) (k % 3) a).dsink) rfl rfl rfl (hX 2) rfl rfl rfl)
    (u := fun g a => (D.row n 3 g a).dsink) (f := fun k => ∑ a : Fin 128, (D.row n (k / 3) (k % 3) a).dsink) rfl rfl rfl (hX 3) rfl rfl rfl
  exact (Ideal.ofBits_zero_f32).trans EReal.coe_zero.symm

end Tiles.Holds

end Cert.KernelIdeal.Swa

end
-- ==== Proof.Arrays.lean ====
/- What the kernel's run leaves in its results, when its arguments are finite: the attention's gradient. -/
module

public import proofs.«01_k».proof.Proof.KerOut
public import proofs.«01_k».proof.Proof.Outs
public import Idealize.ShloMosaic.Lib.Pipeline.ValueKit

@[expose] public section

set_option maxRecDepth 16384

noncomputable section

namespace Cert.KernelIdeal.Swa

open Idealize.ShloMosaic Idealize.ShloMosaic.TcCoe Idealize.ShloMosaic.Tactic Idealize.SL.Sem
open Idealize.ShloMosaic.Pipeline (Dat)
open Cert.KernelIdeal.Gen Cert.Attention

variable (m : (ℓ : Loc nD τ sig) → Buf (Elt Ideal) ℓ)

/-- The launch's arguments are the attention's. -/
structure Args (c : Dev nD) (D : Data) : Prop where
  q : ∀ (i : Fin 4096) (l : Fin 1024), l.val < 768 → m ((c : Thread nD τ).loc main_arg0) (ix2 i l) = (D.q i l : EReal)
  k : ∀ (i : Fin 4096) (l : Fin 256), m ((c : Thread nD τ).loc main_arg1) (ix2 i l) = (D.k i l : EReal)
  v : ∀ (i : Fin 4096) (l : Fin 256), m ((c : Thread nD τ).loc main_arg2) (ix2 i ⟨256 + l.val, by omega⟩) = (D.v i l : EReal)
  sink : ∀ i : Fin 12, m ((c : Thread nD τ).loc main_arg3) (ix1 i) = (D.sink i : EReal)
  g : ∀ (i : Fin 4096) (l : Fin 1024), l.val < 768 → m ((c : Thread nD τ).loc main_arg4) (ix2 i l) = (D.g i l : EReal)

/-- Each window's block at a point. -/
theorem idx : ∀ t : Fin cfg0.N, win0_0.index t = ![0] ∧ win0_1.index t = ![min t.val 31, 0] ∧ win0_2.index t = ![min t.val 31, 0]
    ∧ win0_3.index t = ![min t.val 31 - 1, 0] ∧ win0_4.index t = ![min t.val 31, 0] ∧ win0_5.index t = ![min t.val 31 - 1, 1]
    ∧ win0_6.index t = ![min t.val 31, 1] ∧ win0_7.index t = ![min t.val 31, 0] ∧ win0_8.index t = ![t.val - 1, 0]
    ∧ win0_9.index t = ![t.val - 1, 0] ∧ win0_10.index t = ![0, 0] :=
  (by decide +kernel : ∀ t : Fin grid0.N, _)

theorem coord : ∀ t : Fin cfg0.N, (grid0.coords t 0).val = t.val := (by decide +kernel : ∀ t : Fin grid0.N, _)

theorem mask_pt {n : ℕ} (hn : n < 32) : maskAt (pt n) = k0_pay10 (BitVec.ofNat 32 n) := by
  unfold maskAt
  rw [coord, show (pt n).val = n from Nat.min_eq_left (by omega)]

theorem wrote7 : ∀ t : Fin cfg0.N, win0_7.flush t = true → t.val ≠ 31 := (by decide +kernel : ∀ t : Fin grid0.N, _)
theorem wrote8 : ∀ t : Fin cfg0.N, win0_8.flush t = true → t.val ≠ 0 := (by decide +kernel : ∀ t : Fin grid0.N, _)
theorem wrote9 : ∀ t : Fin cfg0.N, win0_9.flush t = true → t.val ≠ 0 := (by decide +kernel : ∀ t : Fin grid0.N, _)
theorem wrote10 : ∀ t : Fin cfg0.N, win0_10.flush t = true → t.val = 32 := (by decide +kernel : ∀ t : Fin grid0.N, _)

theorem xsize7 : ∀ t : Fin cfg0.N, ∀ a, (cfg0.win 7).xsize (cfg0.grid.coords t) a = (cfg0.win 7).size a :=
  (by decide +kernel : ∀ t : Fin grid0.N, ∀ a, win0_7.xsize (grid0.coords t) a = win0_7.size a)

theorem both_congr (f : ℕ → Fin 256 → ℕ → ℕ → ℝ) {n n' : ℕ} {b b' : Fin 128} {h h' d d' : ℕ} (en : n = n') (eb : b.val = b'.val) (eh : h = h')
    (ed : d = d') : Data.both f n b h d = Data.both f n' b' h' d' := by
  rw [en, Fin.ext eb, eh, ed]

theorem lower_of (X : FVec Ideal S256x256 .f32) (b : Fin 128) (l : Fin 256) : lower X (ix2 b l) = X (ix2 ⟨b.val, by omega⟩ l) := by
  unfold lower; pointwise

theorem upper_of (X : FVec Ideal S256x256 .f32) (b : Fin 128) (l : Fin 256) : upper X (ix2 b l) = X (ix2 ⟨128 + b.val, by omega⟩ l) := by
  unfold upper; pointwise

/-- What a point after the first writes of a pair of neighbouring blocks' gradients. -/
theorem joined_at {G : ℕ → Vec Ideal S256x256 .f32} {f : ℕ → Fin 256 → ℕ → ℕ → ℝ}
    (hG : ∀ n, n < 32 → ∀ j l : Fin 256, G n (ix2 j l) = (f n j (l.val / 64) (l.val % 64) : EReal)) {n : ℕ} (hn : n < 32) (b : Fin 128) (l : Fin 256) :
    joined G (n + 1) (ix2 b l) = (Data.both f n b (l.val / 64) (l.val % 64) : EReal) := by
  unfold Data.both
  by_cases e : n + 1 < 32
  · rw [joined_middle G (Nat.succ_ne_zero n) e, if_pos e, EReal.coe_add]
    exact congrArg₂ (fun x y : EReal => x + y) ((upper_of _ b l).trans (hG n hn _ l)) ((lower_of _ b l).trans (hG (n + 1) e _ l))
  · obtain rfl : n = 31 := by omega
    rw [joined_last, if_neg e, add_zero]
    exact (upper_of _ b l).trans (hG 31 hn _ l)

variable {m} {c : Dev nD} {D : Data} (A : Args m c D)
include A

theorem tiles_hold {n : ℕ} (hn : n < 32) : (tiles m c (pt n)).Holds D n where
  q i l := by
    have hp : (pt n).val = n := Nat.min_eq_left (by omega)
    refine Eq.trans ?_ (A.q ⟨n * 128 + i.val, by omega⟩ ⟨l.val, by omega⟩ l.isLt)
    show X0_1 m c (pt n) (ix2 i l) = _
    unfold X0_1 Pipeline.Window.fill
    rw [dif_pos (moved0_1 (pt n) _)]
    blk_ext [iblk, V, idx (pt n)]
  g i l := by
    have hp : (pt n).val = n := Nat.min_eq_left (by omega)
    refine Eq.trans ?_ (A.g ⟨n * 128 + i.val, by omega⟩ ⟨l.val, by omega⟩ l.isLt)
    show X0_2 m c (pt n) (ix2 i l) = _
    unfold X0_2 Pipeline.Window.fill
    rw [dif_pos (moved0_2 (pt n) _)]
    blk_ext [iblk, V, idx (pt n)]
  kPrev i l := by
    have hp : (pt n).val = n := Nat.min_eq_left (by omega)
    refine Eq.trans ?_ (A.k ⟨(n - 1) * 128 + i.val, by omega⟩ l)
    show iblk m c 3 (pt n) (ix2 i l) = _
    blk_ext [iblk, V, idx (pt n)]
  kCur i l := by
    have hp : (pt n).val = n := Nat.min_eq_left (by omega)
    refine Eq.trans ?_ (A.k ⟨n * 128 + i.val, by omega⟩ l)
    show iblk m c 4 (pt n) (ix2 i l) = _
    blk_ext [iblk, V, idx (pt n)]
  vPrev i l := by
    have hp : (pt n).val = n := Nat.min_eq_left (by omega)
    refine Eq.trans ?_ (A.v ⟨(n - 1) * 128 + i.val, by omega⟩ l)
    show iblk m c 5 (pt n) (ix2 i l) = _
    blk_ext [iblk, V, idx (pt n)]
  vCur i l := by
    have hp : (pt n).val = n := Nat.min_eq_left (by omega)
    refine Eq.trans ?_ (A.v ⟨n * 128 + i.val, by omega⟩ l)
    show iblk m c 6 (pt n) (ix2 i l) = _
    blk_ext [iblk, V, idx (pt n)]
  sink i := by
    refine Eq.trans ?_ (A.sink i)
    show iblk m c 0 (pt n) _ = _
    blk_ext [iblk, V, idx (pt n)]
    rfl

variable (S : Slopes D)
include S

theorem qGrad_at {n : ℕ} (hn : n < 32) (i : Fin 128) (l : Fin 768) :
    qGrad m c n (ix2 i l) = (D.dq n (l.val / 192) (l.val / 64 % 3) i (l.val % 64) : EReal) := by
  unfold qGrad
  rw [mask_pt hn]
  exact (tiles_hold A hn).dq_at S hn i l

theorem kGrad_at {n : ℕ} (hn : n < 32) (j l : Fin 256) : kGrad m c n (ix2 j l) = (D.dkOf n j (l.val / 64) (l.val % 64) : EReal) := by
  unfold kGrad
  rw [mask_pt hn]
  exact (tiles_hold A hn).dk_at j S hn l

theorem vGrad_at {n : ℕ} (hn : n < 32) (j l : Fin 256) : vGrad m c n (ix2 j l) = (D.dvOf n j (l.val / 64) (l.val % 64) : EReal) := by
  unfold vGrad
  rw [mask_pt hn]
  exact (tiles_hold A hn).dv_at j S hn l

theorem sGrad_at {n : ℕ} (hn : n < 32) (l : Fin 128) : sGrad m c n (ix2 0 l)
    = ((if l.val < 12 then ∑ a : Fin 128, (D.row n (l.val / 3) (l.val % 3) a).dsink else 0 : ℝ) : EReal) := by
  unfold sGrad
  rw [mask_pt hn]
  exact (tiles_hold A hn).dsinks_at S hn l

/-- The sum of the first blocks' gradients of the sinks. -/
theorem sumTo_at (l : Fin 128) : ∀ n, n < 32 → sumTo m c n (ix2 0 l)
    = ((if l.val < 12 then ∑ i ∈ Finset.range (n + 1), ∑ a : Fin 128, (D.row i (l.val / 3) (l.val % 3) a).dsink else 0 : ℝ) : EReal)
  | 0, hn => by
    refine (congrArg₂ (fun x y : EReal => x + y) Ideal.ofBits_zero_f32 (sGrad_at A S hn l)).trans ?_
    rw [zero_add, Finset.sum_range_one]
  | n + 1, hn => by
    rw [sumTo_middle m c (Nat.succ_ne_zero n) hn]
    refine (congrArg₂ (fun x y : EReal => x + y) (sumTo_at l n (by omega)) (sGrad_at A S hn l)).trans ?_
    rw [← EReal.coe_add]
    split
    · rw [Finset.sum_range_succ _ (n + 1)]
    · rw [add_zero]

/-- The array of the keys' gradient after the run. -/
theorem dk_array (i : Fin 4096) (l : Fin 256) : (dats m 0 c).arrAt 8 cfg0.N (ix2 i l)
    = (Data.both D.dkOf (i.val / 128) ⟨i.val % 128, by omega⟩ (l.val / 64) (l.val % 64) : EReal) := by
  have h := (dats m 0 c).arrAt_eq_of_covers 8
    (fun x : S4096x256.Idx => ((Data.both D.dkOf ((x 0).val / 128) ⟨(x 0).val % 128, by omega⟩ ((x 1).val / 64) ((x 1).val % 64) : ℝ) : EReal))
    (by decide +kernel) fun t hf y => ?_
  · exact congrFun h (ix2 i l)
  · obtain ⟨n, hn⟩ := Nat.exists_eq_succ_of_ne_zero (wrote8 t hf)
    have ht : t.val < 33 := point_lt t
    have h0 : (y 0).val < 128 := (y 0).isLt
    have h1 : (y 1).val < 256 := (y 1).isLt
    have e0 : win0_8.index t 0 = t.val - 1 := congrFun (idx t).2.2.2.2.2.2.2.2.1 0
    have e1 : win0_8.index t 1 = 0 := congrFun (idx t).2.2.2.2.2.2.2.2.1 1
    blk_simp
    rw [after8, hn]
    refine (congrArg (joined (kGrad m c) (n + 1)) (eq_ix2 (n0 := 128) (n1 := 256) y)).trans
      ((joined_at (fun _ h j l => kGrad_at A S h j l) (by omega) _ _).trans (congrArg _ (both_congr _ ?_ ?_ ?_ ?_)))
    · omega
    · show (y 0).val = (win0_8.index t 0 * 128 + (y 0).val) % 128
      omega
    · show (y 1).val / 64 = (win0_8.index t 1 * 256 + (y 1).val) / 64
      omega
    · show (y 1).val % 64 = (win0_8.index t 1 * 256 + (y 1).val) % 64
      omega

/-- The array of the values' gradient after the run. -/
theorem dv_array (i : Fin 4096) (l : Fin 256) : (dats m 0 c).arrAt 9 cfg0.N (ix2 i l)
    = (Data.both D.dvOf (i.val / 128) ⟨i.val % 128, by omega⟩ (l.val / 64) (l.val % 64) : EReal) := by
  have h := (dats m 0 c).arrAt_eq_of_covers 9
    (fun x : S4096x256.Idx => ((Data.both D.dvOf ((x 0).val / 128) ⟨(x 0).val % 128, by omega⟩ ((x 1).val / 64) ((x 1).val % 64) : ℝ) : EReal))
    (by decide +kernel) fun t hf y => ?_
  · exact congrFun h (ix2 i l)
  · obtain ⟨n, hn⟩ := Nat.exists_eq_succ_of_ne_zero (wrote9 t hf)
    have ht : t.val < 33 := point_lt t
    have h0 : (y 0).val < 128 := (y 0).isLt
    have h1 : (y 1).val < 256 := (y 1).isLt
    have e0 : win0_9.index t 0 = t.val - 1 := congrFun (idx t).2.2.2.2.2.2.2.2.2.1 0
    have e1 : win0_9.index t 1 = 0 := congrFun (idx t).2.2.2.2.2.2.2.2.2.1 1
    blk_simp
    rw [after9, hn]
    refine (congrArg (joined (vGrad m c) (n + 1)) (eq_ix2 (n0 := 128) (n1 := 256) y)).trans
      ((joined_at (fun _ h j l => vGrad_at A S h j l) (by omega) _ _).trans (congrArg _ (both_congr _ ?_ ?_ ?_ ?_)))
    · omega
    · show (y 0).val = (win0_9.index t 0 * 128 + (y 0).val) % 128
      omega
    · show (y 1).val / 64 = (win0_9.index t 1 * 256 + (y 1).val) / 64
      omega
    · show (y 1).val % 64 = (win0_9.index t 1 * 256 + (y 1).val) % 64
      omega

/-- The array of the sinks' gradient after the run. -/
theorem dsink_array (l : Fin 128) : (dats m 0 c).arrAt 10 cfg0.N (ix2 0 l)
    = ((if l.val < 12 then D.dsink (l.val / 3) (l.val % 3) else 0 : ℝ) : EReal) := by
  have h := (dats m 0 c).arrAt_eq_of_covers 10
    (fun x : S1x128.Idx => ((if (x 1).val < 12 then D.dsink ((x 1).val / 3) ((x 1).val % 3) else 0 : ℝ) : EReal))
    (by decide +kernel) fun t hf y => ?_
  · exact congrFun h (ix2 0 l)
  · have e1 : win0_10.index t 1 = 0 := congrFun (idx t).2.2.2.2.2.2.2.2.2.2 1
    blk_simp
    rw [after10, wrote10 t hf, sumTo_last, e1, zero_mul, zero_add]
    refine (congrArg (sumTo m c 31) ((eq_ix2 (n0 := 1) (n1 := 128) y).trans (congrArg (fun a : Fin 1 => ix2 a (y 1)) (Subsingleton.elim _ 0)))).trans
      ((sumTo_at A S (y 1) 31 (by decide)).trans ?_)
    unfold Data.dsink
    rw [Finset.sum_range]

/-- The array of the queries' gradient after the run: the columns past the heads' are as the result was handed in. -/
theorem dq_array (i : Fin 4096) (l : Fin 1024) : (dats m 0 c).arrAt 7 cfg0.N (ix2 i l)
    = if l.val < 768 then (D.dq (i.val / 128) (l.val / 192) (l.val / 64 % 3) (i.val % 128) (l.val % 64) : EReal)
      else m ((c : Thread nD τ).loc main_arg5) (ix2 i l) := by
  have hV : V m c main_v0_0 = m ((c : Thread nD τ).loc main_arg5) := by unfold V; after_results; try rfl
  have h := (dats m 0 c).arrAt_eq_of_coversWhere 7
    (fun x : S4096x1024.Idx => ((D.dq ((x 0).val / 128) ((x 1).val / 192) ((x 1).val / 64 % 3) ((x 0).val % 128) ((x 1).val % 64) : ℝ) : EReal))
    (P := fun x : S4096x1024.Idx => (x 1).val < 768)
    (fun β => β (1 : Fin 2) < 1) (by decide +kernel) (fun t hf y => ?_) (fun j => by blk_simp [Pipeline.Window.cell_apply]; omega)
  · refine (congrFun h (ix2 i l)).trans ?_
    rw [A_eq]
    exact congrArg (fun x : EReal => if l.val < 768 then _ else x) (congrFun hV (ix2 i l))
  · have ht : t.val < 33 := point_lt t
    have h0 : (y 0).val < 128 := lt_of_lt_of_eq (y 0).isLt (xsize7 t 0)
    have h1 : (y 1).val < 768 := lt_of_lt_of_eq (y 1).isLt (xsize7 t 1)
    have e0 : win0_7.index t 0 = min t.val 31 := congrFun (idx t).2.2.2.2.2.2.2.1 0
    have e1 : win0_7.index t 1 = 0 := congrFun (idx t).2.2.2.2.2.2.2.1 1
    have ep : pt t.val = pt (min t.val 31) := Fin.ext (by show min t.val 31 = min (min t.val 31) 31; omega)
    blk_simp
    rw [after7, e0, e1, zero_mul, zero_add, show (min t.val 31 * 128 + (y 0).val) / 128 = min t.val 31 by omega,
      show (min t.val 31 * 128 + (y 0).val) % 128 = (y 0).val by omega]
    refine (congrArg (qGrad m c t.val) (eq_ix2 (n0 := 128) (n1 := 768) _)).trans (Eq.trans ?_
      (qGrad_at A S (n := min t.val 31) (by omega) ⟨(y 0).val, h0⟩ ⟨(y 1).val, h1⟩))
    unfold qGrad
    rw [ep]
    rfl

end Cert.KernelIdeal.Swa

end
-- ==== Proof.RefRow.lean ====
/- The reference's arrays up to the derivative of the scores, read at an index: rows of the attention over the reals. -/
module

public import proofs.«01_k».proof.Proof.Spec
public import proofs.«01_k».proof.Proof.Words
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.Attention

variable (V0 : Valuation τ sig (Elt Ideal))

/-- The arguments are the extended reals of `D`'s arrays, where the attention reads them. -/
structure Holds (D : Data) : Prop where
  q : ∀ (i : Fin 4096) (j : Fin 1024), j.val < 768 →
    (V0 (Proc.devRef .tc main_arg0) : FVec Ideal S4096x1024 .bf16) (ix2 i j) = (D.q i j : EReal)
  k : ∀ (i : Fin 4096) (j : Fin 256), (V0 (Proc.devRef .tc main_arg1) : FVec Ideal S4096x256 .bf16) (ix2 i j) = (D.k i j : EReal)
  v : ∀ (i : Fin 4096) (j : Fin 512), 256 ≤ j.val →
    (V0 (Proc.devRef .tc main_arg2) : FVec Ideal S4096x512 .f32) (ix2 i j) = (D.v i (j - 256) : EReal)
  g : ∀ (i : Fin 4096) (j : Fin 1024), j.val < 768 →
    (V0 (Proc.devRef .tc main_arg4) : FVec Ideal S4096x1024 .f32) (ix2 i j) = (D.g i j : EReal)
  sink : ∀ j : Fin 12, (V0 (Proc.devRef .tc main_arg3) : FVec Ideal S12 .f32) (ix1 j) = (D.sink j : EReal)
  slope : ∀ j : Fin 12, Ideal.ofBits .f32 (lit0 (S12.rowMajor (ix1 j))) = (D.slope j : EReal)
  scale : Ideal.ofBits .f32 0x3E000000#32 = (D.scale : EReal)

variable {V0} {D : Data} (H : Holds V0 D)
variable (n : Fin 32) (h : Fin 4) (g : Fin 3) (a : Fin 128) (j : Fin 256) (d : Fin 64)

/-- The distance from a key to a query, in tokens. -/
theorem dist_at : (res_main_v46 V0 : IVec S32x128x256 32) (ix3 n a j) = BitVec.ofInt 32 ((a.val : ℤ) + 128 - j.val) := by
  unfold res_main_v46 res_main_v41 res_main_v29
  clean_types
  pointwise
  rw [show (128#32 : BitVec 32) = BitVec.ofInt 32 128 from rfl, nat_word n, nat_word a, nat_word j, mul_word, add_word, sub_word, add_word,
    sub_word]
  exact congrArg _ (by ring)

/-- A key's token. -/
theorem kpos_at : (res_main_v41 V0 : IVec S32x256 32) (ix2 n j) = BitVec.ofInt 32 ((n.val : ℤ) * 128 + j.val - 128) := by
  unfold res_main_v41 res_main_v29
  clean_types
  pointwise
  rw [show (128#32 : BitVec 32) = BitVec.ofInt 32 128 from rfl, nat_word n, nat_word j, mul_word, sub_word, add_word]
  exact congrArg _ (by ring)

/-- Which keys a query sees. -/
theorem seen_at : (res_main_v66_1 V0 : IVec S1x32x4x3x128x256 1) (ix6 0 n h g a j) = 1#1 ↔ (D.row n h g a).seen j := by
  unfold res_main_v66_1
  clean_types
  pointwise
  rw [dist_at, kpos_at]
  have hn := n.isLt
  have ha := a.isLt
  have hj := j.isLt
  rw [sge_zero (by omega) (by omega), slt_block (by omega) (by omega), sge_zero (by omega) (by omega), and_bit, and_bit, bit_one]
  show _ ↔ (a.val < j.val ∧ j.val ≤ a.val + 128 ∧ 128 ≤ n.val * 128 + j.val)
  omega

include H in
/-- The queries, by block, group and head. -/
theorem q_at : (res_main_v9 V0 : FVec Ideal S1x32x128x4x3x64 .f32) (ix6 0 n a h g d)
    = (D.q (n * 128 + a) (h * 192 + g * 64 + d) : EReal) := by
  unfold res_main_v9
  clean_types
  pointwise
  exact H.q _ _ (by show h.val * 192 + g.val * 64 + d.val < 768; omega)

include H in
/-- The output's gradient, likewise. -/
theorem g_at : (res_main_v116 V0 : FVec Ideal S1x32x4x64x3x128 .f32) (ix6 0 n h d g a)
    = (D.g (n * 128 + a) (h * 192 + g * 64 + d) : EReal) := by
  unfold res_main_v116
  clean_types
  pointwise
  exact H.g _ _ (by show h.val * 192 + g.val * 64 + d.val < 768; omega)

/-- The keys a block sees: of the block before the first, zeros. -/
def keyAt (f : ℕ → ℕ → ℝ) (n : Fin 32) (h : Fin 4) (j : Fin 256) (d : Fin 64) : ℝ :=
  if n.val * 128 + j.val < 128 then 0 else f (n * 128 + j - 128) (h * 64 + d)

theorem keyAt_zero (f : ℕ → ℕ → ℝ) (e : n.val * 128 + j.val < 128) : (0 : EReal) = (keyAt f n h j d : EReal) := by
  unfold keyAt; rw [if_pos e, EReal.coe_zero]
theorem keyAt_of (f : ℕ → ℕ → ℝ) {i l : ℕ} (e : i + 128 = n.val * 128 + j.val) (el : l = h.val * 64 + d.val) :
    (f i l : EReal) = (keyAt f n h j d : EReal) := by
  unfold keyAt; rw [if_neg (by omega), el, show n.val * 128 + j.val - 128 = i by omega]

include H in
theorem k_at : (res_main_v15 V0 : FVec Ideal S1x32x256x4x64 .f32) (ix5 0 n j h d) = (keyAt D.k n h j d : EReal) := by
  unfold res_main_v15 res_main_v10
  clean_types
  pointwise
  have hj := j.isLt
  have hn := n.isLt
  split
  · rename_i h1
    split
    · rename_i h2
      exact keyAt_zero n h j d D.k (by omega)
    · rename_i h2
      exact (H.k _ _).trans (keyAt_of n h j d D.k (by show (n.val - 1) * 128 + j.val + 128 = _; clear h1; omega) rfl)
  · rename_i h1
    exact (H.k _ _).trans (keyAt_of n h j d D.k (by show n.val * 128 + (j.val - 128) + 128 = _; omega) rfl)

include H in
theorem v_at : (res_main_v21 V0 : FVec Ideal S1x32x256x4x64 .f32) (ix5 0 n j h d) = (keyAt D.v n h j d : EReal) := by
  unfold res_main_v21 res_main_v16
  clean_types
  pointwise
  have hj := j.isLt
  have hn := n.isLt
  split
  · rename_i h1
    split
    · rename_i h2
      exact keyAt_zero n h j d D.v (by omega)
    · rename_i h2
      exact (H.v _ _ (by show 256 ≤ 256 + (h.val * 64 + d.val); clear h1 h2; omega)).trans
        (keyAt_of n h j d D.v (by show (n.val - 1) * 128 + j.val + 128 = _; clear h1; omega)
          (by show 256 + (h.val * 64 + d.val) - 256 = _; clear h1 h2; omega))
  · rename_i h1
    exact (H.v _ _ (by show 256 ≤ 256 + (h.val * 64 + d.val); clear h1; omega)).trans
      (keyAt_of n h j d D.v (by show n.val * 128 + (j.val - 128) + 128 = _; omega)
        (by show 256 + (h.val * 64 + d.val) - 256 = _; clear h1; omega))

variable (D) in
/-- A row as the reference is given it: of the block before the first it reads zeros. -/
def refRow (n : Fin 32) (h : Fin 4) (g : Fin 3) (a : Fin 128) : Row where
  seen := (D.row n h g a).seen
  score j := (∑ d : Fin 64, keyAt D.k n h j d * D.q (n * 128 + a) (h * 192 + g * 64 + d)) * D.scale
    - D.slope (h * 3 + g) * (((a.val : ℤ) + 128 - j.val : ℤ) : ℝ)
  sink := D.sink (h * 3 + g)
  dp j := ∑ d : Fin 64, D.g (n * 128 + a) (h * 192 + g * 64 + d) * keyAt D.v n h j d

theorem keyAt_seen (f : ℕ → ℕ → ℝ) (e : (D.row n h g a).seen j) : keyAt f n h j d = f (n * 128 + j - 128) (h * 64 + d) := by
  have e' : a.val < j.val ∧ j.val ≤ a.val + 128 ∧ 128 ≤ n.val * 128 + j.val := e
  unfold keyAt; rw [if_neg (by omega)]

variable (D) in
theorem agree : (refRow D n h g a).Agree (D.row n h g a) where
  seen _ := Iff.rfl
  score j e := by
    show (∑ d : Fin 64, _) * _ - _ = (∑ d : Fin 64, _) * _ - _
    congr 1
    · congr 1
      exact Finset.sum_congr rfl fun d _ => by rw [keyAt_seen n h g a j d D.k e, mul_comm]
    · congr 1; push_cast; ring
  sink := rfl
  dp j e := by
    dsimp only [refRow, Data.row]
    exact Finset.sum_congr rfl fun d _ => by rw [keyAt_seen n h g a j d D.v e]

include H in
/-- The masked scores. -/
theorem score_at : (res_main_v66_0 V0 : FVec Ideal S1x32x4x3x128x256 .f32) (ix6 0 n h g a j) = (refRow D n h g a).masked j := by
  unfold res_main_v66_0
  clean_types
  pointwise
  have hn := n.isLt
  have ha := a.isLt
  have hj := j.isLt
  have e1 : (∑ x : Fin 64, ((show EReal from (res_main_v15 V0 : FVec Ideal S1x32x256x4x64 .f32) (ix5 0 n j h x))
      * (show EReal from (res_main_v9 V0 : FVec Ideal S1x32x128x4x3x64 .f32) (ix6 0 n a h g x))))
      = ((∑ d : Fin 64, keyAt D.k n h j d * D.q (n * 128 + a) (h * 192 + g * 64 + d) : ℝ) : EReal) := by
    rw [coe_sum]
    refine Finset.sum_congr rfl fun x _ => ?_
    rw [EReal.coe_mul]
    exact congrArg₂ (fun a b : EReal => a * b) (k_at H n h j x) (q_at H n h g a x)
  have e2 := H.slope ⟨h.val * 3 + g.val, by omega⟩
  have e3 : (FloatOps.sitofp .f32 ((res_main_v46 V0 : IVec S32x128x256 32) (ix3 n a j)) : Ideal .f32)
      = ((((a.val : ℤ) + 128 - j.val : ℤ) : ℝ) : EReal) := by
    rw [dist_at]; exact float_word (by omega) (by omega)
  have e4 : (id (constant (F := Ideal) S_ .f32 4286578688#32) ix0 : EReal) = ⊥ := by
    show Ideal.ofBits .f32 4286578688#32 = ⊥
    simp [Ideal.ofBits, Ideal.ieee]
  refine (Scalar.select_def _ _ _).trans ?_
  unfold Row.masked
  classical
  refine ite_congr (propext (seen_at (D := D) n h g a j)) (fun _ => ?_) (fun _ => e4)
  refine (congrArg₂ (fun x y : EReal => x - y) (congrArg₂ (fun x y : EReal => x * y) e1 H.scale)
    (congrArg₂ (fun x y : EReal => x * y) e2 e3)).trans ?_
  rw [← EReal.coe_mul, ← EReal.coe_mul, ← EReal.coe_sub]
  rfl

include H in
/-- The sink, on the row's axes. -/
theorem sink_at : (res_main_v68 V0 : FVec Ideal S1x1x4x3x1x1 .f32) (ix6 0 0 h g 0 0) = (D.sink (h * 3 + g) : EReal) := by
  unfold res_main_v68
  clean_types
  pointwise
  exact H.sink _

end Cert.ReferenceIdeal.Value

end
-- ==== Proof.Finite.lean ====
/- What the precondition says: the entries the attention reads are real numbers; and the real arrays they make. -/
module

public import proofs.«01_k».proof.Defs
public import proofs.«01_k».proof.Proof.Arrays
public import proofs.«01_k».proof.Proof.RefRow
public import Idealize.ShloMosaic.Lib.ReduceAll

@[expose] public section

noncomputable section

namespace Cert.Pre_finite

open Idealize.ShloMosaic Idealize.ShloMosaic.TcCoe Cert.Attention

/-- The shapes of the precondition's operations fit. -/
theorem facts : Facts where
  slices_S4096x1024_S4096x768_0_0 := by decide
  bitsLt_bf16_f32 := by decide
  bcast_S_S4096x768 := by decide
  reducesTo_S4096x768_S_d0_1 := by decide
  h_S_ := by decide
  bcast_S_S4096x256 := by decide
  reducesTo_S4096x256_S_d0_1 := by decide
  slices_S4096x512_S4096x256_0_256 := by decide
  bcast_S_S12 := by decide
  reducesTo_S12_S_d0 := by decide

instance : Subsingleton S_.Idx := ⟨fun a b => funext fun i => i.elim0⟩

theorem inf_word : Ideal.ofBits .f32 0x7F800000#32 = ⊤ := by simp [Ideal.ofBits, Ideal.ieee]

/-- An entry below infinity in size is a real number. -/
theorem real_of {x : EReal} (h : Ideal.cmp .olt (max x (-x)) (Ideal.ofBits .f32 0x7F800000#32) = 1#1) : x = (x.toReal : EReal) := by
  rw [inf_word] at h
  unfold Ideal.cmp at h
  have hlt : max x (-x) < ⊤ := by
    by_contra hn
    simp [hn] at h
  refine (EReal.coe_toReal ?_ ?_).symm
  · rintro rfl
    simp at hlt
  · rintro rfl
    simp at hlt

/-- Two bits whose conjunction is set are both set. -/
theorem both_set {a b : IVec S_ 1} {i : S_.Idx} (h : andi a b i = 1#1) : a i = 1#1 ∧ b i = 1#1 := by
  have e : a i &&& b i = 1#1 := h
  revert e
  generalize a i = x
  generalize b i = y
  revert x y
  decide

/-- The only index of a value without dimensions. -/
def at0 : S_.Idx := fun i => i.elim0

/-- An array all of whose entries are below infinity in size is an array of real numbers. -/
theorem all_real {s : Shape} {axes : List (Fin s.rank)} (X : FVec Ideal s .f32) (B : S_.BroadcastsInDim s (![] : Fin 0 → Fin s.rank))
    (R : s.ReducesTo axes S_) (U : 0 < S_.numel)
    (h : Host.reduce IntOp.andi (cmpf .olt (Host.absf X) (broadcastInDim s ![] B (constant S_ .f32 0x7F800000#32))) (constantI S_ 1 1#1) R U at0 = 1#1)
    (i : s.Idx) : X i = ((X i : EReal).toReal : EReal) :=
  real_of (Host.reduce_andi_all _ _ R U at0 h i)

variable (a0 : FVec Ideal S4096x1024 .bf16) (a1 : FVec Ideal S4096x256 .bf16) (a2 : FVec Ideal S4096x512 .f32) (a3 : FVec Ideal S12 .f32)
  (a4 a5 : FVec Ideal S4096x1024 .f32)

/-- The entries the attention reads are real numbers. -/
structure Reals : Prop where
  q : ∀ (i : Fin 4096) (l : Fin 1024), l.val < 768 → a0 (ix2 i l) = ((a0 (ix2 i l) : EReal).toReal : EReal)
  k : ∀ (i : Fin 4096) (l : Fin 256), a1 (ix2 i l) = ((a1 (ix2 i l) : EReal).toReal : EReal)
  v : ∀ (i : Fin 4096) (l : Fin 512), 256 ≤ l.val → a2 (ix2 i l) = ((a2 (ix2 i l) : EReal).toReal : EReal)
  sink : ∀ i : Fin 12, a3 (ix1 i) = ((a3 (ix1 i) : EReal).toReal : EReal)
  g : ∀ (i : Fin 4096) (l : Fin 1024), l.val < 768 → a4 (ix2 i l) = ((a4 (ix2 i l) : EReal).toReal : EReal)

/-- A slice from the origin reads its array at the same place. -/
theorem slice_left {φ : FTy} (x : FVec Ideal S4096x1024 φ) (h : S4096x1024.Slices ![0, 0] S4096x768) (i : Fin 4096) (l : Fin 1024) (hl : l.val < 768) :
    extractStridedSlice S4096x768 ![0, 0] x h (ix2 i ⟨l.val, hl⟩) = x (ix2 i l) := by
  refine congrArg x (funext fun d => ?_)
  fin_cases d
  · exact Fin.ext (Nat.zero_add _)
  · exact Fin.ext (Nat.zero_add _)

/-- The slice of the right half reads its array 256 columns further. -/
theorem slice_right (x : FVec Ideal S4096x512 .f32) (h : S4096x512.Slices ![0, 256] S4096x256) (i : Fin 4096) (l : Fin 512) (hl : 256 ≤ l.val) :
    extractStridedSlice S4096x256 ![0, 256] x h (ix2 i ⟨l.val - 256, by omega⟩) = x (ix2 i l) := by
  refine congrArg x (funext fun d => ?_)
  fin_cases d
  · exact Fin.ext (Nat.zero_add _)
  · exact Fin.ext (by show 256 + (l.val - 256) = l.val; omega)

variable {a0 a1 a2 a3 a4 a5}

/-- The precondition gives real entries. -/
theorem reals_of [Facts] (h : fn (F := Ideal) a0 a1 a2 a3 a4 a5 = fun _ => 1#1) : Reals a0 a1 a2 a3 a4 := by
  have h0 := congrFun h at0
  unfold fn fn_part1 at h0
  obtain ⟨h1, hg⟩ := both_set h0
  obtain ⟨h2, hs⟩ := both_set h1
  obtain ⟨h3, hv⟩ := both_set h2
  obtain ⟨hq, hk⟩ := both_set h3
  refine ⟨fun i l hl => ?_, fun i l => ?_, fun i l hl => ?_, fun i => ?_, fun i l hl => ?_⟩
  · have e := all_real _ _ _ _ hq (ix2 i ⟨l.val, hl⟩)
    have e' := slice_left a0 Facts.slices_S4096x1024_S4096x768_0_0 i l hl
    exact e'.symm.trans (e.trans (congrArg (fun y : EReal => (y.toReal : EReal)) e'))
  · exact all_real (extf .f32 a1 Facts.bitsLt_bf16_f32) Facts.bcast_S_S4096x256 Facts.reducesTo_S4096x256_S_d0_1 Facts.h_S_ hk (ix2 i l)
  · have e := all_real _ _ _ _ hv (ix2 i ⟨l.val - 256, by omega⟩)
    have e' := slice_right a2 Facts.slices_S4096x512_S4096x256_0_256 i l hl
    exact e'.symm.trans (e.trans (congrArg (fun y : EReal => (y.toReal : EReal)) e'))
  · exact all_real a3 Facts.bcast_S_S12 Facts.reducesTo_S12_S_d0 Facts.h_S_ hs (ix1 i)
  · have e := all_real _ _ _ _ hg (ix2 i ⟨l.val, hl⟩)
    have e' := slice_left a4 Facts.slices_S4096x1024_S4096x768_0_0 i l hl
    exact e'.symm.trans (e.trans (congrArg (fun y : EReal => (y.toReal : EReal)) e'))

/-- A matrix's real entries, zero outside it. -/
def entries {r c : ℕ} (x : (i : Fin r) → (j : Fin c) → EReal) (i j : ℕ) : ℝ :=
  if h : i < r ∧ j < c then (x ⟨i, h.1⟩ ⟨j, h.2⟩).toReal else 0

theorem entries_at {r c : ℕ} (x : (i : Fin r) → (j : Fin c) → EReal) (i : Fin r) (j : Fin c) : entries x i j = (x i j).toReal :=
  dif_pos ⟨i.isLt, j.isLt⟩

variable (a0 a1 a2 a3 a4)

/-- The attention's arguments as real arrays. -/
def data : Data where
  q := entries fun i j => a0 (ix2 i j)
  k := entries fun i j => a1 (ix2 i j)
  v := fun i j => entries (fun i j => a2 (ix2 i j)) i (256 + j)
  g := entries fun i j => a4 (ix2 i j)
  sink := fun i => entries (fun (_ : Fin 1) j => a3 (ix1 j)) 0 i
  slope := fun n => entries (fun (_ : Fin 1) (j : Fin 12) => Ideal.ofBits .f32 (Cert.ReferenceIdeal.lit0 j)) 0 n
  scale := (Ideal.ofBits .f32 0x3E000000#32).toReal

/-- A word whose exponent is not all ones names a real number. -/
theorem word_real (w : BitVec 32) (h : (w.extractLsb' 23 8).toNat ≠ 255) :
    Ideal.ofBits .f32 w = ((Ideal.ofBits .f32 w).toReal : EReal) := by
  have e : ∃ r : ℝ, Ideal.ofBits .f32 w = (r : EReal) := by
    show ∃ r : ℝ, Ideal.ieee 8 23 w = (r : EReal)
    unfold Ideal.ieee
    dsimp only
    rw [if_neg (by simpa using h)]
    split
    · exact ⟨_, rfl⟩
    · exact ⟨_, rfl⟩
  obtain ⟨r, hr⟩ := e
  rw [hr, EReal.toReal_coe]

/-- The twelve slopes are real numbers. -/
theorem slope_real (j : Fin 12) : Ideal.ofBits .f32 (Cert.ReferenceIdeal.lit0 j)
    = ((data a0 a1 a2 a3 a4).slope j : EReal) := by
  refine (word_real _ ?_).trans (congrArg _ (entries_at (fun (_ : Fin 1) (j : Fin 12) => Ideal.ofBits .f32 (Cert.ReferenceIdeal.lit0 j)) 0 j).symm)
  revert j
  decide +kernel

theorem scale_real : Ideal.ofBits .f32 0x3E000000#32 = ((data a0 a1 a2 a3 a4).scale : EReal) :=
  word_real _ (by decide)

/-- The kernel's slopes are those. -/
theorem slopes : Cert.KernelIdeal.Swa.Slopes (data a0 a1 a2 a3 a4) where
  s0 := slope_real a0 a1 a2 a3 a4 0
  s1 := slope_real a0 a1 a2 a3 a4 1
  s2 := slope_real a0 a1 a2 a3 a4 2
  s3 := slope_real a0 a1 a2 a3 a4 3
  s4 := slope_real a0 a1 a2 a3 a4 4
  s5 := slope_real a0 a1 a2 a3 a4 5
  s6 := slope_real a0 a1 a2 a3 a4 6
  s7 := slope_real a0 a1 a2 a3 a4 7
  s8 := slope_real a0 a1 a2 a3 a4 8
  s9 := slope_real a0 a1 a2 a3 a4 9
  s10 := slope_real a0 a1 a2 a3 a4 10
  s11 := slope_real a0 a1 a2 a3 a4 11
  scale := scale_real a0 a1 a2 a3 a4

variable {a0 a1 a2 a3 a4}

/-- The kernel's arguments are the extended reals of those arrays. -/
theorem args (m : (ℓ : Loc Cert.KernelIdeal.nD Cert.KernelIdeal.τ Cert.KernelIdeal.sig) → Buf (Elt Ideal) ℓ) (c : Dev Cert.KernelIdeal.nD)
    (e0 : m ((c : Thread Cert.KernelIdeal.nD Cert.KernelIdeal.τ).loc Cert.KernelIdeal.main_arg0) = a0)
    (e1 : m ((c : Thread Cert.KernelIdeal.nD Cert.KernelIdeal.τ).loc Cert.KernelIdeal.main_arg1) = a1)
    (e2 : m ((c : Thread Cert.KernelIdeal.nD Cert.KernelIdeal.τ).loc Cert.KernelIdeal.main_arg2) = a2)
    (e3 : m ((c : Thread Cert.KernelIdeal.nD Cert.KernelIdeal.τ).loc Cert.KernelIdeal.main_arg3) = a3)
    (e4 : m ((c : Thread Cert.KernelIdeal.nD Cert.KernelIdeal.τ).loc Cert.KernelIdeal.main_arg4) = a4)
    (R : Reals a0 a1 a2 a3 a4) : Cert.KernelIdeal.Swa.Args m c (data a0 a1 a2 a3 a4) where
  q i l hl := (congrFun e0 _).trans ((R.q i l hl).trans (congrArg _ (entries_at (fun i j => (a0 (ix2 i j) : EReal)) i l).symm))
  k i l := (congrFun e1 _).trans ((R.k i l).trans (congrArg _ (entries_at (fun i j => (a1 (ix2 i j) : EReal)) i l).symm))
  v i l := (congrFun e2 _).trans ((R.v i ⟨256 + l.val, by omega⟩ (Nat.le_add_right _ _)).trans
    (congrArg _ (entries_at (fun i j => (a2 (ix2 i j) : EReal)) i ⟨256 + l.val, by omega⟩).symm))
  sink i := (congrFun e3 _).trans ((R.sink i).trans (congrArg _ (entries_at (fun (_ : Fin 1) j => (a3 (ix1 j) : EReal)) 0 i).symm))
  g i l hl := (congrFun e4 _).trans ((R.g i l hl).trans (congrArg _ (entries_at (fun i j => (a4 (ix2 i j) : EReal)) i l).symm))

/-- The reference's arguments are the extended reals of those arrays. -/
theorem holds (V0 : Valuation Cert.ReferenceIdeal.τ Cert.ReferenceIdeal.sig (Elt Ideal))
    (e0 : V0 (Proc.devRef .tc Cert.ReferenceIdeal.main_arg0) = a0) (e1 : V0 (Proc.devRef .tc Cert.ReferenceIdeal.main_arg1) = a1)
    (e2 : V0 (Proc.devRef .tc Cert.ReferenceIdeal.main_arg2) = a2) (e3 : V0 (Proc.devRef .tc Cert.ReferenceIdeal.main_arg3) = a3)
    (e4 : V0 (Proc.devRef .tc Cert.ReferenceIdeal.main_arg4) = a4)
    (R : Reals a0 a1 a2 a3 a4) : Cert.ReferenceIdeal.Value.Holds V0 (data a0 a1 a2 a3 a4) where
  q i l hl := (congrFun e0 _).trans ((R.q i l hl).trans (congrArg _ (entries_at (fun i j => (a0 (ix2 i j) : EReal)) i l).symm))
  k i l := (congrFun e1 _).trans ((R.k i l).trans (congrArg _ (entries_at (fun i j => (a1 (ix2 i j) : EReal)) i l).symm))
  v i l hl := (congrFun e2 _).trans ((R.v i l hl).trans (congrArg _ ((entries_at (fun i j => (a2 (ix2 i j) : EReal)) i l).symm.trans
    (congrArg (entries (fun i j => (a2 (ix2 i j) : EReal)) i) (show l.val = 256 + (l.val - 256) by omega)))))
  sink i := (congrFun e3 _).trans ((R.sink i).trans (congrArg _ (entries_at (fun (_ : Fin 1) j => (a3 (ix1 j) : EReal)) 0 i).symm))
  g i l hl := (congrFun e4 _).trans ((R.g i l hl).trans (congrArg _ (entries_at (fun i j => (a4 (ix2 i j) : EReal)) i l).symm))
  slope j := (congrArg (fun n => Ideal.ofBits .f32 (Cert.ReferenceIdeal.lit0 n)) (Fin.ext (by
    revert j
    decide +kernel) : Cert.ReferenceIdeal.S12.rowMajor (ix1 j) = j)).trans (slope_real a0 a1 a2 a3 a4 j)
  scale := scale_real a0 a1 a2 a3 a4

end Cert.Pre_finite

end
-- ==== Proof.RefTop.lean ====
/- The reference's shift of a row before the exponential: the greatest of its scores and its sink, a real number. -/
module

public import proofs.«01_k».proof.Proof.RefRow

@[expose] public section

set_option maxRecDepth 16384

noncomputable section

namespace Cert.ReferenceIdeal.Value

open Idealize.ShloMosaic Idealize.ShloMosaic.TcCoe Idealize.SL.Sem
open Cert.ReferenceIdeal Cert.Attention

variable {V0 : Valuation τ sig (Elt Ideal)} {D : Data} (H : Holds V0 D)
variable (n : Fin 32) (h : Fin 4) (g : Fin 3) (a : Fin 128) (j : Fin 256) (d : Fin 64)

/-- The word of −∞. -/
theorem neg_inf : Ideal.ofBits .f32 0xFF800000#32 = ⊥ := by simp [Ideal.ofBits, Ideal.ieee]

/-- The greatest score of a row: a maximum of scores. -/
theorem max_of (X : FVec Ideal S1x32x4x3x128x256 .f32) : ∃ s : Finset S1x32x4x3x128x256.Idx,
    Host.reduce FloatOps.maximumf X (constant S_ .f32 0xFF800000#32) Gen.reducesTo_S1x32x4x3x128x256_S1x32x4x3x128_d5 Gen.h_S_ (ix5 0 n h g a)
      = s.fold max (⊥ : EReal) X := by
  rw [← neg_inf]
  pointwise
  exact ⟨_, rfl⟩

theorem max_at : ∃ s : Finset S1x32x4x3x128x256.Idx, (res_main_v69 V0 : FVec Ideal S1x32x4x3x128 .f32) (ix5 0 n h g a)
    = s.fold max (⊥ : EReal) (res_main_v66_0 V0 : FVec Ideal S1x32x4x3x128x256 .f32) :=
  max_of n h g a (res_main_v66_0 V0)

theorem max_col_at : (res_main_v75 V0 : FVec Ideal S1x32x4x3x128x1 .f32) (ix6 0 n h g a 0)
    = (res_main_v69 V0 : FVec Ideal S1x32x4x3x128 .f32) (ix5 0 n h g a) := by
  unfold res_main_v75
  clean_types
  pointwise

theorem shift_of (X : FVec Ideal S1x32x4x3x128x1 .f32) (Y : FVec Ideal S1x1x4x3x1x1 .f32) :
    maximumf X (broadcastInDim S1x32x4x3x128x1 ![0, 1, 2, 3, 4, 5] Gen.bcast_S1x1x4x3x1x1_S1x32x4x3x128x1_0_1_2_3_4_5 Y) (ix6 0 n h g a 0)
      = max (show EReal from X (ix6 0 n h g a 0)) (show EReal from Y (ix6 0 0 h g 0 0)) := by
  pointwise

theorem shift_at : (res_main_v77 V0 : FVec Ideal S1x32x4x3x128x1 .f32) (ix6 0 n h g a 0)
    = max (show EReal from (res_main_v75 V0 : FVec Ideal S1x32x4x3x128x1 .f32) (ix6 0 n h g a 0))
      (show EReal from (res_main_v68 V0 : FVec Ideal S1x1x4x3x1x1 .f32) (ix6 0 0 h g 0 0)) :=
  shift_of n h g a (res_main_v75 V0) (res_main_v68 V0)

include H in
theorem score_ne_top (i : S1x32x4x3x128x256.Idx) : (res_main_v66_0 V0 : FVec Ideal S1x32x4x3x128x256 .f32) i ≠ (⊤ : EReal) := by
  obtain ⟨n', h', g', a', j', rfl⟩ : ∃ (n' : Fin 32) (h' : Fin 4) (g' : Fin 3) (a' : Fin 128) (j' : Fin 256),
      i = ix6 0 n' h' g' a' j' := by
    refine ⟨i 1, i 2, i 3, i 4, i 5, ?_⟩
    have e := eq_ix6 i
    have e0 : i 0 = (0 : Fin 1) := Subsingleton.elim (α := Fin 1) _ _
    rw [e0] at e
    exact e
  exact fun e => Row.masked_ne_top _ _ ((score_at H n' h' g' a' j').symm.trans e)

include H in
/-- The shift of a row is a real number. -/
theorem shift_real : ∃ μ : ℝ, (res_main_v77 V0 : FVec Ideal S1x32x4x3x128x1 .f32) (ix6 0 n h g a 0) = (μ : EReal) := by
  obtain ⟨s, hs⟩ := max_at (V0 := V0) n h g a
  obtain ⟨μ, hμ⟩ := Row.top_real s
    (res_main_v66_0 V0 : FVec Ideal S1x32x4x3x128x256 .f32) (fun i _ => score_ne_top H i) (D.sink (h * 3 + g))
  refine ⟨μ, (shift_at n h g a).trans (Eq.trans ?_ hμ)⟩
  exact congrArg₂ (fun x y : EReal => max x y) ((max_col_at n h g a).trans hs) (sink_at H h g)

end Cert.ReferenceIdeal.Value

end
-- ==== Proof.RefSums.lean ====
/- The reference's sums over the axes of a row, at an index. -/
module

public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal

variable (n : Fin 32) (h : Fin 4) (g : Fin 3) (a : Fin 128)

/-- A sum over a row's keys. -/
theorem sum_keys (x : FVec Ideal S1x32x4x3x128x256 .f32) :
    Host.reduceAdd x (constant S_ .f32 0x00000000#32) Gen.reducesTo_S1x32x4x3x128x256_S1x32x4x3x128_d5 Gen.h_S_ (ix5 0 n h g a)
      = ∑ j : Fin 256, (show EReal from x (ix6 0 n h g a j)) := by
  refine (Ideal.hostReduceAdd_single Gen.reducesTo_S1x32x4x3x128x256_S1x32x4x3x128_d5 (by decide) x _ _).trans ?_
  refine (congrArg₂ (fun x y : EReal => x + y) Ideal.ofBits_zero_f32 (Finset.sum_congr rfl fun k _ => congrArg x ?_)).trans (zero_add _)
  funext b; apply Fin.ext
  match b with
  | ⟨0, _⟩ => rfl
  | ⟨1, _⟩ => rfl
  | ⟨2, _⟩ => rfl
  | ⟨3, _⟩ => rfl
  | ⟨4, _⟩ => rfl
  | ⟨5, _⟩ => rfl

/-- A sum over two axes of one element. -/
theorem sum_unit (x : FVec Ideal S1x32x4x3x128x1 .f32) :
    Host.reduceAdd x (constant S_ .f32 0x00000000#32) Gen.reducesTo_S1x32x4x3x128x1_S32x4x3x128_d0_5 Gen.h_S_ (ix4 n h g a)
      = (show EReal from x (ix6 0 n h g a 0)) := by
  show Ideal.hostReduceAdd Gen.reducesTo_S1x32x4x3x128x1_S32x4x3x128_d0_5 x _ _ = _
  unfold Ideal.hostReduceAdd
  refine (congrArg₂ (fun x y : EReal => x + y) Ideal.ofBits_zero_f32 (Finset.sum_filter_eq_sum_of_fiber _
    (fun _ : Fin 1 => (ix6 0 n h g a 0 : S1x32x4x3x128x1.Idx)) (fun _ _ _ => Subsingleton.elim _ _) (fun i => ⟨fun e => ⟨0, ?_⟩, ?_⟩) x)).trans ?_
  · funext b; apply Fin.ext
    match b with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => exact (Nat.lt_one_iff.mp (i 5).isLt).symm
  · rintro ⟨_, rfl⟩
    funext b; apply Fin.ext
    match b with
    | ⟨0, _⟩ => rfl
    | ⟨1, _⟩ => rfl
    | ⟨2, _⟩ => rfl
    | ⟨3, _⟩ => rfl
  · rw [Fintype.sum_unique, zero_add]

/-- A sum over the blocks and their queries. -/
theorem sum_tokens (x : FVec Ideal S1x32x4x3x128x1 .f32) :
    Host.reduceAdd x (constant S_ .f32 0x00000000#32) Gen.reducesTo_S1x32x4x3x128x1_S1x4x3x1_d1_4 Gen.h_S_ (ix4 0 h g 0)
      = ∑ n : Fin 32, ∑ a : Fin 128, (show EReal from x (ix6 0 n h g a 0)) := by
  show Ideal.hostReduceAdd Gen.reducesTo_S1x32x4x3x128x1_S1x4x3x1_d1_4 x _ _ = _
  unfold Ideal.hostReduceAdd
  refine (congrArg₂ (fun x y : EReal => x + y) Ideal.ofBits_zero_f32 (Finset.sum_filter_eq_sum_of_fiber _
    (fun k : Fin 32 × Fin 128 => (ix6 0 k.1 h g k.2 0 : S1x32x4x3x128x1.Idx)) (fun _ _ e => Prod.ext (congrFun e 1) (congrFun e 4))
    (fun i => ⟨fun e => ⟨(i 1, i 4), ?_⟩, ?_⟩) x)).trans ?_
  · funext b; apply Fin.ext
    match b with
    | ⟨0, _⟩ => exact (Nat.lt_one_iff.mp (i 0).isLt).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (Nat.lt_one_iff.mp (i 5).isLt).symm
  · rintro ⟨k, rfl⟩
    funext b; apply Fin.ext
    match b with
    | ⟨0, _⟩ => rfl
    | ⟨1, _⟩ => rfl
    | ⟨2, _⟩ => rfl
    | ⟨3, _⟩ => rfl
  · rw [zero_add]; exact Fintype.sum_prod_type _

/-- A sum over the unit axes around the heads. -/
theorem sum_heads (x : FVec Ideal S1x1x4x3x1x1 .f32) :
    Host.reduceAdd x (constant S_ .f32 0x00000000#32) Gen.reducesTo_S1x1x4x3x1x1_S4x3_d0_1_4_5 Gen.h_S_ (ix2 h g)
      = (show EReal from x (ix6 0 0 h g 0 0)) := by
  show Ideal.hostReduceAdd Gen.reducesTo_S1x1x4x3x1x1_S4x3_d0_1_4_5 x _ _ = _
  unfold Ideal.hostReduceAdd
  refine (congrArg₂ (fun x y : EReal => x + y) Ideal.ofBits_zero_f32 (Finset.sum_filter_eq_sum_of_fiber _
    (fun _ : Fin 1 => (ix6 0 0 h g 0 0 : S1x1x4x3x1x1.Idx)) (fun _ _ _ => Subsingleton.elim _ _) (fun i => ⟨fun e => ⟨0, ?_⟩, ?_⟩) x)).trans ?_
  · funext b; apply Fin.ext
    match b with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, by decide⟩)).symm
    | ⟨3, _⟩ => exact (congrArg Fin.val (congrFun e ⟨1, by decide⟩)).symm
    | ⟨4, _⟩ => exact (Nat.lt_one_iff.mp (i 4).isLt).symm
    | ⟨5, _⟩ => exact (Nat.lt_one_iff.mp (i 5).isLt).symm
  · rintro ⟨_, rfl⟩
    funext b; apply Fin.ext
    match b with
    | ⟨0, _⟩ => rfl
    | ⟨1, _⟩ => rfl
  · rw [Fintype.sum_unique, zero_add]

end Cert.ReferenceIdeal.Value

end
-- ==== Proof.RefOf.lean ====
/- The reference's operations on a row, of any arrays, at an index. -/
module

public import proofs.«01_k».proof.Proof.RefSums

@[expose] public section

set_option maxRecDepth 16384

noncomputable section

namespace Cert.ReferenceIdeal.Value

open Idealize.ShloMosaic Idealize.ShloMosaic.TcCoe Idealize.SL.Sem
open Cert.ReferenceIdeal

variable (n : Fin 32) (h : Fin 4) (g : Fin 3) (a : Fin 128) (j : Fin 256) (d : Fin 64)

theorem exp_of (X : FVec Ideal S1x32x4x3x128x256 .f32) (Y : FVec Ideal S1x32x4x3x128x1 .f32) :
    Host.exp (subf X (broadcastInDim S1x32x4x3x128x256 ![0, 1, 2, 3, 4, 5] Gen.bcast_S1x32x4x3x128x1_S1x32x4x3x128x256_0_1_2_3_4_5 Y))
      (ix6 0 n h g a j) = Ideal.exp ((show EReal from X (ix6 0 n h g a j)) - (show EReal from Y (ix6 0 n h g a 0))) := by
  pointwise

theorem exp_sink_of (X : FVec Ideal S1x1x4x3x1x1 .f32) (Y : FVec Ideal S1x32x4x3x128x1 .f32) :
    Host.exp (subf (broadcastInDim S1x32x4x3x128x1 ![0, 1, 2, 3, 4, 5] Gen.bcast_S1x1x4x3x1x1_S1x32x4x3x128x1_0_1_2_3_4_5 X) Y)
      (ix6 0 n h g a 0) = Ideal.exp ((show EReal from X (ix6 0 0 h g 0 0)) - (show EReal from Y (ix6 0 n h g a 0))) := by
  pointwise

theorem norm_of (X : FVec Ideal S1x32x4x3x128 .f32) (Y : FVec Ideal S1x32x4x3x128x1 .f32) :
    addf (broadcastInDim S1x32x4x3x128x1 ![0, 1, 2, 3, 4] Gen.bcast_S1x32x4x3x128_S1x32x4x3x128x1_0_1_2_3_4 X) Y (ix6 0 n h g a 0)
      = (show EReal from X (ix5 0 n h g a)) + (show EReal from Y (ix6 0 n h g a 0)) := by
  pointwise

theorem div_of (X : FVec Ideal S1x32x4x3x128x256 .f32) (Y : FVec Ideal S1x32x4x3x128x1 .f32) :
    Host.divf X (broadcastInDim S1x32x4x3x128x256 ![0, 1, 2, 3, 4, 5] Gen.bcast_S1x32x4x3x128x1_S1x32x4x3x128x256_0_1_2_3_4_5 Y)
      (ix6 0 n h g a j) = Ideal.div (X (ix6 0 n h g a j)) (Y (ix6 0 n h g a 0)) := by
  pointwise

theorem dp_of (X : FVec Ideal S1x32x4x64x3x128 .f32) (Y : FVec Ideal S1x32x256x4x64 .f32) :
    Host.dotGeneral dot_S1x32x4x64x3x128_S1x32x256x4x64_S1x32x4x3x128x256_3_4_45_2_012_013 none X Y (ix6 0 n h g a j)
      = ∑ d : Fin 64, (show EReal from X (ix6 0 n h d g a)) * (show EReal from Y (ix5 0 n j h d)) := by
  pointwise

theorem dz_of (X : FVec Ideal S1x32x4x3x128 .f32) :
    Host.negf (shapeCast S1x32x4x3x128x1 X Gen.shapeCasts_S1x32x4x3x128_S1x32x4x3x128x1) (ix6 0 n h g a 0) = -(show EReal from X (ix5 0 n h g a)) := by
  pointwise

theorem quot_of (X E : FVec Ideal S1x32x4x3x128x256 .f32) (Z : FVec Ideal S1x32x4x3x128x1 .f32) :
    mulf (mulf X (broadcastInDim S1x32x4x3x128x256 ![0, 1, 2, 3, 4, 5] Gen.bcast_S1x32x4x3x128x1_S1x32x4x3x128x256_0_1_2_3_4_5
        (Host.divf (broadcastInDim S1x32x4x3x128x1 ![] Gen.bcast_S_S1x32x4x3x128x1 (constant S_ .f32 0x3F800000#32)) (mulf Z Z)))) E
      (ix6 0 n h g a j)
      = (show EReal from X (ix6 0 n h g a j)) * Ideal.div 1 ((show EReal from Z (ix6 0 n h g a 0)) * (show EReal from Z (ix6 0 n h g a 0)))
        * (show EReal from E (ix6 0 n h g a j)) := by
  rw [← Ideal.ofBits_one_f32]
  pointwise

theorem ds_of (X E : FVec Ideal S1x32x4x3x128x256 .f32) (Z : FVec Ideal S1x32x4x3x128x1 .f32) (U : FVec Ideal S32x4x3x128 .f32) :
    mulf (addf (Host.divf X (broadcastInDim S1x32x4x3x128x256 ![0, 1, 2, 3, 4, 5] Gen.bcast_S1x32x4x3x128x1_S1x32x4x3x128x256_0_1_2_3_4_5 Z))
      (broadcastInDim S1x32x4x3x128x256 ![0, 1, 2, 3, 4] Gen.bcast_S1x32x4x3x128_S1x32x4x3x128x256_0_1_2_3_4
        (broadcastInDim S1x32x4x3x128 ![1, 2, 3, 4] Gen.bcast_S32x4x3x128_S1x32x4x3x128_1_2_3_4 U))) E (ix6 0 n h g a j)
      = (Ideal.div (X (ix6 0 n h g a j)) (Z (ix6 0 n h g a 0)) + (show EReal from U (ix4 n h g a))) * (show EReal from E (ix6 0 n h g a j)) := by
  pointwise

theorem dtop_of (A : FVec Ideal S1x32x4x3x128x1 .f32) (X : FVec Ideal S1x32x4x3x128 .f32) :
    addf (Host.negf A) (shapeCast S1x32x4x3x128x1 X Gen.shapeCasts_S1x32x4x3x128_S1x32x4x3x128x1) (ix6 0 n h g a 0)
      = -(show EReal from A (ix6 0 n h g a 0)) + (show EReal from X (ix5 0 n h g a)) := by
  pointwise

theorem dscore_of (M : IVec S1x32x4x3x128x256 1) (X T : FVec Ideal S1x32x4x3x128x256 .f32) (U : FVec Ideal S32x4x3x128 .f32)
    (W : FVec Ideal S1x32x4x3x128 .f32) :
    transpose S1x32x4x256x128x3 [0, 1, 2, 5, 4, 3] (mulf (select M (addf X (mulf (broadcastInDim S1x32x4x3x128x256 ![0, 1, 2, 3, 4]
      Gen.bcast_S1x32x4x3x128_S1x32x4x3x128x256_0_1_2_3_4 (Host.divf (broadcastInDim S1x32x4x3x128 ![1, 2, 3, 4]
      Gen.bcast_S32x4x3x128_S1x32x4x3x128_1_2_3_4 U) W)) T)) (broadcastInDim S1x32x4x3x128x256 ![] Gen.bcast_S_S1x32x4x3x128x256
      (constant S_ .f32 0x00000000#32))) (broadcastInDim S1x32x4x3x128x256 ![] Gen.bcast_S_S1x32x4x3x128x256 (constant S_ .f32 0x3E000000#32)))
      Gen.transposes_S1x32x4x3x128x256_S1x32x4x256x128x3_0_1_2_5_4_3 (ix6 0 n h j a g)
      = (Scalar.select (M (ix6 0 n h g a j)) ((show EReal from X (ix6 0 n h g a j)) + Ideal.div (U (ix4 n h g a)) (W (ix5 0 n h g a))
        * (show EReal from T (ix6 0 n h g a j))) (Ideal.ofBits .f32 0x00000000#32)) * Ideal.ofBits .f32 0x3E000000#32 := by
  pointwise

theorem dv_of (X : FVec Ideal S1x32x4x64x3x128 .f32) (P : FVec Ideal S1x32x4x3x128x256 .f32) :
    transpose S1x32x256x4x64 [0, 1, 4, 2, 3] (Host.dotGeneral dot_S1x32x4x64x3x128_S1x32x4x3x128x256_S1x32x4x64x256_45_34_3_5_012_012 none X P)
      Gen.transposes_S1x32x4x64x256_S1x32x256x4x64_0_1_4_2_3 (ix5 0 n j h d)
      = ∑ g : Fin 3, ∑ a : Fin 128, (show EReal from X (ix6 0 n h d g a)) * (show EReal from P (ix6 0 n h g a j)) := by
  pointwise

theorem dk_of (X : FVec Ideal S1x32x4x256x128x3 .f32) (Q : FVec Ideal S1x32x128x4x3x64 .f32) :
    transpose S1x32x256x4x64 [0, 1, 3, 2, 4] (Host.dotGeneral dot_S1x32x4x256x128x3_S1x32x128x4x3x64_S1x32x4x256x64_45_24_3_5_012_013 none X Q)
      Gen.transposes_S1x32x4x256x64_S1x32x256x4x64_0_1_3_2_4 (ix5 0 n j h d)
      = ∑ a : Fin 128, ∑ g : Fin 3, (show EReal from X (ix6 0 n h j a g)) * (show EReal from Q (ix6 0 n a h g d)) := by
  pointwise

end Cert.ReferenceIdeal.Value

end
-- ==== Proof.RefGrad.lean ====
/- The reference's probabilities, their derivative and the windows' gradients: the real ones of the attention's rows. -/
module

public import proofs.«01_k».proof.Proof.RefTop
public import proofs.«01_k».proof.Proof.RefOf

@[expose] public section

set_option maxRecDepth 16384

noncomputable section

namespace Cert.ReferenceIdeal.Value

open Idealize.ShloMosaic Idealize.ShloMosaic.TcCoe Idealize.SL.Sem
open Cert.ReferenceIdeal Cert.Attention

variable {V0 : Valuation τ sig (Elt Ideal)} {D : Data} (H : Holds V0 D)
variable (n : Fin 32) (h : Fin 4) (g : Fin 3) (a : Fin 128) (j : Fin 256) (d : Fin 64)

/-- A part of nothing is nothing, where an empty share has no takers. -/
theorem tie_zero {u w t : EReal} (hu : u = 0) (h : w = 0 → t = 0) : Ideal.div u w * t = 0 := by
  subst hu
  by_cases hw : w = 0
  · rw [h hw, mul_zero]
  · unfold Ideal.div; rw [if_neg hw, zero_mul, zero_mul]

theorem tie_nonneg (M : IVec S1x32x4x3x128x256 1) (i : S1x32x4x3x128x256.Idx) :
    (0 : EReal) ≤ (uitofp .f32 M : FVec Ideal S1x32x4x3x128x256 .f32) i := by
  show (0 : EReal) ≤ (((M i).toNat : ℝ) : EReal)
  exact_mod_cast Nat.zero_le _

/-- Where no score of a row is the greatest, none is marked so. -/
theorem tie_at (e : (Host.reduceAdd (res_main_v73 V0) (constant S_ .f32 0x00000000#32) Gen.reducesTo_S1x32x4x3x128x256_S1x32x4x3x128_d5
    Gen.h_S_ (ix5 0 n h g a) : Ideal .f32) = (0 : EReal)) :
    (res_main_v73 V0 : FVec Ideal S1x32x4x3x128x256 .f32) (ix6 0 n h g a j) = (0 : EReal) := by
  have e' := (sum_keys n h g a (res_main_v73 V0)).symm.trans e
  exact (Finset.sum_eq_zero_iff_of_nonneg fun j _ => tie_nonneg _ _).mp e' j (Finset.mem_univ j)

/-- A row that is zero, times anything, adds up to zero. -/
theorem unit_zero (A S : FVec Ideal S1x32x4x3x128x1 .f32) (hA : A (ix6 0 n h g a 0) = (0 : EReal)) :
    Host.reduceAdd (mulf A S) (constant S_ .f32 0x00000000#32) Gen.reducesTo_S1x32x4x3x128x1_S32x4x3x128_d0_5 Gen.h_S_ (ix4 n h g a)
      = (0 : EReal) := by
  refine (sum_unit n h g a (mulf A S)).trans ?_
  show (show EReal from A (ix6 0 n h g a 0)) * (show EReal from S (ix6 0 n h g a 0)) = 0
  rw [show (show EReal from A (ix6 0 n h g a 0)) = 0 from hA, zero_mul]

include H

/-- A row's exponentials and their sum, up to one positive factor. -/
theorem row_at : ∃ c : ℝ, 0 < c
    ∧ (∀ j : Fin 256, (res_main_v98 V0 : FVec Ideal S1x32x4x3x128x256 .f32) (ix6 0 n h g a j) = (((refRow D n h g a).e j * c : ℝ) : EReal))
    ∧ (res_main_v103 V0 : FVec Ideal S1x32x4x3x128x1 .f32) (ix6 0 n h g a 0) = ((Real.exp (refRow D n h g a).sink * c : ℝ) : EReal)
    ∧ (res_main_v104 V0 : FVec Ideal S1x32x4x3x128x1 .f32) (ix6 0 n h g a 0) = (((refRow D n h g a).z * c : ℝ) : EReal) := by
  obtain ⟨μ, hμ⟩ := shift_real H n h g a
  have he : ∀ j : Fin 256, (res_main_v98 V0 : FVec Ideal S1x32x4x3x128x256 .f32) (ix6 0 n h g a j)
      = (((refRow D n h g a).e j * Real.exp (-μ) : ℝ) : EReal) := fun j =>
    (exp_of n h g a j (res_main_v66_0 V0) (res_main_v77 V0)).trans
      ((congrArg₂ (fun x y : EReal => Ideal.exp (x - y)) (score_at H n h g a j) hμ).trans (Row.exp_masked _ μ j))
  have hs : (res_main_v103 V0 : FVec Ideal S1x32x4x3x128x1 .f32) (ix6 0 n h g a 0)
      = ((Real.exp (refRow D n h g a).sink * Real.exp (-μ) : ℝ) : EReal) :=
    (exp_sink_of n h g a (res_main_v68 V0) (res_main_v77 V0)).trans
      ((congrArg₂ (fun x y : EReal => Ideal.exp (x - y)) (sink_at H h g) hμ).trans (Row.exp_sink (refRow D n h g a) μ))
  refine ⟨Real.exp (-μ), Real.exp_pos _, he, hs, (norm_of n h g a _ (res_main_v103 V0)).trans ?_⟩
  exact (congrArg₂ (fun x y : EReal => x + y)
    ((sum_keys n h g a (res_main_v98 V0)).trans (Finset.sum_congr rfl fun j _ => he j)) hs).trans (Row.sum_exp _ _)

/-- The probabilities. -/
theorem p_at : (res_main_v106 V0 : FVec Ideal S1x32x4x3x128x256 .f32) (ix6 0 n h g a j) = ((D.row n h g a).p j : EReal) := by
  obtain ⟨c, hc, he, _, hz⟩ := row_at H n h g a
  refine (div_of n h g a j (res_main_v98 V0) (res_main_v104 V0)).trans ?_
  rw [← (agree D n h g a).p]
  exact (congrArg₂ Ideal.div (he j) hz).trans (Row.div_p _ hc j)

/-- The probabilities' gradient. -/
theorem dp_at : (res_main_v117 V0 : FVec Ideal S1x32x4x3x128x256 .f32) (ix6 0 n h g a j) = ((refRow D n h g a).dp j : EReal) := by
  refine (dp_of n h g a j (res_main_v116 V0) (res_main_v21 V0)).trans ?_
  refine Eq.trans (Finset.sum_congr rfl fun d _ => ?_) (coe_sum Finset.univ fun d : Fin 64 => D.g (n * 128 + a) (h * 192 + g * 64 + d) * keyAt D.v n h j d).symm
  rw [EReal.coe_mul]
  exact congrArg₂ (fun x y : EReal => x * y) (g_at H n h g a d) (v_at H n h j d)

/-- The scores' and the sink's gradients, and the shift's, which is zero. -/
theorem dscore_at : (∀ j : Fin 256, (res_main_v136 V0 : FVec Ideal S1x32x4x3x128x256 .f32) (ix6 0 n h g a j) = ((refRow D n h g a).ds j : EReal))
    ∧ (res_main_v128 V0 : FVec Ideal S1x32x4x3x128x1 .f32) (ix6 0 n h g a 0) = ((refRow D n h g a).dsink : EReal)
    ∧ (res_main_v140 V0 : FVec Ideal S1x32x4x3x128x1 .f32) (ix6 0 n h g a 0) = (0 : EReal) := by
  obtain ⟨c, hc, he, hs, hz⟩ := row_at H n h g a
  have hdz : (res_main_v125 V0 : FVec Ideal S1x32x4x3x128x1 .f32) (ix6 0 n h g a 0)
      = ((-((refRow D n h g a).mean / ((refRow D n h g a).z * c)) : ℝ) : EReal) := by
    refine (dz_of n h g a _).trans (Eq.trans ?_ (Row.dz (refRow D n h g a) hc))
    refine congrArg (fun x : EReal => -x) ((sum_keys n h g a _).trans (Finset.sum_congr rfl fun j _ => ?_))
    refine (quot_of n h g a j (res_main_v117 V0) (res_main_v98 V0) (res_main_v104 V0)).trans ?_
    exact congrArg₂ (fun x y : EReal => x * y) (congrArg₂ (fun x y : EReal => x * Ideal.div 1 (y * y)) (dp_at H n h g a j) hz) (he j)
  have hds : ∀ j : Fin 256, (res_main_v136 V0 : FVec Ideal S1x32x4x3x128x256 .f32) (ix6 0 n h g a j) = ((refRow D n h g a).ds j : EReal) := by
    intro j
    refine (ds_of n h g a j (res_main_v117 V0) (res_main_v98 V0) (res_main_v104 V0) _).trans (Eq.trans ?_ (Row.dz_ds (refRow D n h g a) hc j))
    exact congrArg₂ (fun x y : EReal => x * y) (congrArg₂ (fun x y : EReal => x + y) (congrArg₂ Ideal.div (dp_at H n h g a j) hz)
      ((sum_unit n h g a (res_main_v125 V0)).trans hdz)) (he j)
  have hsink : (res_main_v128 V0 : FVec Ideal S1x32x4x3x128x1 .f32) (ix6 0 n h g a 0) = ((refRow D n h g a).dsink : EReal) :=
    Eq.trans (congrArg₂ (fun x y : EReal => x * y) hdz hs) (Row.dz_sink (refRow D n h g a) hc)
  refine ⟨hds, hsink, (dtop_of n h g a (res_main_v128 V0) _).trans (Eq.trans ?_ (Row.dtop (refRow D n h g a)))⟩
  refine congrArg₂ (fun x y : EReal => -x + y) hsink ((sum_keys n h g a _).trans (Finset.sum_congr rfl fun j _ => ?_))
  exact congrArg (fun x : EReal => -x) (hds j)

/-- The scores' gradient as the products take it, scaled: zero where the query does not see the key. -/
theorem dscaled_at : (res_main_v157 V0 : FVec Ideal S1x32x4x256x128x3 .f32) (ix6 0 n h j a g)
    = (((D.row n h g a).ds j * D.scale : ℝ) : EReal) := by
  obtain ⟨hds, _, h0⟩ := dscore_at H n h g a
  refine (dscore_of n h g a j (res_main_v66_1 V0) (res_main_v136 V0) (res_main_v73 V0) _ _).trans ?_
  rw [EReal.coe_mul]
  refine congrArg₂ (fun x y : EReal => x * y) ((Scalar.select_def _ _ _).trans ?_) H.scale
  by_cases hs : (D.row n h g a).seen j
  · refine (if_pos ((seen_at (D := D) (V0 := V0) n h g a j).mpr hs)).trans ?_
    rw [← (agree D n h g a).ds]
    refine (congrArg₂ (fun x y : EReal => x + y) (hds j) ?_).trans (add_zero _)
    exact tie_zero (unit_zero n h g a (res_main_v140 V0) _ h0) (tie_at n h g a j)
  · refine (if_neg fun e => hs ((seen_at (D := D) (V0 := V0) n h g a j).mp e)).trans ?_
    rw [Row.ds_unseen _ hs, EReal.coe_zero]
    exact Ideal.ofBits_zero_f32

/-- A block's part of its values' gradient. -/
theorem dv_at : (res_main_v119 V0 : FVec Ideal S1x32x256x4x64 .f32) (ix5 0 n j h d) = (D.dvOf n j h d : EReal) := by
  refine (dv_of n h j d (res_main_v116 V0) (res_main_v106 V0)).trans ?_
  unfold Data.dvOf
  simp only [coe_sum]
  refine Finset.sum_congr rfl fun g _ => Finset.sum_congr rfl fun a _ => ?_
  rw [EReal.coe_mul, mul_comm (((D.row n h g a).p j : ℝ) : EReal)]
  exact congrArg₂ (fun x y : EReal => x * y) (g_at H n h g a d) (p_at H n h g a j)

/-- A block's part of its keys' gradient. -/
theorem dk_at : (res_main_v161 V0 : FVec Ideal S1x32x256x4x64 .f32) (ix5 0 n j h d) = (D.dkOf n j h d : EReal) := by
  refine (dk_of n h j d (res_main_v157 V0) (res_main_v9 V0)).trans ?_
  unfold Data.dkOf
  rw [Finset.sum_comm, Finset.sum_mul]
  simp only [Finset.sum_mul, coe_sum]
  refine Finset.sum_congr rfl fun g _ => Finset.sum_congr rfl fun a _ => ?_
  rw [show ∀ x y z : ℝ, x * y * z = (x * z) * y by intros; ring, EReal.coe_mul]
  exact congrArg₂ (fun x y : EReal => x * y) (dscaled_at H n h g a j) (q_at H n h g a d)

end Cert.ReferenceIdeal.Value

end
-- ==== Proof.RefOut.lean ====
/- The reference's four results at an index: the attention's gradients. -/
module

public import proofs.«01_k».proof.Proof.RefGrad

@[expose] public section

set_option maxRecDepth 16384

noncomputable section

namespace Cert.ReferenceIdeal.Value

open Idealize.ShloMosaic Idealize.ShloMosaic.TcCoe Idealize.SL.Sem
open Cert.ReferenceIdeal Cert.Attention

theorem dq_of (X : FVec Ideal S1x32x4x256x128x3 .f32) (K : FVec Ideal S1x32x256x4x64 .f32) (Y : FVec Ideal S4096x1024 .f32)
    (i : Fin 4096) (c : Fin 1024) :
    concatenate S4096x1024 1 [⟨S4096x768, (shapeCast _ (shapeCast _ (transpose S1x32x128x4x3x64 [0, 1, 3, 2, 4, 5]
      (Host.dotGeneral dot_S1x32x4x256x128x3_S1x32x256x4x64_S1x32x4x128x3x64_3_2_45_4_012_013 none X K)
      Gen.transposes_S1x32x4x128x3x64_S1x32x128x4x3x64_0_1_3_2_4_5) Gen.shapeCasts_S1x32x128x4x3x64_S1x4096x12x64)
      Gen.shapeCasts_S1x4096x12x64_S4096x768)⟩,
      ⟨S4096x256, (extractStridedSlice S4096x256 ![0, 768] Y Gen.slices_S4096x1024_S4096x256_0_768)⟩]
      Gen.concatenates_S4096x768_S4096x256_S4096x1024_d1 (ix2 i c)
    = if h : c.val < 768 then
        ∑ x : Fin 256, (show EReal from X (ix6 0 ⟨i.val / 128, by omega⟩ ⟨c.val / 192, by omega⟩ x ⟨i.val % 128, by omega⟩ ⟨c.val / 64 % 3, by omega⟩))
          * (show EReal from K (ix5 0 ⟨i.val / 128, by omega⟩ x ⟨c.val / 192, by omega⟩ ⟨c.val % 64, by omega⟩))
      else (show EReal from Y (ix2 i c)) := by
  pointwise
  split
  · rfl
  · rename_i h
    refine congrArg Y (congrArg (ix2 i) (Fin.ext ?_))
    show 768 + (c.val - 768) = c.val
    omega

theorem both_of (A : FVec Ideal S1x32x256x4x64 .f32) (B : FVec Ideal S1x32x128x4x64 .f32) (i : Fin 4096) (c : Fin 256) :
    shapeCast S4096x256 (shapeCast _ (addf (extractStridedSlice S1x32x128x4x64 ![0, 0, 128, 0, 0] A Gen.slices_S1x32x256x4x64_S1x32x128x4x64_0_0_128_0_0)
      (pad S1x32x128x4x64 ![0, 0, 0, 0, 0] ![0, 1, 0, 0, 0] ![0, 0, 0, 0, 0]
        (extractStridedSlice S1x31x128x4x64 ![0, 1, 0, 0, 0] B Gen.slices_S1x32x128x4x64_S1x31x128x4x64_0_1_0_0_0) (constant S_ .f32 0x00000000#32)
        Gen.pads_S1x31x128x4x64_S1x32x128x4x64_000_010_000_000_000 Gen.h_S_)) Gen.shapeCasts_S1x32x128x4x64_S1x4096x4x64)
      Gen.shapeCasts_S1x4096x4x64_S4096x256 (ix2 i c)
    = (show EReal from A (ix5 0 ⟨i.val / 128, by omega⟩ ⟨128 + i.val % 128, by omega⟩ ⟨c.val / 64, by omega⟩ ⟨c.val % 64, by omega⟩))
      + if h : i.val / 128 < 31 ∧ i.val % 128 < 128 ∧ c.val / 64 < 4 ∧ c.val % 64 < 64 then
          (show EReal from B (ix5 0 ⟨1 + i.val / 128, by omega⟩ ⟨i.val % 128, by omega⟩ ⟨c.val / 64, by omega⟩ ⟨c.val % 64, by omega⟩))
        else 0 := by
  pointwise

theorem part_of (A : FVec Ideal S1x32x256x4x64 .f32) (n : Fin 32) (b : Fin 128) (h : Fin 4) (d : Fin 64) :
    extractStridedSlice S1x32x128x4x64 ![0, 0, 0, 0, 0] A Gen.slices_S1x32x256x4x64_S1x32x128x4x64_0_0_0_0_0 (ix5 0 n b h d)
      = A (ix5 0 n ⟨b.val, by omega⟩ h d) := by
  pointwise

/-- The sum over the two blocks that see a key, at a token and a column. -/
theorem both_at {f : ℕ → Fin 256 → ℕ → ℕ → ℝ} {A : FVec Ideal S1x32x256x4x64 .f32}
    (hA : ∀ (n : Fin 32) (j : Fin 256) (h : Fin 4) (d : Fin 64), A (ix5 0 n j h d) = (f n j h d : EReal)) (i : Fin 4096) (c : Fin 256) :
    shapeCast S4096x256 (shapeCast _ (addf (extractStridedSlice S1x32x128x4x64 ![0, 0, 128, 0, 0] A Gen.slices_S1x32x256x4x64_S1x32x128x4x64_0_0_128_0_0)
      (pad S1x32x128x4x64 ![0, 0, 0, 0, 0] ![0, 1, 0, 0, 0] ![0, 0, 0, 0, 0]
        (extractStridedSlice S1x31x128x4x64 ![0, 1, 0, 0, 0]
          (extractStridedSlice S1x32x128x4x64 ![0, 0, 0, 0, 0] A Gen.slices_S1x32x256x4x64_S1x32x128x4x64_0_0_0_0_0)
          Gen.slices_S1x32x128x4x64_S1x31x128x4x64_0_1_0_0_0) (constant S_ .f32 0x00000000#32)
        Gen.pads_S1x31x128x4x64_S1x32x128x4x64_000_010_000_000_000 Gen.h_S_)) Gen.shapeCasts_S1x32x128x4x64_S1x4096x4x64)
      Gen.shapeCasts_S1x4096x4x64_S4096x256 (ix2 i c)
    = ((Data.both f (i / 128) ⟨i % 128, by omega⟩ (c / 64) (c % 64) : ℝ) : EReal) := by
  refine (both_of A _ i c).trans ?_
  unfold Data.both
  rw [EReal.coe_add]
  refine congrArg₂ (fun x y : EReal => x + y) (hA _ _ _ _) ?_
  split
  · rename_i e
    rw [if_pos (by omega)]
    refine (part_of A _ _ _ _).trans ((hA _ _ _ _).trans ?_)
    show ((f (1 + i.val / 128) _ _ _ : ℝ) : EReal) = _
    rw [add_comm]
  · rename_i e
    rw [if_neg (by omega), EReal.coe_zero]

/-- The queries' gradient; past the attention's columns, the array it is written over. -/
theorem dq_at {D : Data} {X : FVec Ideal S1x32x4x256x128x3 .f32} {K : FVec Ideal S1x32x256x4x64 .f32} (Y : FVec Ideal S4096x1024 .f32)
    (hX : ∀ (n : Fin 32) (h : Fin 4) (g : Fin 3) (a : Fin 128) (j : Fin 256), X (ix6 0 n h j a g) = (((D.row n h g a).ds j * D.scale : ℝ) : EReal))
    (hK : ∀ (n : Fin 32) (h : Fin 4) (j : Fin 256) (d : Fin 64), K (ix5 0 n j h d) = (keyAt D.k n h j d : EReal))
    (i : Fin 4096) (c : Fin 1024) :
    concatenate S4096x1024 1 [⟨S4096x768, (shapeCast _ (shapeCast _ (transpose S1x32x128x4x3x64 [0, 1, 3, 2, 4, 5]
      (Host.dotGeneral dot_S1x32x4x256x128x3_S1x32x256x4x64_S1x32x4x128x3x64_3_2_45_4_012_013 none X K)
      Gen.transposes_S1x32x4x128x3x64_S1x32x128x4x3x64_0_1_3_2_4_5) Gen.shapeCasts_S1x32x128x4x3x64_S1x4096x12x64)
      Gen.shapeCasts_S1x4096x12x64_S4096x768)⟩,
      ⟨S4096x256, (extractStridedSlice S4096x256 ![0, 768] Y Gen.slices_S4096x1024_S4096x256_0_768)⟩]
      Gen.concatenates_S4096x768_S4096x256_S4096x1024_d1 (ix2 i c)
    = if c.val < 768 then ((D.dq (i / 128) (c / 192) (c / 64 % 3) (i % 128) (c % 64) : ℝ) : EReal) else (show EReal from Y (ix2 i c)) := by
  refine (dq_of X K Y i c).trans ?_
  split
  · rename_i e
    unfold Data.dq
    rw [Finset.sum_mul, coe_sum]
    refine Finset.sum_congr rfl fun j _ => ?_
    refine (congrArg₂ (fun x y : EReal => x * y) (hX _ _ _ _ j) (hK _ _ j _)).trans ?_
    rw [← EReal.coe_mul]
    refine congrArg (fun x : ℝ => (x : EReal)) ?_
    by_cases hs : (D.row (i / 128) (c / 192) (c / 64 % 3) (i % 128)).seen j
    · rw [keyAt_seen (D := D) ⟨i.val / 128, by omega⟩ ⟨c.val / 192, by omega⟩ ⟨c.val / 64 % 3, by omega⟩ ⟨i.val % 128, by omega⟩ j _ D.k hs]
      show _ * D.scale * _ = _ * _ * D.scale
      ring
    · rw [Row.ds_unseen _ hs, zero_mul, zero_mul, zero_mul, zero_mul]
  · rfl

variable {V0 : Valuation τ sig (Elt Ideal)} {D : Data} (H : Holds V0 D)
include H

omit H in
theorem sink_of (A B : FVec Ideal S1x4x3x1 .f32) (l : Fin 128) :
    shapeCast S1x128 (pad S128 ![0] ![116] ![0] (shapeCast _ (Host.reduceAdd (addf (shapeCast _ A Gen.shapeCasts_S1x4x3x1_S1x1x4x3x1x1)
      (shapeCast _ B Gen.shapeCasts_S1x4x3x1_S1x1x4x3x1x1)) (constant S_ .f32 0x00000000#32) Gen.reducesTo_S1x1x4x3x1x1_S4x3_d0_1_4_5 Gen.h_S_)
      Gen.shapeCasts_S4x3_S12) (sitofp .f32 (constantI S_ 32 0#32)) Gen.pads_S12_S128_01160 Gen.h_S_) Gen.shapeCasts_S128_S1x128 (ix2 0 l)
    = if h : l.val < 12 then (show EReal from A (ix4 0 ⟨l.val / 3, by omega⟩ ⟨l.val % 3, by omega⟩ 0))
        + (show EReal from B (ix4 0 ⟨l.val / 3, by omega⟩ ⟨l.val % 3, by omega⟩ 0)) else 0 := by
  have e : ∀ (C : FVec Ideal S4x3 .f32),
      shapeCast S1x128 (pad S128 ![0] ![116] ![0] (shapeCast _ C Gen.shapeCasts_S4x3_S12) (sitofp .f32 (constantI S_ 32 0#32))
        Gen.pads_S12_S128_01160 Gen.h_S_) Gen.shapeCasts_S128_S1x128 (ix2 0 l)
      = if h : l.val < 12 then (show EReal from C (ix2 ⟨l.val / 3, by omega⟩ ⟨l.val % 3, by omega⟩)) else FloatOps.sitofp (F := Ideal) FTy.f32 0#32 := by
    intro C; pointwise
  refine (e _).trans ?_
  split
  · refine (sum_heads _ _ _).trans ?_
    pointwise
  · show ((((0#32 : BitVec 32).toInt : ℝ)) : EReal) = 0
    simp

/-- The sinks' gradient, one lane a query head. -/
theorem dsink_at (B : FVec Ideal S1x32x4x3x128x1 .f32) (l : Fin 128) :
    shapeCast S1x128 (pad S128 ![0] ![116] ![0] (shapeCast _ (Host.reduceAdd (addf (shapeCast _ (Host.reduceAdd (res_main_v128 V0)
      (constant S_ .f32 0x00000000#32) Gen.reducesTo_S1x32x4x3x128x1_S1x4x3x1_d1_4 Gen.h_S_) Gen.shapeCasts_S1x4x3x1_S1x1x4x3x1x1)
      (shapeCast _ (Host.reduceAdd (mulf (res_main_v140 V0) B)
      (constant S_ .f32 0x00000000#32) Gen.reducesTo_S1x32x4x3x128x1_S1x4x3x1_d1_4 Gen.h_S_) Gen.shapeCasts_S1x4x3x1_S1x1x4x3x1x1))
      (constant S_ .f32 0x00000000#32) Gen.reducesTo_S1x1x4x3x1x1_S4x3_d0_1_4_5 Gen.h_S_)
      Gen.shapeCasts_S4x3_S12) (sitofp .f32 (constantI S_ 32 0#32)) Gen.pads_S12_S128_01160 Gen.h_S_) Gen.shapeCasts_S128_S1x128 (ix2 0 l)
    = if l.val < 12 then ((D.dsink (l / 3) (l % 3) : ℝ) : EReal) else 0 := by
  refine (sink_of _ _ l).trans ?_
  split
  · rename_i e
    refine (congrArg₂ (fun x y : EReal => x + y) (sum_tokens _ _ (res_main_v128 V0)) (sum_tokens _ _ _)).trans ?_
    unfold Data.dsink
    simp only [coe_sum]
    refine Eq.trans (congrArg₂ (fun x y : EReal => x + y) ?_ ?_) (add_zero _)
    · refine Finset.sum_congr rfl fun n _ => Finset.sum_congr rfl fun a _ => ?_
      rw [← (agree D n ⟨l.val / 3, by omega⟩ ⟨l.val % 3, by omega⟩ a).dsink]
      exact (dscore_at H n ⟨l.val / 3, by omega⟩ ⟨l.val % 3, by omega⟩ a).2.1
    · refine Finset.sum_eq_zero fun n _ => Finset.sum_eq_zero fun a _ => ?_
      have h0 := (dscore_at H n ⟨l.val / 3, by omega⟩ ⟨l.val % 3, by omega⟩ a).2.2
      show (show EReal from (res_main_v140 V0 : FVec Ideal S1x32x4x3x128x1 .f32) (ix6 0 n ⟨l.val / 3, by omega⟩ ⟨l.val % 3, by omega⟩ a 0))
        * (show EReal from B (ix6 0 n ⟨l.val / 3, by omega⟩ ⟨l.val % 3, by omega⟩ a 0)) = 0
      exact (congrArg (fun x : EReal => x * (show EReal from B (ix6 0 n ⟨l.val / 3, by omega⟩ ⟨l.val % 3, by omega⟩ a 0))) h0).trans (zero_mul _)
  · rfl

end Cert.ReferenceIdeal.Value

end
-- ==== Proof.Agree.lean ====
/- The kernel's results are the reference's: both are the attention's gradient over the reals, entry by entry. -/
module

public import proofs.«01_k».proof.Proof.Ext
public import proofs.«01_k».proof.Proof.Finite
public import proofs.«01_k».proof.Proof.RefOut
public import proofs.«01_k».proof.Proof.Launch
public import proofs.«01_k».proof.Proof.Gen.KernelIdeal.Frame

@[expose] public section

noncomputable section

namespace Cert.Proof

open Idealize.ShloMosaic Idealize.ShloMosaic.TcCoe Idealize.SL.Sem Cert.Attention Cert.KernelIdeal.Swa

variable (m : (ℓ : Loc Cert.KernelIdeal.nD Cert.KernelIdeal.τ Cert.KernelIdeal.sig) → Buf (Elt Ideal) ℓ)

/-- The kernel ends with its four results at what its last point leaves, and its arguments as launched. -/
theorem kernel_ends (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        (r.2.mem ((c : Thread Cert.KernelIdeal.nD Cert.KernelIdeal.τ).loc Cert.KernelIdeal.main_v0_0) = (dats m 0 c).arrAt 7 Cert.KernelIdeal.cfg0.N
        ∧ r.2.mem ((c : Thread Cert.KernelIdeal.nD Cert.KernelIdeal.τ).loc Cert.KernelIdeal.main_v0_1) = (dats m 0 c).arrAt 8 Cert.KernelIdeal.cfg0.N
        ∧ r.2.mem ((c : Thread Cert.KernelIdeal.nD Cert.KernelIdeal.τ).loc Cert.KernelIdeal.main_v0_2) = (dats m 0 c).arrAt 9 Cert.KernelIdeal.cfg0.N
        ∧ r.2.mem ((c : Thread Cert.KernelIdeal.nD Cert.KernelIdeal.τ).loc Cert.KernelIdeal.main_v0_3) = (dats m 0 c).arrAt 10 Cert.KernelIdeal.cfg0.N)) :=
  (θ_run Cert.KernelIdeal.defs _ _).mono (fun _ h c => ⟨(h c).1 7, (h c).1 8, (h c).1 9, (h c).1 10⟩) (run_main m g)

open Cert.ReferenceIdeal in
/-- The reference ends with the kernel's results. -/
theorem reference_ends (m' : (ℓ : Loc nD τ sig) → Buf (Elt Ideal) ℓ) (g' : Dev nD → PrngReg)
    (D : Dev nD → Data) (A : ∀ c, Args m c (D c)) (S : ∀ c, Slopes (D c)) (H : ∀ c, Cert.ReferenceIdeal.Value.Holds (StableHlo.launchContents m' c) (D c))
    (e5 : ∀ c : Dev nD, m' ((c.tc : Thread nD τ).loc main_arg5)
      = m ((c.tc : Thread Cert.KernelIdeal.nD Cert.KernelIdeal.τ).loc Cert.KernelIdeal.main_arg5)) :
    θ_run (defs (F := Ideal)) (onTc (τ := τ) (main (F := Ideal))) ⟨m', fun _ => 0, g'⟩ (fun r => ∀ c : Dev nD,
        r.2.mem ((c.tc : Thread nD τ).loc main_v179) = (dats m 0 c).arrAt 7 Cert.KernelIdeal.cfg0.N
        ∧ r.2.mem ((c.tc : Thread nD τ).loc main_v180) = (dats m 0 c).arrAt 8 Cert.KernelIdeal.cfg0.N
        ∧ r.2.mem ((c.tc : Thread nD τ).loc main_v181) = (dats m 0 c).arrAt 9 Cert.KernelIdeal.cfg0.N
        ∧ r.2.mem ((c.tc : Thread nD τ).loc main_v183) = (dats m 0 c).arrAt 10 Cert.KernelIdeal.cfg0.N
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)) := by
  refine (θ_run defs _ _).mono (fun r h c => ?_) (Cert.ReferenceIdeal.Value.run (F := Ideal) m' g')
  obtain ⟨h0, h1, h2, h3, hr⟩ := h c
  refine ⟨h0.trans ?_, h1.trans ?_, h2.trans ?_, h3.trans ?_, hr⟩
  · refine matrix_ext (r := 4096) (c := 1024) fun i l => ?_
    refine (Cert.ReferenceIdeal.Value.dq_at (D := D c) _ (fun n h g a j => Cert.ReferenceIdeal.Value.dscaled_at (H c) n h g a j)
      (fun n h j d => Cert.ReferenceIdeal.Value.k_at (H c) n h j d) i l).trans ?_
    exact (ite_congr rfl (fun _ => rfl) (fun _ => congrFun (e5 c) (ix2 i l))).trans (dq_array (A c) (S c) i l).symm
  · exact matrix_ext (r := 4096) (c := 256) fun i l =>
      (Cert.ReferenceIdeal.Value.both_at (fun n j h d => Cert.ReferenceIdeal.Value.dk_at (H c) n h j d) i l).trans (dk_array (A c) (S c) i l).symm
  · exact matrix_ext (r := 4096) (c := 256) fun i l =>
      (Cert.ReferenceIdeal.Value.both_at (fun n j h d => Cert.ReferenceIdeal.Value.dv_at (H c) n h j d) i l).trans (dv_array (A c) (S c) i l).symm
  · refine matrix_ext (r := 1) (c := 128) fun i l => ?_
    obtain rfl : i = 0 := Subsingleton.elim _ _
    refine (Cert.ReferenceIdeal.Value.dsink_at (H c) _ l).trans (Eq.trans ?_ (dsink_array (A c) (S c) l).symm)
    by_cases e : l.val < 12
    · rw [if_pos e, if_pos e]
    · rw [if_neg e, if_neg e]; rfl

end Cert.Proof

end
-- ==== Proof.lean ====
/- The claims of the calls, the sliding-window attention's gradient and the products of the MLP and the projections: their frames,
   that each idealization is the kernel's, and that it computes the reference's results. -/
module

public import proofs.«01_k».proof.Proof.DownDx
public import proofs.«01_k».proof.Proof.DownGrad
public import proofs.«01_k».proof.Proof.UpGrad
public import proofs.«01_k».proof.Proof.OutDx
public import proofs.«01_k».proof.Proof.OutGrad
public import proofs.«01_k».proof.Proof.Down
public import proofs.«01_k».proof.Proof.OutProj
public import proofs.«01_k».proof.Proof.InProj
public import proofs.«01_k».proof.Proof.UpDx
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Kernel.Skeleton
public import proofs.«01_k».proof.Proof.Bits.Launch
public import proofs.«01_k».proof.Proof.Launch
public import proofs.«01_k».proof.Proof.Agree
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run

@[expose] public section

noncomputable section

namespace Cert.Proof

open Idealize.ShloMosaic Idealize.SL.Sem Cert.Kernel

/-- The kernel's frame, in the machine's arithmetic. -/
theorem frame_kernel : Cert.quiescent_Kernel (hKernel := Cert.Kernel.Gen.facts) := fun m ρ _ =>
  θ_run_and (Cert.Kernel.Gen.frame_of m ρ (Cert.Kernel.Swa.dats m) (Cert.Kernel.Swa.A_eq m) (Cert.Kernel.Swa.run_main m ρ))
    ((θ_run _ _ _).mono (fun _ h => h.2) (Cert.Kernel.Swa.run_quiescent m ρ))

/-- The kernel's frame, in ideal arithmetic. -/
theorem frame_kernelIdeal : Cert.quiescent_KernelIdeal (hKernelIdeal := Cert.KernelIdeal.Gen.facts) := fun m ρ _ =>
  θ_run_and (Cert.KernelIdeal.Gen.frame_of m ρ (Cert.KernelIdeal.Swa.dats m) (Cert.KernelIdeal.Swa.A_eq m) (Cert.KernelIdeal.Swa.run_main m ρ))
    ((θ_run _ _ _).mono (fun _ h => h.2) (Cert.KernelIdeal.Swa.run_quiescent m ρ))

/-- The reference's frame. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The idealization differs from the kernel in the mask's name alone. -/
theorem preserves : Cert.preserves_Kernel_KernelIdeal :=
  IdealRules.named_const.statement Cert.KernelIdeal.κ "mask" .f32 0xFF61B1E6#32 ⊥ rfl

/-- Where the attention's arguments are real, the idealized kernel and the reference end with the same gradients. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre e
  haveI := Cert.Pre_finite.facts
  have R := fun c => Cert.Pre_finite.reals_of (hpre c)
  refine ⟨fun c => (Cert.KernelIdeal.Swa.dats m 0 c).arrAt 7 Cert.KernelIdeal.cfg0.N, fun c => (Cert.KernelIdeal.Swa.dats m 0 c).arrAt 8 Cert.KernelIdeal.cfg0.N,
    fun c => (Cert.KernelIdeal.Swa.dats m 0 c).arrAt 9 Cert.KernelIdeal.cfg0.N, fun c => (Cert.KernelIdeal.Swa.dats m 0 c).arrAt 10 Cert.KernelIdeal.cfg0.N, ?_, ?_⟩
  · refine (θ_run Cert.KernelIdeal.defs _ _).mono (fun r h c => ?_) (θ_run_and (kernel_ends m g)
      (Cert.KernelIdeal.Gen.frame_of m g (Cert.KernelIdeal.Swa.dats m) (Cert.KernelIdeal.Swa.A_eq m) (Cert.KernelIdeal.Swa.run_main m g)))
    exact ⟨(h.1 c).1, (h.1 c).2.1, (h.1 c).2.2.1, (h.1 c).2.2.2, h.2 c⟩
  · exact reference_ends m m' g' _ (fun c => Cert.Pre_finite.args m c rfl rfl rfl rfl rfl (R c)) (fun c => Cert.Pre_finite.slopes _ _ _ _ _)
      (fun c => Cert.Pre_finite.holds _ (e c).1 (e c).2.1 (e c).2.2.1 (e c).2.2.2.1 (e c).2.2.2.2.1 (R c)) fun c => (e c).2.2.2.2.2

/-- The frame of the reference of the hidden pre-activation's gradient. -/
theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of the reference of the second weights' gradient. -/
theorem frame_reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the reference of the first weights' gradient. -/
theorem frame_reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of the reference of the attention outputs' gradient. -/
theorem frame_reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of the reference of the output weights' gradient. -/
theorem frame_reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The frame of the reference of the MLP's second product. -/
theorem frame_reference7Ideal : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frame of the reference of the output projection. -/
theorem frame_reference8Ideal : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The frame of the reference of the input projection. -/
theorem frame_reference9Ideal : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The frame of the reference of the MLP's input gradient. -/
theorem frame_reference10Ideal : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_finite.facts,
  frame_kernel, frame_kernelIdeal, fun m ρ _ => frame_kernelIdeal m ρ trivial, frame_referenceIdeal, fun m ρ _ => frame_referenceIdeal m ρ trivial,
  fun m ρ _ => Cert.Kernel2.Gen.frame m ρ, fun m ρ _ => Cert.Kernel2Ideal.Gen.frame m ρ, frame_reference2Ideal,
  fun m ρ _ => Cert.Kernel3.Gen.frame m ρ, fun m ρ _ => Cert.Kernel3Ideal.Gen.frame m ρ, frame_reference3Ideal,
  fun m ρ _ => Cert.Kernel4.Gen.frame m ρ, fun m ρ _ => Cert.Kernel4Ideal.Gen.frame m ρ, frame_reference4Ideal,
  fun m ρ _ => Cert.Kernel5.Gen.frame m ρ, fun m ρ _ => Cert.Kernel5Ideal.Gen.frame m ρ, frame_reference5Ideal,
  fun m ρ _ => Cert.Kernel6.Gen.frame m ρ, fun m ρ _ => Cert.Kernel6Ideal.Gen.frame m ρ, frame_reference6Ideal,
  fun m ρ _ => Cert.Kernel7.Gen.frame m ρ, fun m ρ _ => Cert.Kernel7Ideal.Gen.frame m ρ, frame_reference7Ideal,
  fun m ρ _ => Cert.Kernel8.Gen.frame m ρ, fun m ρ _ => Cert.Kernel8Ideal.Gen.frame m ρ, frame_reference8Ideal,
  fun m ρ _ => Cert.Kernel9.Gen.frame m ρ, fun m ρ _ => Cert.Kernel9Ideal.Gen.frame m ρ, frame_reference9Ideal,
  fun m ρ _ => Cert.Kernel10.Gen.frame m ρ, fun m ρ _ => Cert.Kernel10Ideal.Gen.frame m ρ, frame_reference10Ideal,
  preserves, algebraic, trivial, down_dx, trivial, down_grad, trivial, up_grad,
  trivial, out_dx,
  trivial, out_grad,
  trivial, down,
  trivial, out_proj,
  trivial, in_proj,
  trivial, up_dx⟩

end Cert.Proof

end
